-- ==== Defs.lean ====
def Pre_Kernel [hPre_partition : Cert.Pre_partition.Facts] (m : (ℓ : Loc Cert.Kernel.nD Cert.Kernel.τ Cert.Kernel.sig) → Buf (Elt Bits) ℓ) : Prop :=
  ∀ c : Dev Cert.Kernel.nD,
    (Cert.Pre_partition.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_partition : Cert.Pre_partition.Facts] (m : (ℓ : Loc Cert.KernelIdeal.nD Cert.KernelIdeal.τ Cert.KernelIdeal.sig) → Buf (Elt Ideal) ℓ) : Prop :=
  ∀ c : Dev Cert.KernelIdeal.nD,
    (Cert.Pre_partition.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_partition [hPre_partition : Cert.Pre_partition.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_partition.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_partition : Cert.Pre_partition.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_partition : Cert.Pre_partition.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_partition [hReferenceIdeal : Cert.ReferenceIdeal.Facts] [hPre_partition : Cert.Pre_partition.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_partition m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_partition : Cert.Pre_partition.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_partition : Cert.Pre_partition.Facts),
    quiescent_Kernel (hKernel := hKernel) (hPre_partition := hPre_partition)
    ∧ quiescent_KernelIdeal (hKernelIdeal := hKernelIdeal) (hPre_partition := hPre_partition)
    ∧ quiescent_ReferenceIdeal (hReferenceIdeal := hReferenceIdeal)
    ∧ quiescent_ReferenceIdeal_pre_partition (hReferenceIdeal := hReferenceIdeal) (hPre_partition := hPre_partition)
    ∧ preserves_Kernel_KernelIdeal
    ∧ algebraic_KernelIdeal_ReferenceIdeal (hKernelIdeal := hKernelIdeal) (hReferenceIdeal := hReferenceIdeal) (hPre_partition := hPre_partition)
-- ==== Pre_partition.lean ====
abbrev S4x192x224x224 : Shape := ⟨4, ![4, 192, 224, 224]⟩
abbrev S24x8 : Shape := ⟨2, ![24, 8]⟩
abbrev S192 : Shape := ⟨1, ![192]⟩
abbrev S_ : Shape := ⟨0, ![]⟩

class Facts : Prop where
  shapeCasts_S192_S24x8 : S192.ShapeCasts S24x8
  reducesTo_S24x8_S_d0_1 : S24x8.ReducesTo [0, 1] S_
  h_S_ : 0 < S_.numel

variable [Facts]

def fn {F : FTy → Type} [FloatOps F] (main_arg0 : FVec F S4x192x224x224 .f32) (main_arg1 : IVec S24x8 32) : IVec S_ 1 :=
  let main_v0 : IVec S192 32 := iotaInDim S192 32 0
  let main_v1 : IVec S24x8 32 := shapeCast S24x8 main_v0 shapeCasts_S192_S24x8
  let main_v2 : IVec S24x8 1 := cmpi .eq main_arg1 main_v1
  let main_c : IVec S_ 1 := constantI S_ 1 1#1
  let main_v3 : IVec S_ 1 := (fun x v => Host.reduce IntOp.andi x v reducesTo_S24x8_S_d0_1 h_S_) main_v2 main_c
  main_v3
-- ==== Kernel.lean ====
abbrev S4x192x224x224 : Shape := ⟨4, ![4, 192, 224, 224]⟩
abbrev S24x8 : Shape := ⟨2, ![24, 8]⟩
abbrev S40x224x224 : Shape := ⟨3, ![40, 224, 224]⟩
abbrev S3x8x16x224 : Shape := ⟨4, ![3, 8, 16, 224]⟩
abbrev S2x16x224 : Shape := ⟨3, ![2, 16, 224]⟩
abbrev S3 : Shape := ⟨1, ![3]⟩
abbrev S2 : Shape := ⟨1, ![2]⟩
abbrev S1x8x16x224 : Shape := ⟨4, ![1, 8, 16, 224]⟩
abbrev S8x16x224 : Shape := ⟨3, ![8, 16, 224]⟩
abbrev S1 : Shape := ⟨1, ![1]⟩
abbrev S_ : Shape := ⟨0, ![]⟩
abbrev S1x16x224 : Shape := ⟨3, ![1, 16, 224]⟩
abbrev S16x224 : Shape := ⟨2, ![16, 224]⟩
abbrev S1x1x1x16 : Shape := ⟨4, ![1, 1, 1, 16]⟩
abbrev S16 : Shape := ⟨1, ![16]⟩
abbrev S1x1x16 : Shape := ⟨3, ![1, 1, 16]⟩
abbrev S96x224x224 : Shape := ⟨3, ![96, 224, 224]⟩
abbrev S1x8x224x224 : Shape := ⟨4, ![1, 8, 224, 224]⟩
abbrev S1x1 : Shape := ⟨2, ![1, 1]⟩
abbrev S1x224x224 : Shape := ⟨3, ![1, 224, 224]⟩
abbrev S4x24x224x224 : Shape := ⟨4, ![4, 24, 224, 224]⟩

abbrev nBuf : Table → Nat
  | .hbm => 8
  | .local .tc .vmem => 4
  | .local .tc .smem => 1
  | .local .scVector .vmem => 2
  | _ => 0

abbrev bufTy : (tb : Table) → Fin (nBuf tb) → BufTy
  | .hbm, ⟨0, _⟩ => ⟨S4x192x224x224, .f32⟩
  | .hbm, ⟨1, _⟩ => ⟨S40x224x224, .f32⟩
  | .hbm, ⟨2, _⟩ => ⟨S96x224x224, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S96x224x224, .f32⟩
  | .hbm, ⟨7, _⟩ => ⟨S4x24x224x224, .f32⟩
  | .local .tc .vmem, ⟨0, _⟩ => ⟨S1x8x224x224, .f32⟩
  | .local .tc .vmem, ⟨1, _⟩ => ⟨S1x8x224x224, .f32⟩
  | .local .tc .vmem, ⟨2, _⟩ => ⟨S1x224x224, .f32⟩
  | .local .tc .vmem, ⟨3, _⟩ => ⟨S1x224x224, .f32⟩
  | .local .tc .smem, ⟨0, _⟩ => ⟨S24x8, .i32⟩
  | .local .scVector .vmem, ⟨0, _⟩ => ⟨S3x8x16x224, .f32⟩
  | .local .scVector .vmem, ⟨1, _⟩ => ⟨S2x16x224, .f32⟩
  | _, _ => ⟨S4x192x224x224, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_v2 : Ref sig .tc := ⟨.hbm, 6, rfl⟩
abbrev main_v3 : Ref sig .tc := ⟨.hbm, 7, rfl⟩
abbrev main_arg1 : Ref sig .tc := ⟨.smem, 0, rfl⟩
abbrev main_arg0_scv : Ref sig .scVector := ⟨.hbm, 0, rfl⟩
abbrev main_v0_scv : Ref sig .scVector := ⟨.hbm, 1, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc0_scratch0 : Ref sig .scVector := ⟨.vmem, 0, rfl⟩
abbrev cc0_scratch1 : Ref sig .scVector := ⟨.vmem, 1, rfl⟩
abbrev cc1_sem0_0 : DmaSem sig := 5
abbrev cc1_sem0_1 : DmaSem sig := 6
abbrev cc1_sem1_0 : DmaSem sig := 7
abbrev cc1_sem1_1 : DmaSem sig := 8
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32_2 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c17_i32 : BitVec 32 := 17#32
  let v4 : BitVec 32 := Scalar.muli v1 c17_i32
  let c16_i32_0 : BitVec 32 := 16#32
  let v5 : BitVec 32 := Scalar.minsi v1 c16_i32_0
  let v6 : BitVec 32 := Scalar.addi v4 v5
  let v8 : BitVec 32 := Scalar.addi v6 c0_i32_2
  let c0_i32_3 : BitVec 32 := 0#32
  let v10 : BitVec 1 := Scalar.cmpi .sgt v8 c0_i32_3
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c14_i32 : BitVec 32 := 14#32
  let c0_i32_5 : BitVec 32 := 0#32
  let v15 : BitVec 1 := Scalar.cmpi .sgt c14_i32 c0_i32_5
  let v16 : BitVec 32 := Scalar.extui v15
  let c0_i32_6 : BitVec 32 := 0#32
  let v17 : BitVec 1 := Scalar.cmpi .slt c14_i32 c0_i32_6
  let v18 : BitVec 32 := Scalar.extui v17
  let v19 : BitVec 32 := Scalar.subi v16 v18
  let v20 : BitVec 1 := Scalar.cmpi .ne v14 v19
  let v21 : BitVec 32 := Scalar.remsi v8 c14_i32
  let c0_i32_7 : BitVec 32 := 0#32
  let v22 : BitVec 1 := Scalar.cmpi .ne v21 c0_i32_7
  let v23 : BitVec 1 := Scalar.andi v20 v22
  let v9 : BitVec 32 := Scalar.divsi v8 c14_i32
  let c1_i32_8 : BitVec 32 := 1#32
  let v24 : BitVec 32 := Scalar.subi v9 c1_i32_8
  let v25 : BitVec 32 := Scalar.select v23 v24 v9
  let c0_i32_9 : BitVec 32 := 0#32
  let v27 : BitVec 1 := Scalar.cmpi .sgt v25 c0_i32_9
  let v28 : BitVec 32 := Scalar.extui v27
  let c0_i32_10 : BitVec 32 := 0#32
  let v29 : BitVec 1 := Scalar.cmpi .slt v25 c0_i32_10
  let v30 : BitVec 32 := Scalar.extui v29
  let v31 : BitVec 32 := Scalar.subi v28 v30
  let c24_i32 : BitVec 32 := 24#32
  let c0_i32_11 : BitVec 32 := 0#32
  let v32 : BitVec 1 := Scalar.cmpi .sgt c24_i32 c0_i32_11
  let v33 : BitVec 32 := Scalar.extui v32
  let c0_i32_12 : BitVec 32 := 0#32
  let v34 : BitVec 1 := Scalar.cmpi .slt c24_i32 c0_i32_12
  let v35 : BitVec 32 := Scalar.extui v34
  let v36 : BitVec 32 := Scalar.subi v33 v35
  let v37 : BitVec 1 := Scalar.cmpi .ne v31 v36
  let v38 : BitVec 32 := Scalar.remsi v25 c24_i32
  let c0_i32_13 : BitVec 32 := 0#32
  let v39 : BitVec 1 := Scalar.cmpi .ne v38 c0_i32_13
  let v40 : BitVec 1 := Scalar.andi v37 v39
  let v26 : BitVec 32 := Scalar.divsi v25 c24_i32
  let c1_i32_14 : BitVec 32 := 1#32
  let v41 : BitVec 32 := Scalar.subi v26 c1_i32_14
  let v42 : BitVec 32 := Scalar.select v40 v41 v26
  let c24_i32_15 : BitVec 32 := 24#32
  let c0_i32_16 : BitVec 32 := 0#32
  let v43 : BitVec 1 := Scalar.cmpi .eq c24_i32_15 c0_i32_16
  let c1_i32_17 : BitVec 32 := 1#32
  let v44 : BitVec 32 := Scalar.select v43 c1_i32_17 c24_i32_15
  let v45 : BitVec 32 := Scalar.remsi v25 v44
  let c0_i32_19 : BitVec 32 := 0#32
  let v47 : BitVec 1 := Scalar.cmpi .slt v45 c0_i32_19
  let c0_i32_20 : BitVec 32 := 0#32
  let v48 : BitVec 1 := Scalar.cmpi .slt v44 c0_i32_20
  let v49 : BitVec 1 := Scalar.xori v47 v48
  let c0_i32_18 : BitVec 32 := 0#32
  let v46 : BitVec 1 := Scalar.cmpi .ne v45 c0_i32_18
  let v50 : BitVec 1 := Scalar.andi v49 v46
  let v51 : BitVec 32 := Scalar.addi v45 v44
  let v52 : BitVec 32 := Scalar.select v50 v51 v45
  let c8_i32 : BitVec 32 := 8#32
  let v64 : BitVec 32 := Scalar.muli v52 c8_i32
  let c14_i32_21 : BitVec 32 := 14#32
  let c0_i32_22 : BitVec 32 := 0#32
  let v53 : BitVec 1 := Scalar.cmpi .eq c14_i32_21 c0_i32_22
  let c1_i32_23 : BitVec 32 := 1#32
  let v54 : BitVec 32 := Scalar.select v53 c1_i32_23 c14_i32_21
  let v55 : BitVec 32 := Scalar.remsi v8 v54
  let c0_i32_25 : BitVec 32 := 0#32
  let v57 : BitVec 1 := Scalar.cmpi .slt v55 c0_i32_25
  let c0_i32_26 : BitVec 32 := 0#32
  let v58 : BitVec 1 := Scalar.cmpi .slt v54 c0_i32_26
  let v59 : BitVec 1 := Scalar.xori v57 v58
  let c0_i32_24 : BitVec 32 := 0#32
  let v56 : BitVec 1 := Scalar.cmpi .ne v55 c0_i32_24
  let v60 : BitVec 1 := Scalar.andi v59 v56
  let v61 : BitVec 32 := Scalar.addi v55 v54
  let v62 : BitVec 32 := Scalar.select v60 v61 v55
  let c16_i32_27 : BitVec 32 := 16#32
  let v63 : BitVec 32 := Scalar.muli v62 c16_i32_27
  let c0_i32_33 : BitVec 32 := 0#32
  ![v42.toNat, v64.toNat, v63.toNat, 0]
@[reducible] def k0_t1_loop (i : grid0.Coords) : Scf.Loop 32 :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_80 : BitVec 32 := 1#32
  ⟨c0_i32_77, v146, c1_i32_80⟩
def k0_cond1 (i : grid0.Coords) (k0_t1 : Fin (k0_t1_loop i).trips) : BitVec 1 :=
  let c0_i32_77 : BitVec 32 := 0#32
  let c1_i32_80 : BitVec 32 := 1#32
  let arg8 : BitVec 32 := Scf.iv c0_i32_77 c1_i32_80 k0_t1
  let c3_i32_129 : BitVec 32 := 3#32
  let v235 : BitVec 32 := Scalar.addi arg8 c3_i32_129
  let c1_i32_130 : BitVec 32 := 1#32
  let v236 : BitVec 32 := Scalar.subi v235 c1_i32_130
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v237 : BitVec 1 := Scalar.cmpi .slt v236 v7
  let v238 : BitVec 32 := Scalar.extui v237
  let c0_i32_131 : BitVec 32 := 0#32
  let v239 : BitVec 1 := Scalar.cmpi .ne v238 c0_i32_131
  v239

def k0_off2 (i : grid0.Coords) (k0_t1 : Fin (k0_t1_loop i).trips) : Fin 4 → Nat :=
  let c0_i32_77 : BitVec 32 := 0#32
  let c1_i32_80 : BitVec 32 := 1#32
  let arg8 : BitVec 32 := Scf.iv c0_i32_77 c1_i32_80 k0_t1
  let c3_i32_198 : BitVec 32 := 3#32
  let v353 : BitVec 32 := Scalar.addi arg8 c3_i32_198
  let c1_i32_199 : BitVec 32 := 1#32
  let v354 : BitVec 32 := Scalar.subi v353 c1_i32_199
  let c3_i32_200 : BitVec 32 := 3#32
  let v355 : BitVec 32 := Scalar.remsi v354 c3_i32_200
  let c0_i32_229 : BitVec 32 := 0#32
  let c0_i32_230 : BitVec 32 := 0#32
  let c0_i32_231 : BitVec 32 := 0#32
  ![v355.toNat, 0, 0, 0]
def k0_off3 (i : grid0.Coords) (k0_t1 : Fin (k0_t1_loop i).trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c17_i32 : BitVec 32 := 17#32
  let v4 : BitVec 32 := Scalar.muli v1 c17_i32
  let c16_i32_0 : BitVec 32 := 16#32
  let v5 : BitVec 32 := Scalar.minsi v1 c16_i32_0
  let v6 : BitVec 32 := Scalar.addi v4 v5
  let c0_i32_77 : BitVec 32 := 0#32
  let c1_i32_80 : BitVec 32 := 1#32
  let arg8 : BitVec 32 := Scf.iv c0_i32_77 c1_i32_80 k0_t1
  let c3_i32_196 : BitVec 32 := 3#32
  let v351 : BitVec 32 := Scalar.addi arg8 c3_i32_196
  let c1_i32_197 : BitVec 32 := 1#32
  let v352 : BitVec 32 := Scalar.subi v351 c1_i32_197
  let v356 : BitVec 32 := Scalar.addi v6 v352
  let c0_i32_202 : BitVec 32 := 0#32
  let v358 : BitVec 1 := Scalar.cmpi .sgt v356 c0_i32_202
  let v359 : BitVec 32 := Scalar.extui v358
  let c0_i32_203 : BitVec 32 := 0#32
  let v360 : BitVec 1 := Scalar.cmpi .slt v356 c0_i32_203
  let v361 : BitVec 32 := Scalar.extui v360
  let v362 : BitVec 32 := Scalar.subi v359 v361
  let c14_i32_201 : BitVec 32 := 14#32
  let c0_i32_204 : BitVec 32 := 0#32
  let v363 : BitVec 1 := Scalar.cmpi .sgt c14_i32_201 c0_i32_204
  let v364 : BitVec 32 := Scalar.extui v363
  let c0_i32_205 : BitVec 32 := 0#32
  let v365 : BitVec 1 := Scalar.cmpi .slt c14_i32_201 c0_i32_205
  let v366 : BitVec 32 := Scalar.extui v365
  let v367 : BitVec 32 := Scalar.subi v364 v366
  let v368 : BitVec 1 := Scalar.cmpi .ne v362 v367
  let v369 : BitVec 32 := Scalar.remsi v356 c14_i32_201
  let c0_i32_206 : BitVec 32 := 0#32
  let v370 : BitVec 1 := Scalar.cmpi .ne v369 c0_i32_206
  let v371 : BitVec 1 := Scalar.andi v368 v370
  let v357 : BitVec 32 := Scalar.divsi v356 c14_i32_201
  let c1_i32_207 : BitVec 32 := 1#32
  let v372 : BitVec 32 := Scalar.subi v357 c1_i32_207
  let v373 : BitVec 32 := Scalar.select v371 v372 v357
  let c0_i32_209 : BitVec 32 := 0#32
  let v375 : BitVec 1 := Scalar.cmpi .sgt v373 c0_i32_209
  let v376 : BitVec 32 := Scalar.extui v375
  let c0_i32_210 : BitVec 32 := 0#32
  let v377 : BitVec 1 := Scalar.cmpi .slt v373 c0_i32_210
  let v378 : BitVec 32 := Scalar.extui v377
  let v379 : BitVec 32 := Scalar.subi v376 v378
  let c24_i32_208 : BitVec 32 := 24#32
  let c0_i32_211 : BitVec 32 := 0#32
  let v380 : BitVec 1 := Scalar.cmpi .sgt c24_i32_208 c0_i32_211
  let v381 : BitVec 32 := Scalar.extui v380
  let c0_i32_212 : BitVec 32 := 0#32
  let v382 : BitVec 1 := Scalar.cmpi .slt c24_i32_208 c0_i32_212
  let v383 : BitVec 32 := Scalar.extui v382
  let v384 : BitVec 32 := Scalar.subi v381 v383
  let v385 : BitVec 1 := Scalar.cmpi .ne v379 v384
  let v386 : BitVec 32 := Scalar.remsi v373 c24_i32_208
  let c0_i32_213 : BitVec 32 := 0#32
  let v387 : BitVec 1 := Scalar.cmpi .ne v386 c0_i32_213
  let v388 : BitVec 1 := Scalar.andi v385 v387
  let v374 : BitVec 32 := Scalar.divsi v373 c24_i32_208
  let c1_i32_214 : BitVec 32 := 1#32
  let v389 : BitVec 32 := Scalar.subi v374 c1_i32_214
  let v390 : BitVec 32 := Scalar.select v388 v389 v374
  let c24_i32_215 : BitVec 32 := 24#32
  let c0_i32_216 : BitVec 32 := 0#32
  let v391 : BitVec 1 := Scalar.cmpi .eq c24_i32_215 c0_i32_216
  let c1_i32_217 : BitVec 32 := 1#32
  let v392 : BitVec 32 := Scalar.select v391 c1_i32_217 c24_i32_215
  let v393 : BitVec 32 := Scalar.remsi v373 v392
  let c0_i32_219 : BitVec 32 := 0#32
  let v395 : BitVec 1 := Scalar.cmpi .slt v393 c0_i32_219
  let c0_i32_220 : BitVec 32 := 0#32
  let v396 : BitVec 1 := Scalar.cmpi .slt v392 c0_i32_220
  let v397 : BitVec 1 := Scalar.xori v395 v396
  let c0_i32_218 : BitVec 32 := 0#32
  let v394 : BitVec 1 := Scalar.cmpi .ne v393 c0_i32_218
  let v398 : BitVec 1 := Scalar.andi v397 v394
  let v399 : BitVec 32 := Scalar.addi v393 v392
  let v400 : BitVec 32 := Scalar.select v398 v399 v393
  let c8_i32_228 : BitVec 32 := 8#32
  let v412 : BitVec 32 := Scalar.muli v400 c8_i32_228
  let c14_i32_221 : BitVec 32 := 14#32
  let c0_i32_222 : BitVec 32 := 0#32
  let v401 : BitVec 1 := Scalar.cmpi .eq c14_i32_221 c0_i32_222
  let c1_i32_223 : BitVec 32 := 1#32
  let v402 : BitVec 32 := Scalar.select v401 c1_i32_223 c14_i32_221
  let v403 : BitVec 32 := Scalar.remsi v356 v402
  let c0_i32_225 : BitVec 32 := 0#32
  let v405 : BitVec 1 := Scalar.cmpi .slt v403 c0_i32_225
  let c0_i32_226 : BitVec 32 := 0#32
  let v406 : BitVec 1 := Scalar.cmpi .slt v402 c0_i32_226
  let v407 : BitVec 1 := Scalar.xori v405 v406
  let c0_i32_224 : BitVec 32 := 0#32
  let v404 : BitVec 1 := Scalar.cmpi .ne v403 c0_i32_224
  let v408 : BitVec 1 := Scalar.andi v407 v404
  let v409 : BitVec 32 := Scalar.addi v403 v402
  let v410 : BitVec 32 := Scalar.select v408 v409 v403
  let c16_i32_227 : BitVec 32 := 16#32
  let v411 : BitVec 32 := Scalar.muli v410 c16_i32_227
  let c0_i32_232 : BitVec 32 := 0#32
  ![v390.toNat, v412.toNat, v411.toNat, 0]
def k0_off4 (i : grid0.Coords) (k0_t1 : Fin (k0_t1_loop i).trips) : Fin 1 → Nat :=
  let c0_i32_77 : BitVec 32 := 0#32
  let c1_i32_80 : BitVec 32 := 1#32
  let arg8 : BitVec 32 := Scf.iv c0_i32_77 c1_i32_80 k0_t1
  let c3_i32_198 : BitVec 32 := 3#32
  let v353 : BitVec 32 := Scalar.addi arg8 c3_i32_198
  let c1_i32_199 : BitVec 32 := 1#32
  let v354 : BitVec 32 := Scalar.subi v353 c1_i32_199
  let c3_i32_200 : BitVec 32 := 3#32
  let v355 : BitVec 32 := Scalar.remsi v354 c3_i32_200
  ![v355.toNat]
def k0_off5 (i : grid0.Coords) (k0_t1 : Fin (k0_t1_loop i).trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let c0_i32_160 : BitVec 32 := 0#32
  let c0_i32_161 : BitVec 32 := 0#32
  let c0_i32_162 : BitVec 32 := 0#32
  ![v233.toNat, 0, 0, 0]
def k0_off6 (i : grid0.Coords) (k0_t1 : Fin (k0_t1_loop i).trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c17_i32 : BitVec 32 := 17#32
  let v4 : BitVec 32 := Scalar.muli v1 c17_i32
  let c16_i32_0 : BitVec 32 := 16#32
  let v5 : BitVec 32 := Scalar.minsi v1 c16_i32_0
  let v6 : BitVec 32 := Scalar.addi v4 v5
  let c0_i32_77 : BitVec 32 := 0#32
  let c1_i32_80 : BitVec 32 := 1#32
  let arg8 : BitVec 32 := Scf.iv c0_i32_77 c1_i32_80 k0_t1
  let v240 : BitVec 32 := Scalar.addi v6 arg8
  let c0_i32_133 : BitVec 32 := 0#32
  let v242 : BitVec 1 := Scalar.cmpi .sgt v240 c0_i32_133
  let v243 : BitVec 32 := Scalar.extui v242
  let c0_i32_134 : BitVec 32 := 0#32
  let v244 : BitVec 1 := Scalar.cmpi .slt v240 c0_i32_134
  let v245 : BitVec 32 := Scalar.extui v244
  let v246 : BitVec 32 := Scalar.subi v243 v245
  let c14_i32_132 : BitVec 32 := 14#32
  let c0_i32_135 : BitVec 32 := 0#32
  let v247 : BitVec 1 := Scalar.cmpi .sgt c14_i32_132 c0_i32_135
  let v248 : BitVec 32 := Scalar.extui v247
  let c0_i32_136 : BitVec 32 := 0#32
  let v249 : BitVec 1 := Scalar.cmpi .slt c14_i32_132 c0_i32_136
  let v250 : BitVec 32 := Scalar.extui v249
  let v251 : BitVec 32 := Scalar.subi v248 v250
  let v252 : BitVec 1 := Scalar.cmpi .ne v246 v251
  let v253 : BitVec 32 := Scalar.remsi v240 c14_i32_132
  let c0_i32_137 : BitVec 32 := 0#32
  let v254 : BitVec 1 := Scalar.cmpi .ne v253 c0_i32_137
  let v255 : BitVec 1 := Scalar.andi v252 v254
  let v241 : BitVec 32 := Scalar.divsi v240 c14_i32_132
  let c1_i32_138 : BitVec 32 := 1#32
  let v256 : BitVec 32 := Scalar.subi v241 c1_i32_138
  let v257 : BitVec 32 := Scalar.select v255 v256 v241
  let c0_i32_140 : BitVec 32 := 0#32
  let v259 : BitVec 1 := Scalar.cmpi .sgt v257 c0_i32_140
  let v260 : BitVec 32 := Scalar.extui v259
  let c0_i32_141 : BitVec 32 := 0#32
  let v261 : BitVec 1 := Scalar.cmpi .slt v257 c0_i32_141
  let v262 : BitVec 32 := Scalar.extui v261
  let v263 : BitVec 32 := Scalar.subi v260 v262
  let c24_i32_139 : BitVec 32 := 24#32
  let c0_i32_142 : BitVec 32 := 0#32
  let v264 : BitVec 1 := Scalar.cmpi .sgt c24_i32_139 c0_i32_142
  let v265 : BitVec 32 := Scalar.extui v264
  let c0_i32_143 : BitVec 32 := 0#32
  let v266 : BitVec 1 := Scalar.cmpi .slt c24_i32_139 c0_i32_143
  let v267 : BitVec 32 := Scalar.extui v266
  let v268 : BitVec 32 := Scalar.subi v265 v267
  let v269 : BitVec 1 := Scalar.cmpi .ne v263 v268
  let v270 : BitVec 32 := Scalar.remsi v257 c24_i32_139
  let c0_i32_144 : BitVec 32 := 0#32
  let v271 : BitVec 1 := Scalar.cmpi .ne v270 c0_i32_144
  let v272 : BitVec 1 := Scalar.andi v269 v271
  let v258 : BitVec 32 := Scalar.divsi v257 c24_i32_139
  let c1_i32_145 : BitVec 32 := 1#32
  let v273 : BitVec 32 := Scalar.subi v258 c1_i32_145
  let v274 : BitVec 32 := Scalar.select v272 v273 v258
  let c24_i32_146 : BitVec 32 := 24#32
  let c0_i32_147 : BitVec 32 := 0#32
  let v275 : BitVec 1 := Scalar.cmpi .eq c24_i32_146 c0_i32_147
  let c1_i32_148 : BitVec 32 := 1#32
  let v276 : BitVec 32 := Scalar.select v275 c1_i32_148 c24_i32_146
  let v277 : BitVec 32 := Scalar.remsi v257 v276
  let c0_i32_150 : BitVec 32 := 0#32
  let v279 : BitVec 1 := Scalar.cmpi .slt v277 c0_i32_150
  let c0_i32_151 : BitVec 32 := 0#32
  let v280 : BitVec 1 := Scalar.cmpi .slt v276 c0_i32_151
  let v281 : BitVec 1 := Scalar.xori v279 v280
  let c0_i32_149 : BitVec 32 := 0#32
  let v278 : BitVec 1 := Scalar.cmpi .ne v277 c0_i32_149
  let v282 : BitVec 1 := Scalar.andi v281 v278
  let v283 : BitVec 32 := Scalar.addi v277 v276
  let v284 : BitVec 32 := Scalar.select v282 v283 v277
  let c8_i32_159 : BitVec 32 := 8#32
  let v296 : BitVec 32 := Scalar.muli v284 c8_i32_159
  let c14_i32_152 : BitVec 32 := 14#32
  let c0_i32_153 : BitVec 32 := 0#32
  let v285 : BitVec 1 := Scalar.cmpi .eq c14_i32_152 c0_i32_153
  let c1_i32_154 : BitVec 32 := 1#32
  let v286 : BitVec 32 := Scalar.select v285 c1_i32_154 c14_i32_152
  let v287 : BitVec 32 := Scalar.remsi v240 v286
  let c0_i32_156 : BitVec 32 := 0#32
  let v289 : BitVec 1 := Scalar.cmpi .slt v287 c0_i32_156
  let c0_i32_157 : BitVec 32 := 0#32
  let v290 : BitVec 1 := Scalar.cmpi .slt v286 c0_i32_157
  let v291 : BitVec 1 := Scalar.xori v289 v290
  let c0_i32_155 : BitVec 32 := 0#32
  let v288 : BitVec 1 := Scalar.cmpi .ne v287 c0_i32_155
  let v292 : BitVec 1 := Scalar.andi v291 v288
  let v293 : BitVec 32 := Scalar.addi v287 v286
  let v294 : BitVec 32 := Scalar.select v292 v293 v287
  let c16_i32_158 : BitVec 32 := 16#32
  let v295 : BitVec 32 := Scalar.muli v294 c16_i32_158
  let c0_i32_163 : BitVec 32 := 0#32
  ![v274.toNat, v296.toNat, v295.toNat, 0]
def k0_off7 (i : grid0.Coords) (k0_t1 : Fin (k0_t1_loop i).trips) : Fin 1 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  ![v233.toNat]
def k0_cond2 (i : grid0.Coords) (k0_t1 : Fin (k0_t1_loop i).trips) : BitVec 1 :=
  let c0_i32_77 : BitVec 32 := 0#32
  let c1_i32_80 : BitVec 32 := 1#32
  let arg8 : BitVec 32 := Scf.iv c0_i32_77 c1_i32_80 k0_t1
  let c2_i32_168 : BitVec 32 := 2#32
  let v307 : BitVec 1 := Scalar.cmpi .sge arg8 c2_i32_168
  let v308 : BitVec 32 := Scalar.extui v307
  let c0_i32_169 : BitVec 32 := 0#32
  let v309 : BitVec 1 := Scalar.cmpi .ne v308 c0_i32_169
  v309

def k0_off8 (i : grid0.Coords) (k0_t1 : Fin (k0_t1_loop i).trips) : Fin 3 → Nat :=
  let c0_i32_77 : BitVec 32 := 0#32
  let c1_i32_80 : BitVec 32 := 1#32
  let arg8 : BitVec 32 := Scf.iv c0_i32_77 c1_i32_80 k0_t1
  let c2_i32_128 : BitVec 32 := 2#32
  let v234 : BitVec 32 := Scalar.remsi arg8 c2_i32_128
  let c0_i32_211 : BitVec 32 := 0#32
  let c0_i32_212 : BitVec 32 := 0#32
  ![v234.toNat, 0, 0]
def k0_off9 (i : grid0.Coords) (k0_t1 : Fin (k0_t1_loop i).trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c17_i32 : BitVec 32 := 17#32
  let v4 : BitVec 32 := Scalar.muli v1 c17_i32
  let c16_i32_0 : BitVec 32 := 16#32
  let v5 : BitVec 32 := Scalar.minsi v1 c16_i32_0
  let v6 : BitVec 32 := Scalar.addi v4 v5
  let c0_i32_77 : BitVec 32 := 0#32
  let c1_i32_80 : BitVec 32 := 1#32
  let arg8 : BitVec 32 := Scf.iv c0_i32_77 c1_i32_80 k0_t1
  let c2_i32_196 : BitVec 32 := 2#32
  let v351 : BitVec 32 := Scalar.subi arg8 c2_i32_196
  let v352 : BitVec 32 := Scalar.addi v6 v351
  let c0_i32_198 : BitVec 32 := 0#32
  let v354 : BitVec 1 := Scalar.cmpi .sgt v352 c0_i32_198
  let v355 : BitVec 32 := Scalar.extui v354
  let c0_i32_199 : BitVec 32 := 0#32
  let v356 : BitVec 1 := Scalar.cmpi .slt v352 c0_i32_199
  let v357 : BitVec 32 := Scalar.extui v356
  let v358 : BitVec 32 := Scalar.subi v355 v357
  let c14_i32_197 : BitVec 32 := 14#32
  let c0_i32_200 : BitVec 32 := 0#32
  let v359 : BitVec 1 := Scalar.cmpi .sgt c14_i32_197 c0_i32_200
  let v360 : BitVec 32 := Scalar.extui v359
  let c0_i32_201 : BitVec 32 := 0#32
  let v361 : BitVec 1 := Scalar.cmpi .slt c14_i32_197 c0_i32_201
  let v362 : BitVec 32 := Scalar.extui v361
  let v363 : BitVec 32 := Scalar.subi v360 v362
  let v364 : BitVec 1 := Scalar.cmpi .ne v358 v363
  let v365 : BitVec 32 := Scalar.remsi v352 c14_i32_197
  let c0_i32_202 : BitVec 32 := 0#32
  let v366 : BitVec 1 := Scalar.cmpi .ne v365 c0_i32_202
  let v367 : BitVec 1 := Scalar.andi v364 v366
  let v353 : BitVec 32 := Scalar.divsi v352 c14_i32_197
  let c1_i32_203 : BitVec 32 := 1#32
  let v368 : BitVec 32 := Scalar.subi v353 c1_i32_203
  let v369 : BitVec 32 := Scalar.select v367 v368 v353
  let c14_i32_204 : BitVec 32 := 14#32
  let c0_i32_205 : BitVec 32 := 0#32
  let v370 : BitVec 1 := Scalar.cmpi .eq c14_i32_204 c0_i32_205
  let c1_i32_206 : BitVec 32 := 1#32
  let v371 : BitVec 32 := Scalar.select v370 c1_i32_206 c14_i32_204
  let v372 : BitVec 32 := Scalar.remsi v352 v371
  let c0_i32_208 : BitVec 32 := 0#32
  let v374 : BitVec 1 := Scalar.cmpi .slt v372 c0_i32_208
  let c0_i32_209 : BitVec 32 := 0#32
  let v375 : BitVec 1 := Scalar.cmpi .slt v371 c0_i32_209
  let v376 : BitVec 1 := Scalar.xori v374 v375
  let c0_i32_207 : BitVec 32 := 0#32
  let v373 : BitVec 1 := Scalar.cmpi .ne v372 c0_i32_207
  let v377 : BitVec 1 := Scalar.andi v376 v373
  let v378 : BitVec 32 := Scalar.addi v372 v371
  let v379 : BitVec 32 := Scalar.select v377 v378 v372
  let c16_i32_210 : BitVec 32 := 16#32
  let v380 : BitVec 32 := Scalar.muli v379 c16_i32_210
  let c0_i32_213 : BitVec 32 := 0#32
  ![v369.toNat, v380.toNat, 0]
def k0_off10 (i : grid0.Coords) (k0_t1 : Fin (k0_t1_loop i).trips) : Fin 1 → Nat :=
  let c0_i32_77 : BitVec 32 := 0#32
  let c1_i32_80 : BitVec 32 := 1#32
  let arg8 : BitVec 32 := Scf.iv c0_i32_77 c1_i32_80 k0_t1
  let c2_i32_128 : BitVec 32 := 2#32
  let v234 : BitVec 32 := Scalar.remsi arg8 c2_i32_128
  ![v234.toNat]
@[reducible] def k0_t2_loop : Scf.Loop 32 :=
  let c0_i32_171 : BitVec 32 := 0#32
  let c16_i32_172 : BitVec 32 := 16#32
  let v310 : BitVec 32 := Scalar.addi c0_i32_171 c16_i32_172
  let c1_i32_173 : BitVec 32 := 1#32
  ⟨c0_i32_171, v310, c1_i32_173⟩
def k0_off11 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v351 : Index := Scalar.indexCast v233
  let c0_i32_196 : BitVec 32 := 0#32
  let v352 : Index := Scalar.indexCast c0_i32_196
  let c0_i32_171 : BitVec 32 := 0#32
  let c1_i32_173 : BitVec 32 := 1#32
  let arg10 : BitVec 32 := Scf.iv c0_i32_171 c1_i32_173 k0_t2
  let v353 : Index := Scalar.indexCast arg10
  let c0 : Index := 0#32
  ![v351.toNat, 0, v353.toNat, 0]
def k0_off12 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v356 : Index := Scalar.indexCast v233
  let c1_i32_197 : BitVec 32 := 1#32
  let v357 : Index := Scalar.indexCast c1_i32_197
  let c0_i32_171 : BitVec 32 := 0#32
  let c1_i32_173 : BitVec 32 := 1#32
  let arg10 : BitVec 32 := Scf.iv c0_i32_171 c1_i32_173 k0_t2
  let v358 : Index := Scalar.indexCast arg10
  let c0_198 : Index := 0#32
  ![v356.toNat, 1, v358.toNat, 0]
def k0_off13 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v362 : Index := Scalar.indexCast v233
  let c2_i32_199 : BitVec 32 := 2#32
  let v363 : Index := Scalar.indexCast c2_i32_199
  let c0_i32_171 : BitVec 32 := 0#32
  let c1_i32_173 : BitVec 32 := 1#32
  let arg10 : BitVec 32 := Scf.iv c0_i32_171 c1_i32_173 k0_t2
  let v364 : Index := Scalar.indexCast arg10
  let c0_200 : Index := 0#32
  ![v362.toNat, 2, v364.toNat, 0]
def k0_off14 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v368 : Index := Scalar.indexCast v233
  let c3_i32_201 : BitVec 32 := 3#32
  let v369 : Index := Scalar.indexCast c3_i32_201
  let c0_i32_171 : BitVec 32 := 0#32
  let c1_i32_173 : BitVec 32 := 1#32
  let arg10 : BitVec 32 := Scf.iv c0_i32_171 c1_i32_173 k0_t2
  let v370 : Index := Scalar.indexCast arg10
  let c0_202 : Index := 0#32
  ![v368.toNat, 3, v370.toNat, 0]
def k0_off15 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v374 : Index := Scalar.indexCast v233
  let c4_i32 : BitVec 32 := 4#32
  let v375 : Index := Scalar.indexCast c4_i32
  let c0_i32_171 : BitVec 32 := 0#32
  let c1_i32_173 : BitVec 32 := 1#32
  let arg10 : BitVec 32 := Scf.iv c0_i32_171 c1_i32_173 k0_t2
  let v376 : Index := Scalar.indexCast arg10
  let c0_203 : Index := 0#32
  ![v374.toNat, 4, v376.toNat, 0]
def k0_off16 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v380 : Index := Scalar.indexCast v233
  let c5_i32 : BitVec 32 := 5#32
  let v381 : Index := Scalar.indexCast c5_i32
  let c0_i32_171 : BitVec 32 := 0#32
  let c1_i32_173 : BitVec 32 := 1#32
  let arg10 : BitVec 32 := Scf.iv c0_i32_171 c1_i32_173 k0_t2
  let v382 : Index := Scalar.indexCast arg10
  let c0_204 : Index := 0#32
  ![v380.toNat, 5, v382.toNat, 0]
def k0_off17 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v386 : Index := Scalar.indexCast v233
  let c6_i32 : BitVec 32 := 6#32
  let v387 : Index := Scalar.indexCast c6_i32
  let c0_i32_171 : BitVec 32 := 0#32
  let c1_i32_173 : BitVec 32 := 1#32
  let arg10 : BitVec 32 := Scf.iv c0_i32_171 c1_i32_173 k0_t2
  let v388 : Index := Scalar.indexCast arg10
  let c0_205 : Index := 0#32
  ![v386.toNat, 6, v388.toNat, 0]
def k0_off18 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v392 : Index := Scalar.indexCast v233
  let c7_i32 : BitVec 32 := 7#32
  let v393 : Index := Scalar.indexCast c7_i32
  let c0_i32_171 : BitVec 32 := 0#32
  let c1_i32_173 : BitVec 32 := 1#32
  let arg10 : BitVec 32 := Scf.iv c0_i32_171 c1_i32_173 k0_t2
  let v394 : Index := Scalar.indexCast arg10
  let c0_206 : Index := 0#32
  ![v392.toNat, 7, v394.toNat, 0]
def k0_off19 (i : grid0.Coords) (k0_t1 : Fin (k0_t1_loop i).trips) (k0_t2 : Fin k0_t2_loop.trips) : Fin 3 → Nat :=
  let c0_i32_77 : BitVec 32 := 0#32
  let c1_i32_80 : BitVec 32 := 1#32
  let arg8 : BitVec 32 := Scf.iv c0_i32_77 c1_i32_80 k0_t1
  let c2_i32_128 : BitVec 32 := 2#32
  let v234 : BitVec 32 := Scalar.remsi arg8 c2_i32_128
  let v398 : Index := Scalar.indexCast v234
  let c0_i32_171 : BitVec 32 := 0#32
  let c1_i32_173 : BitVec 32 := 1#32
  let arg10 : BitVec 32 := Scf.iv c0_i32_171 c1_i32_173 k0_t2
  let v399 : Index := Scalar.indexCast arg10
  let c0_207 : Index := 0#32
  ![v398.toNat, v399.toNat, 0]
def k0_off20 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v403 : Index := Scalar.indexCast v233
  let c0_i32_208 : BitVec 32 := 0#32
  let v404 : Index := Scalar.indexCast c0_i32_208
  let c0_i32_171 : BitVec 32 := 0#32
  let c1_i32_173 : BitVec 32 := 1#32
  let arg10 : BitVec 32 := Scf.iv c0_i32_171 c1_i32_173 k0_t2
  let v405 : Index := Scalar.indexCast arg10
  let c16 : Index := 16#32
  ![v403.toNat, 0, v405.toNat, 16]
def k0_off21 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v408 : Index := Scalar.indexCast v233
  let c1_i32_209 : BitVec 32 := 1#32
  let v409 : Index := Scalar.indexCast c1_i32_209
  let c0_i32_171 : BitVec 32 := 0#32
  let c1_i32_173 : BitVec 32 := 1#32
  let arg10 : BitVec 32 := Scf.iv c0_i32_171 c1_i32_173 k0_t2
  let v410 : Index := Scalar.indexCast arg10
  let c16_210 : Index := 16#32
  ![v408.toNat, 1, v410.toNat, 16]
def k0_off22 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v414 : Index := Scalar.indexCast v233
  let c2_i32_211 : BitVec 32 := 2#32
  let v415 : Index := Scalar.indexCast c2_i32_211
  let c0_i32_171 : BitVec 32 := 0#32
  let c1_i32_173 : BitVec 32 := 1#32
  let arg10 : BitVec 32 := Scf.iv c0_i32_171 c1_i32_173 k0_t2
  let v416 : Index := Scalar.indexCast arg10
  let c16_212 : Index := 16#32
  ![v414.toNat, 2, v416.toNat, 16]
def k0_off23 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v420 : Index := Scalar.indexCast v233
  let c3_i32_213 : BitVec 32 := 3#32
  let v421 : Index := Scalar.indexCast c3_i32_213
  let c0_i32_171 : BitVec 32 := 0#32
  let c1_i32_173 : BitVec 32 := 1#32
  let arg10 : BitVec 32 := Scf.iv c0_i32_171 c1_i32_173 k0_t2
  let v422 : Index := Scalar.indexCast arg10
  let c16_214 : Index := 16#32
  ![v420.toNat, 3, v422.toNat, 16]
def k0_off24 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v426 : Index := Scalar.indexCast v233
  let c4_i32_215 : BitVec 32 := 4#32
  let v427 : Index := Scalar.indexCast c4_i32_215
  let c0_i32_171 : BitVec 32 := 0#32
  let c1_i32_173 : BitVec 32 := 1#32
  let arg10 : BitVec 32 := Scf.iv c0_i32_171 c1_i32_173 k0_t2
  let v428 : Index := Scalar.indexCast arg10
  let c16_216 : Index := 16#32
  ![v426.toNat, 4, v428.toNat, 16]
def k0_off25 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v432 : Index := Scalar.indexCast v233
  let c5_i32_217 : BitVec 32 := 5#32
  let v433 : Index := Scalar.indexCast c5_i32_217
  let c0_i32_171 : BitVec 32 := 0#32
  let c1_i32_173 : BitVec 32 := 1#32
  let arg10 : BitVec 32 := Scf.iv c0_i32_171 c1_i32_173 k0_t2
  let v434 : Index := Scalar.indexCast arg10
  let c16_218 : Index := 16#32
  ![v432.toNat, 5, v434.toNat, 16]
def k0_off26 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v438 : Index := Scalar.indexCast v233
  let c6_i32_219 : BitVec 32 := 6#32
  let v439 : Index := Scalar.indexCast c6_i32_219
  let c0_i32_171 : BitVec 32 := 0#32
  let c1_i32_173 : BitVec 32 := 1#32
  let arg10 : BitVec 32 := Scf.iv c0_i32_171 c1_i32_173 k0_t2
  let v440 : Index := Scalar.indexCast arg10
  let c16_220 : Index := 16#32
  ![v438.toNat, 6, v440.toNat, 16]
def k0_off27 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v444 : Index := Scalar.indexCast v233
  let c7_i32_221 : BitVec 32 := 7#32
  let v445 : Index := Scalar.indexCast c7_i32_221
  let c0_i32_171 : BitVec 32 := 0#32
  let c1_i32_173 : BitVec 32 := 1#32
  let arg10 : BitVec 32 := Scf.iv c0_i32_171 c1_i32_173 k0_t2
  let v446 : Index := Scalar.indexCast arg10
  let c16_222 : Index := 16#32
  ![v444.toNat, 7, v446.toNat, 16]
def k0_off28 (i : grid0.Coords) (k0_t1 : Fin (k0_t1_loop i).trips) (k0_t2 : Fin k0_t2_loop.trips) : Fin 3 → Nat :=
  let c0_i32_77 : BitVec 32 := 0#32
  let c1_i32_80 : BitVec 32 := 1#32
  let arg8 : BitVec 32 := Scf.iv c0_i32_77 c1_i32_80 k0_t1
  let c2_i32_128 : BitVec 32 := 2#32
  let v234 : BitVec 32 := Scalar.remsi arg8 c2_i32_128
  let v450 : Index := Scalar.indexCast v234
  let c0_i32_171 : BitVec 32 := 0#32
  let c1_i32_173 : BitVec 32 := 1#32
  let arg10 : BitVec 32 := Scf.iv c0_i32_171 c1_i32_173 k0_t2
  let v451 : Index := Scalar.indexCast arg10
  let c16_223 : Index := 16#32
  ![v450.toNat, v451.toNat, 16]
def k0_off29 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v455 : Index := Scalar.indexCast v233
  let c0_i32_224 : BitVec 32 := 0#32
  let v456 : Index := Scalar.indexCast c0_i32_224
  let c0_i32_171 : BitVec 32 := 0#32
  let c1_i32_173 : BitVec 32 := 1#32
  let arg10 : BitVec 32 := Scf.iv c0_i32_171 c1_i32_173 k0_t2
  let v457 : Index := Scalar.indexCast arg10
  let c32 : Index := 32#32
  ![v455.toNat, 0, v457.toNat, 32]
def k0_off30 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v460 : Index := Scalar.indexCast v233
  let c1_i32_225 : BitVec 32 := 1#32
  let v461 : Index := Scalar.indexCast c1_i32_225
  let c0_i32_171 : BitVec 32 := 0#32
  let c1_i32_173 : BitVec 32 := 1#32
  let arg10 : BitVec 32 := Scf.iv c0_i32_171 c1_i32_173 k0_t2
  let v462 : Index := Scalar.indexCast arg10
  let c32_226 : Index := 32#32
  ![v460.toNat, 1, v462.toNat, 32]
def k0_off31 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v466 : Index := Scalar.indexCast v233
  let c2_i32_227 : BitVec 32 := 2#32
  let v467 : Index := Scalar.indexCast c2_i32_227
  let c0_i32_171 : BitVec 32 := 0#32
  let c1_i32_173 : BitVec 32 := 1#32
  let arg10 : BitVec 32 := Scf.iv c0_i32_171 c1_i32_173 k0_t2
  let v468 : Index := Scalar.indexCast arg10
  let c32_228 : Index := 32#32
  ![v466.toNat, 2, v468.toNat, 32]
def k0_off32 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v472 : Index := Scalar.indexCast v233
  let c3_i32_229 : BitVec 32 := 3#32
  let v473 : Index := Scalar.indexCast c3_i32_229
  let c0_i32_171 : BitVec 32 := 0#32
  let c1_i32_173 : BitVec 32 := 1#32
  let arg10 : BitVec 32 := Scf.iv c0_i32_171 c1_i32_173 k0_t2
  let v474 : Index := Scalar.indexCast arg10
  let c32_230 : Index := 32#32
  ![v472.toNat, 3, v474.toNat, 32]
def k0_off33 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v478 : Index := Scalar.indexCast v233
  let c4_i32_231 : BitVec 32 := 4#32
  let v479 : Index := Scalar.indexCast c4_i32_231
  let c0_i32_171 : BitVec 32 := 0#32
  let c1_i32_173 : BitVec 32 := 1#32
  let arg10 : BitVec 32 := Scf.iv c0_i32_171 c1_i32_173 k0_t2
  let v480 : Index := Scalar.indexCast arg10
  let c32_232 : Index := 32#32
  ![v478.toNat, 4, v480.toNat, 32]
def k0_off34 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v484 : Index := Scalar.indexCast v233
  let c5_i32_233 : BitVec 32 := 5#32
  let v485 : Index := Scalar.indexCast c5_i32_233
  let c0_i32_171 : BitVec 32 := 0#32
  let c1_i32_173 : BitVec 32 := 1#32
  let arg10 : BitVec 32 := Scf.iv c0_i32_171 c1_i32_173 k0_t2
  let v486 : Index := Scalar.indexCast arg10
  let c32_234 : Index := 32#32
  ![v484.toNat, 5, v486.toNat, 32]
def k0_off35 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v490 : Index := Scalar.indexCast v233
  let c6_i32_235 : BitVec 32 := 6#32
  let v491 : Index := Scalar.indexCast c6_i32_235
  let c0_i32_171 : BitVec 32 := 0#32
  let c1_i32_173 : BitVec 32 := 1#32
  let arg10 : BitVec 32 := Scf.iv c0_i32_171 c1_i32_173 k0_t2
  let v492 : Index := Scalar.indexCast arg10
  let c32_236 : Index := 32#32
  ![v490.toNat, 6, v492.toNat, 32]
def k0_off36 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v496 : Index := Scalar.indexCast v233
  let c7_i32_237 : BitVec 32 := 7#32
  let v497 : Index := Scalar.indexCast c7_i32_237
  let c0_i32_171 : BitVec 32 := 0#32
  let c1_i32_173 : BitVec 32 := 1#32
  let arg10 : BitVec 32 := Scf.iv c0_i32_171 c1_i32_173 k0_t2
  let v498 : Index := Scalar.indexCast arg10
  let c32_238 : Index := 32#32
  ![v496.toNat, 7, v498.toNat, 32]
def k0_off37 (i : grid0.Coords) (k0_t1 : Fin (k0_t1_loop i).trips) (k0_t2 : Fin k0_t2_loop.trips) : Fin 3 → Nat :=
  let c0_i32_77 : BitVec 32 := 0#32
  let c1_i32_80 : BitVec 32 := 1#32
  let arg8 : BitVec 32 := Scf.iv c0_i32_77 c1_i32_80 k0_t1
  let c2_i32_128 : BitVec 32 := 2#32
  let v234 : BitVec 32 := Scalar.remsi arg8 c2_i32_128
  let v502 : Index := Scalar.indexCast v234
  let c0_i32_171 : BitVec 32 := 0#32
  let c1_i32_173 : BitVec 32 := 1#32
  let arg10 : BitVec 32 := Scf.iv c0_i32_171 c1_i32_173 k0_t2
  let v503 : Index := Scalar.indexCast arg10
  let c32_239 : Index := 32#32
  ![v502.toNat, v503.toNat, 32]
def k0_off38 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v507 : Index := Scalar.indexCast v233
  let c0_i32_240 : BitVec 32 := 0#32
  let v508 : Index := Scalar.indexCast c0_i32_240
  let c0_i32_171 : BitVec 32 := 0#32
  let c1_i32_173 : BitVec 32 := 1#32
  let arg10 : BitVec 32 := Scf.iv c0_i32_171 c1_i32_173 k0_t2
  let v509 : Index := Scalar.indexCast arg10
  let c48 : Index := 48#32
  ![v507.toNat, 0, v509.toNat, 48]
def k0_off39 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v512 : Index := Scalar.indexCast v233
  let c1_i32_241 : BitVec 32 := 1#32
  let v513 : Index := Scalar.indexCast c1_i32_241
  let c0_i32_171 : BitVec 32 := 0#32
  let c1_i32_173 : BitVec 32 := 1#32
  let arg10 : BitVec 32 := Scf.iv c0_i32_171 c1_i32_173 k0_t2
  let v514 : Index := Scalar.indexCast arg10
  let c48_242 : Index := 48#32
  ![v512.toNat, 1, v514.toNat, 48]
def k0_off40 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v518 : Index := Scalar.indexCast v233
  let c2_i32_243 : BitVec 32 := 2#32
  let v519 : Index := Scalar.indexCast c2_i32_243
  let c0_i32_171 : BitVec 32 := 0#32
  let c1_i32_173 : BitVec 32 := 1#32
  let arg10 : BitVec 32 := Scf.iv c0_i32_171 c1_i32_173 k0_t2
  let v520 : Index := Scalar.indexCast arg10
  let c48_244 : Index := 48#32
  ![v518.toNat, 2, v520.toNat, 48]
def k0_off41 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v524 : Index := Scalar.indexCast v233
  let c3_i32_245 : BitVec 32 := 3#32
  let v525 : Index := Scalar.indexCast c3_i32_245
  let c0_i32_171 : BitVec 32 := 0#32
  let c1_i32_173 : BitVec 32 := 1#32
  let arg10 : BitVec 32 := Scf.iv c0_i32_171 c1_i32_173 k0_t2
  let v526 : Index := Scalar.indexCast arg10
  let c48_246 : Index := 48#32
  ![v524.toNat, 3, v526.toNat, 48]
def k0_off42 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v530 : Index := Scalar.indexCast v233
  let c4_i32_247 : BitVec 32 := 4#32
  let v531 : Index := Scalar.indexCast c4_i32_247
  let c0_i32_171 : BitVec 32 := 0#32
  let c1_i32_173 : BitVec 32 := 1#32
  let arg10 : BitVec 32 := Scf.iv c0_i32_171 c1_i32_173 k0_t2
  let v532 : Index := Scalar.indexCast arg10
  let c48_248 : Index := 48#32
  ![v530.toNat, 4, v532.toNat, 48]
def k0_off43 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v536 : Index := Scalar.indexCast v233
  let c5_i32_249 : BitVec 32 := 5#32
  let v537 : Index := Scalar.indexCast c5_i32_249
  let c0_i32_171 : BitVec 32 := 0#32
  let c1_i32_173 : BitVec 32 := 1#32
  let arg10 : BitVec 32 := Scf.iv c0_i32_171 c1_i32_173 k0_t2
  let v538 : Index := Scalar.indexCast arg10
  let c48_250 : Index := 48#32
  ![v536.toNat, 5, v538.toNat, 48]
def k0_off44 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v542 : Index := Scalar.indexCast v233
  let c6_i32_251 : BitVec 32 := 6#32
  let v543 : Index := Scalar.indexCast c6_i32_251
  let c0_i32_171 : BitVec 32 := 0#32
  let c1_i32_173 : BitVec 32 := 1#32
  let arg10 : BitVec 32 := Scf.iv c0_i32_171 c1_i32_173 k0_t2
  let v544 : Index := Scalar.indexCast arg10
  let c48_252 : Index := 48#32
  ![v542.toNat, 6, v544.toNat, 48]
def k0_off45 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v548 : Index := Scalar.indexCast v233
  let c7_i32_253 : BitVec 32 := 7#32
  let v549 : Index := Scalar.indexCast c7_i32_253
  let c0_i32_171 : BitVec 32 := 0#32
  let c1_i32_173 : BitVec 32 := 1#32
  let arg10 : BitVec 32 := Scf.iv c0_i32_171 c1_i32_173 k0_t2
  let v550 : Index := Scalar.indexCast arg10
  let c48_254 : Index := 48#32
  ![v548.toNat, 7, v550.toNat, 48]
def k0_off46 (i : grid0.Coords) (k0_t1 : Fin (k0_t1_loop i).trips) (k0_t2 : Fin k0_t2_loop.trips) : Fin 3 → Nat :=
  let c0_i32_77 : BitVec 32 := 0#32
  let c1_i32_80 : BitVec 32 := 1#32
  let arg8 : BitVec 32 := Scf.iv c0_i32_77 c1_i32_80 k0_t1
  let c2_i32_128 : BitVec 32 := 2#32
  let v234 : BitVec 32 := Scalar.remsi arg8 c2_i32_128
  let v554 : Index := Scalar.indexCast v234
  let c0_i32_171 : BitVec 32 := 0#32
  let c1_i32_173 : BitVec 32 := 1#32
  let arg10 : BitVec 32 := Scf.iv c0_i32_171 c1_i32_173 k0_t2
  let v555 : Index := Scalar.indexCast arg10
  let c48_255 : Index := 48#32
  ![v554.toNat, v555.toNat, 48]
def k0_off47 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v559 : Index := Scalar.indexCast v233
  let c0_i32_256 : BitVec 32 := 0#32
  let v560 : Index := Scalar.indexCast c0_i32_256
  let c0_i32_171 : BitVec 32 := 0#32
  let c1_i32_173 : BitVec 32 := 1#32
  let arg10 : BitVec 32 := Scf.iv c0_i32_171 c1_i32_173 k0_t2
  let v561 : Index := Scalar.indexCast arg10
  let c64 : Index := 64#32
  ![v559.toNat, 0, v561.toNat, 64]
def k0_off48 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v564 : Index := Scalar.indexCast v233
  let c1_i32_257 : BitVec 32 := 1#32
  let v565 : Index := Scalar.indexCast c1_i32_257
  let c0_i32_171 : BitVec 32 := 0#32
  let c1_i32_173 : BitVec 32 := 1#32
  let arg10 : BitVec 32 := Scf.iv c0_i32_171 c1_i32_173 k0_t2
  let v566 : Index := Scalar.indexCast arg10
  let c64_258 : Index := 64#32
  ![v564.toNat, 1, v566.toNat, 64]
def k0_off49 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v570 : Index := Scalar.indexCast v233
  let c2_i32_259 : BitVec 32 := 2#32
  let v571 : Index := Scalar.indexCast c2_i32_259
  let c0_i32_171 : BitVec 32 := 0#32
  let c1_i32_173 : BitVec 32 := 1#32
  let arg10 : BitVec 32 := Scf.iv c0_i32_171 c1_i32_173 k0_t2
  let v572 : Index := Scalar.indexCast arg10
  let c64_260 : Index := 64#32
  ![v570.toNat, 2, v572.toNat, 64]
def k0_off50 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v576 : Index := Scalar.indexCast v233
  let c3_i32_261 : BitVec 32 := 3#32
  let v577 : Index := Scalar.indexCast c3_i32_261
  let c0_i32_171 : BitVec 32 := 0#32
  let c1_i32_173 : BitVec 32 := 1#32
  let arg10 : BitVec 32 := Scf.iv c0_i32_171 c1_i32_173 k0_t2
  let v578 : Index := Scalar.indexCast arg10
  let c64_262 : Index := 64#32
  ![v576.toNat, 3, v578.toNat, 64]
def k0_off51 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v582 : Index := Scalar.indexCast v233
  let c4_i32_263 : BitVec 32 := 4#32
  let v583 : Index := Scalar.indexCast c4_i32_263
  let c0_i32_171 : BitVec 32 := 0#32
  let c1_i32_173 : BitVec 32 := 1#32
  let arg10 : BitVec 32 := Scf.iv c0_i32_171 c1_i32_173 k0_t2
  let v584 : Index := Scalar.indexCast arg10
  let c64_264 : Index := 64#32
  ![v582.toNat, 4, v584.toNat, 64]
def k0_off52 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v588 : Index := Scalar.indexCast v233
  let c5_i32_265 : BitVec 32 := 5#32
  let v589 : Index := Scalar.indexCast c5_i32_265
  let c0_i32_171 : BitVec 32 := 0#32
  let c1_i32_173 : BitVec 32 := 1#32
  let arg10 : BitVec 32 := Scf.iv c0_i32_171 c1_i32_173 k0_t2
  let v590 : Index := Scalar.indexCast arg10
  let c64_266 : Index := 64#32
  ![v588.toNat, 5, v590.toNat, 64]
def k0_off53 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v594 : Index := Scalar.indexCast v233
  let c6_i32_267 : BitVec 32 := 6#32
  let v595 : Index := Scalar.indexCast c6_i32_267
  let c0_i32_171 : BitVec 32 := 0#32
  let c1_i32_173 : BitVec 32 := 1#32
  let arg10 : BitVec 32 := Scf.iv c0_i32_171 c1_i32_173 k0_t2
  let v596 : Index := Scalar.indexCast arg10
  let c64_268 : Index := 64#32
  ![v594.toNat, 6, v596.toNat, 64]
def k0_off54 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v600 : Index := Scalar.indexCast v233
  let c7_i32_269 : BitVec 32 := 7#32
  let v601 : Index := Scalar.indexCast c7_i32_269
  let c0_i32_171 : BitVec 32 := 0#32
  let c1_i32_173 : BitVec 32 := 1#32
  let arg10 : BitVec 32 := Scf.iv c0_i32_171 c1_i32_173 k0_t2
  let v602 : Index := Scalar.indexCast arg10
  let c64_270 : Index := 64#32
  ![v600.toNat, 7, v602.toNat, 64]
def k0_off55 (i : grid0.Coords) (k0_t1 : Fin (k0_t1_loop i).trips) (k0_t2 : Fin k0_t2_loop.trips) : Fin 3 → Nat :=
  let c0_i32_77 : BitVec 32 := 0#32
  let c1_i32_80 : BitVec 32 := 1#32
  let arg8 : BitVec 32 := Scf.iv c0_i32_77 c1_i32_80 k0_t1
  let c2_i32_128 : BitVec 32 := 2#32
  let v234 : BitVec 32 := Scalar.remsi arg8 c2_i32_128
  let v606 : Index := Scalar.indexCast v234
  let c0_i32_171 : BitVec 32 := 0#32
  let c1_i32_173 : BitVec 32 := 1#32
  let arg10 : BitVec 32 := Scf.iv c0_i32_171 c1_i32_173 k0_t2
  let v607 : Index := Scalar.indexCast arg10
  let c64_271 : Index := 64#32
  ![v606.toNat, v607.toNat, 64]
def k0_off56 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v611 : Index := Scalar.indexCast v233
  let c0_i32_272 : BitVec 32 := 0#32
  let v612 : Index := Scalar.indexCast c0_i32_272
  let c0_i32_171 : BitVec 32 := 0#32
  let c1_i32_173 : BitVec 32 := 1#32
  let arg10 : BitVec 32 := Scf.iv c0_i32_171 c1_i32_173 k0_t2
  let v613 : Index := Scalar.indexCast arg10
  let c80 : Index := 80#32
  ![v611.toNat, 0, v613.toNat, 80]
def k0_off57 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v616 : Index := Scalar.indexCast v233
  let c1_i32_273 : BitVec 32 := 1#32
  let v617 : Index := Scalar.indexCast c1_i32_273
  let c0_i32_171 : BitVec 32 := 0#32
  let c1_i32_173 : BitVec 32 := 1#32
  let arg10 : BitVec 32 := Scf.iv c0_i32_171 c1_i32_173 k0_t2
  let v618 : Index := Scalar.indexCast arg10
  let c80_274 : Index := 80#32
  ![v616.toNat, 1, v618.toNat, 80]
def k0_off58 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v622 : Index := Scalar.indexCast v233
  let c2_i32_275 : BitVec 32 := 2#32
  let v623 : Index := Scalar.indexCast c2_i32_275
  let c0_i32_171 : BitVec 32 := 0#32
  let c1_i32_173 : BitVec 32 := 1#32
  let arg10 : BitVec 32 := Scf.iv c0_i32_171 c1_i32_173 k0_t2
  let v624 : Index := Scalar.indexCast arg10
  let c80_276 : Index := 80#32
  ![v622.toNat, 2, v624.toNat, 80]
def k0_off59 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v628 : Index := Scalar.indexCast v233
  let c3_i32_277 : BitVec 32 := 3#32
  let v629 : Index := Scalar.indexCast c3_i32_277
  let c0_i32_171 : BitVec 32 := 0#32
  let c1_i32_173 : BitVec 32 := 1#32
  let arg10 : BitVec 32 := Scf.iv c0_i32_171 c1_i32_173 k0_t2
  let v630 : Index := Scalar.indexCast arg10
  let c80_278 : Index := 80#32
  ![v628.toNat, 3, v630.toNat, 80]
def k0_off60 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v634 : Index := Scalar.indexCast v233
  let c4_i32_279 : BitVec 32 := 4#32
  let v635 : Index := Scalar.indexCast c4_i32_279
  let c0_i32_171 : BitVec 32 := 0#32
  let c1_i32_173 : BitVec 32 := 1#32
  let arg10 : BitVec 32 := Scf.iv c0_i32_171 c1_i32_173 k0_t2
  let v636 : Index := Scalar.indexCast arg10
  let c80_280 : Index := 80#32
  ![v634.toNat, 4, v636.toNat, 80]
def k0_off61 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v640 : Index := Scalar.indexCast v233
  let c5_i32_281 : BitVec 32 := 5#32
  let v641 : Index := Scalar.indexCast c5_i32_281
  let c0_i32_171 : BitVec 32 := 0#32
  let c1_i32_173 : BitVec 32 := 1#32
  let arg10 : BitVec 32 := Scf.iv c0_i32_171 c1_i32_173 k0_t2
  let v642 : Index := Scalar.indexCast arg10
  let c80_282 : Index := 80#32
  ![v640.toNat, 5, v642.toNat, 80]
def k0_off62 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v646 : Index := Scalar.indexCast v233
  let c6_i32_283 : BitVec 32 := 6#32
  let v647 : Index := Scalar.indexCast c6_i32_283
  let c0_i32_171 : BitVec 32 := 0#32
  let c1_i32_173 : BitVec 32 := 1#32
  let arg10 : BitVec 32 := Scf.iv c0_i32_171 c1_i32_173 k0_t2
  let v648 : Index := Scalar.indexCast arg10
  let c80_284 : Index := 80#32
  ![v646.toNat, 6, v648.toNat, 80]
def k0_off63 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v652 : Index := Scalar.indexCast v233
  let c7_i32_285 : BitVec 32 := 7#32
  let v653 : Index := Scalar.indexCast c7_i32_285
  let c0_i32_171 : BitVec 32 := 0#32
  let c1_i32_173 : BitVec 32 := 1#32
  let arg10 : BitVec 32 := Scf.iv c0_i32_171 c1_i32_173 k0_t2
  let v654 : Index := Scalar.indexCast arg10
  let c80_286 : Index := 80#32
  ![v652.toNat, 7, v654.toNat, 80]
def k0_off64 (i : grid0.Coords) (k0_t1 : Fin (k0_t1_loop i).trips) (k0_t2 : Fin k0_t2_loop.trips) : Fin 3 → Nat :=
  let c0_i32_77 : BitVec 32 := 0#32
  let c1_i32_80 : BitVec 32 := 1#32
  let arg8 : BitVec 32 := Scf.iv c0_i32_77 c1_i32_80 k0_t1
  let c2_i32_128 : BitVec 32 := 2#32
  let v234 : BitVec 32 := Scalar.remsi arg8 c2_i32_128
  let v658 : Index := Scalar.indexCast v234
  let c0_i32_171 : BitVec 32 := 0#32
  let c1_i32_173 : BitVec 32 := 1#32
  let arg10 : BitVec 32 := Scf.iv c0_i32_171 c1_i32_173 k0_t2
  let v659 : Index := Scalar.indexCast arg10
  let c80_287 : Index := 80#32
  ![v658.toNat, v659.toNat, 80]
def k0_off65 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v663 : Index := Scalar.indexCast v233
  let c0_i32_288 : BitVec 32 := 0#32
  let v664 : Index := Scalar.indexCast c0_i32_288
  let c0_i32_171 : BitVec 32 := 0#32
  let c1_i32_173 : BitVec 32 := 1#32
  let arg10 : BitVec 32 := Scf.iv c0_i32_171 c1_i32_173 k0_t2
  let v665 : Index := Scalar.indexCast arg10
  let c96 : Index := 96#32
  ![v663.toNat, 0, v665.toNat, 96]
def k0_off66 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v668 : Index := Scalar.indexCast v233
  let c1_i32_289 : BitVec 32 := 1#32
  let v669 : Index := Scalar.indexCast c1_i32_289
  let c0_i32_171 : BitVec 32 := 0#32
  let c1_i32_173 : BitVec 32 := 1#32
  let arg10 : BitVec 32 := Scf.iv c0_i32_171 c1_i32_173 k0_t2
  let v670 : Index := Scalar.indexCast arg10
  let c96_290 : Index := 96#32
  ![v668.toNat, 1, v670.toNat, 96]
def k0_off67 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v674 : Index := Scalar.indexCast v233
  let c2_i32_291 : BitVec 32 := 2#32
  let v675 : Index := Scalar.indexCast c2_i32_291
  let c0_i32_171 : BitVec 32 := 0#32
  let c1_i32_173 : BitVec 32 := 1#32
  let arg10 : BitVec 32 := Scf.iv c0_i32_171 c1_i32_173 k0_t2
  let v676 : Index := Scalar.indexCast arg10
  let c96_292 : Index := 96#32
  ![v674.toNat, 2, v676.toNat, 96]
def k0_off68 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v680 : Index := Scalar.indexCast v233
  let c3_i32_293 : BitVec 32 := 3#32
  let v681 : Index := Scalar.indexCast c3_i32_293
  let c0_i32_171 : BitVec 32 := 0#32
  let c1_i32_173 : BitVec 32 := 1#32
  let arg10 : BitVec 32 := Scf.iv c0_i32_171 c1_i32_173 k0_t2
  let v682 : Index := Scalar.indexCast arg10
  let c96_294 : Index := 96#32
  ![v680.toNat, 3, v682.toNat, 96]
def k0_off69 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v686 : Index := Scalar.indexCast v233
  let c4_i32_295 : BitVec 32 := 4#32
  let v687 : Index := Scalar.indexCast c4_i32_295
  let c0_i32_171 : BitVec 32 := 0#32
  let c1_i32_173 : BitVec 32 := 1#32
  let arg10 : BitVec 32 := Scf.iv c0_i32_171 c1_i32_173 k0_t2
  let v688 : Index := Scalar.indexCast arg10
  let c96_296 : Index := 96#32
  ![v686.toNat, 4, v688.toNat, 96]
def k0_off70 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v692 : Index := Scalar.indexCast v233
  let c5_i32_297 : BitVec 32 := 5#32
  let v693 : Index := Scalar.indexCast c5_i32_297
  let c0_i32_171 : BitVec 32 := 0#32
  let c1_i32_173 : BitVec 32 := 1#32
  let arg10 : BitVec 32 := Scf.iv c0_i32_171 c1_i32_173 k0_t2
  let v694 : Index := Scalar.indexCast arg10
  let c96_298 : Index := 96#32
  ![v692.toNat, 5, v694.toNat, 96]
def k0_off71 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v698 : Index := Scalar.indexCast v233
  let c6_i32_299 : BitVec 32 := 6#32
  let v699 : Index := Scalar.indexCast c6_i32_299
  let c0_i32_171 : BitVec 32 := 0#32
  let c1_i32_173 : BitVec 32 := 1#32
  let arg10 : BitVec 32 := Scf.iv c0_i32_171 c1_i32_173 k0_t2
  let v700 : Index := Scalar.indexCast arg10
  let c96_300 : Index := 96#32
  ![v698.toNat, 6, v700.toNat, 96]
def k0_off72 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v704 : Index := Scalar.indexCast v233
  let c7_i32_301 : BitVec 32 := 7#32
  let v705 : Index := Scalar.indexCast c7_i32_301
  let c0_i32_171 : BitVec 32 := 0#32
  let c1_i32_173 : BitVec 32 := 1#32
  let arg10 : BitVec 32 := Scf.iv c0_i32_171 c1_i32_173 k0_t2
  let v706 : Index := Scalar.indexCast arg10
  let c96_302 : Index := 96#32
  ![v704.toNat, 7, v706.toNat, 96]
def k0_off73 (i : grid0.Coords) (k0_t1 : Fin (k0_t1_loop i).trips) (k0_t2 : Fin k0_t2_loop.trips) : Fin 3 → Nat :=
  let c0_i32_77 : BitVec 32 := 0#32
  let c1_i32_80 : BitVec 32 := 1#32
  let arg8 : BitVec 32 := Scf.iv c0_i32_77 c1_i32_80 k0_t1
  let c2_i32_128 : BitVec 32 := 2#32
  let v234 : BitVec 32 := Scalar.remsi arg8 c2_i32_128
  let v710 : Index := Scalar.indexCast v234
  let c0_i32_171 : BitVec 32 := 0#32
  let c1_i32_173 : BitVec 32 := 1#32
  let arg10 : BitVec 32 := Scf.iv c0_i32_171 c1_i32_173 k0_t2
  let v711 : Index := Scalar.indexCast arg10
  let c96_303 : Index := 96#32
  ![v710.toNat, v711.toNat, 96]
def k0_off74 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v715 : Index := Scalar.indexCast v233
  let c0_i32_304 : BitVec 32 := 0#32
  let v716 : Index := Scalar.indexCast c0_i32_304
  let c0_i32_171 : BitVec 32 := 0#32
  let c1_i32_173 : BitVec 32 := 1#32
  let arg10 : BitVec 32 := Scf.iv c0_i32_171 c1_i32_173 k0_t2
  let v717 : Index := Scalar.indexCast arg10
  let c112 : Index := 112#32
  ![v715.toNat, 0, v717.toNat, 112]
def k0_off75 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v720 : Index := Scalar.indexCast v233
  let c1_i32_305 : BitVec 32 := 1#32
  let v721 : Index := Scalar.indexCast c1_i32_305
  let c0_i32_171 : BitVec 32 := 0#32
  let c1_i32_173 : BitVec 32 := 1#32
  let arg10 : BitVec 32 := Scf.iv c0_i32_171 c1_i32_173 k0_t2
  let v722 : Index := Scalar.indexCast arg10
  let c112_306 : Index := 112#32
  ![v720.toNat, 1, v722.toNat, 112]
def k0_off76 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v726 : Index := Scalar.indexCast v233
  let c2_i32_307 : BitVec 32 := 2#32
  let v727 : Index := Scalar.indexCast c2_i32_307
  let c0_i32_171 : BitVec 32 := 0#32
  let c1_i32_173 : BitVec 32 := 1#32
  let arg10 : BitVec 32 := Scf.iv c0_i32_171 c1_i32_173 k0_t2
  let v728 : Index := Scalar.indexCast arg10
  let c112_308 : Index := 112#32
  ![v726.toNat, 2, v728.toNat, 112]
def k0_off77 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v732 : Index := Scalar.indexCast v233
  let c3_i32_309 : BitVec 32 := 3#32
  let v733 : Index := Scalar.indexCast c3_i32_309
  let c0_i32_171 : BitVec 32 := 0#32
  let c1_i32_173 : BitVec 32 := 1#32
  let arg10 : BitVec 32 := Scf.iv c0_i32_171 c1_i32_173 k0_t2
  let v734 : Index := Scalar.indexCast arg10
  let c112_310 : Index := 112#32
  ![v732.toNat, 3, v734.toNat, 112]
def k0_off78 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v738 : Index := Scalar.indexCast v233
  let c4_i32_311 : BitVec 32 := 4#32
  let v739 : Index := Scalar.indexCast c4_i32_311
  let c0_i32_171 : BitVec 32 := 0#32
  let c1_i32_173 : BitVec 32 := 1#32
  let arg10 : BitVec 32 := Scf.iv c0_i32_171 c1_i32_173 k0_t2
  let v740 : Index := Scalar.indexCast arg10
  let c112_312 : Index := 112#32
  ![v738.toNat, 4, v740.toNat, 112]
def k0_off79 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v744 : Index := Scalar.indexCast v233
  let c5_i32_313 : BitVec 32 := 5#32
  let v745 : Index := Scalar.indexCast c5_i32_313
  let c0_i32_171 : BitVec 32 := 0#32
  let c1_i32_173 : BitVec 32 := 1#32
  let arg10 : BitVec 32 := Scf.iv c0_i32_171 c1_i32_173 k0_t2
  let v746 : Index := Scalar.indexCast arg10
  let c112_314 : Index := 112#32
  ![v744.toNat, 5, v746.toNat, 112]
def k0_off80 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v750 : Index := Scalar.indexCast v233
  let c6_i32_315 : BitVec 32 := 6#32
  let v751 : Index := Scalar.indexCast c6_i32_315
  let c0_i32_171 : BitVec 32 := 0#32
  let c1_i32_173 : BitVec 32 := 1#32
  let arg10 : BitVec 32 := Scf.iv c0_i32_171 c1_i32_173 k0_t2
  let v752 : Index := Scalar.indexCast arg10
  let c112_316 : Index := 112#32
  ![v750.toNat, 6, v752.toNat, 112]
def k0_off81 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v756 : Index := Scalar.indexCast v233
  let c7_i32_317 : BitVec 32 := 7#32
  let v757 : Index := Scalar.indexCast c7_i32_317
  let c0_i32_171 : BitVec 32 := 0#32
  let c1_i32_173 : BitVec 32 := 1#32
  let arg10 : BitVec 32 := Scf.iv c0_i32_171 c1_i32_173 k0_t2
  let v758 : Index := Scalar.indexCast arg10
  let c112_318 : Index := 112#32
  ![v756.toNat, 7, v758.toNat, 112]
def k0_off82 (i : grid0.Coords) (k0_t1 : Fin (k0_t1_loop i).trips) (k0_t2 : Fin k0_t2_loop.trips) : Fin 3 → Nat :=
  let c0_i32_77 : BitVec 32 := 0#32
  let c1_i32_80 : BitVec 32 := 1#32
  let arg8 : BitVec 32 := Scf.iv c0_i32_77 c1_i32_80 k0_t1
  let c2_i32_128 : BitVec 32 := 2#32
  let v234 : BitVec 32 := Scalar.remsi arg8 c2_i32_128
  let v762 : Index := Scalar.indexCast v234
  let c0_i32_171 : BitVec 32 := 0#32
  let c1_i32_173 : BitVec 32 := 1#32
  let arg10 : BitVec 32 := Scf.iv c0_i32_171 c1_i32_173 k0_t2
  let v763 : Index := Scalar.indexCast arg10
  let c112_319 : Index := 112#32
  ![v762.toNat, v763.toNat, 112]
def k0_off83 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v767 : Index := Scalar.indexCast v233
  let c0_i32_320 : BitVec 32 := 0#32
  let v768 : Index := Scalar.indexCast c0_i32_320
  let c0_i32_171 : BitVec 32 := 0#32
  let c1_i32_173 : BitVec 32 := 1#32
  let arg10 : BitVec 32 := Scf.iv c0_i32_171 c1_i32_173 k0_t2
  let v769 : Index := Scalar.indexCast arg10
  let c128 : Index := 128#32
  ![v767.toNat, 0, v769.toNat, 128]
def k0_off84 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v772 : Index := Scalar.indexCast v233
  let c1_i32_321 : BitVec 32 := 1#32
  let v773 : Index := Scalar.indexCast c1_i32_321
  let c0_i32_171 : BitVec 32 := 0#32
  let c1_i32_173 : BitVec 32 := 1#32
  let arg10 : BitVec 32 := Scf.iv c0_i32_171 c1_i32_173 k0_t2
  let v774 : Index := Scalar.indexCast arg10
  let c128_322 : Index := 128#32
  ![v772.toNat, 1, v774.toNat, 128]
def k0_off85 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v778 : Index := Scalar.indexCast v233
  let c2_i32_323 : BitVec 32 := 2#32
  let v779 : Index := Scalar.indexCast c2_i32_323
  let c0_i32_171 : BitVec 32 := 0#32
  let c1_i32_173 : BitVec 32 := 1#32
  let arg10 : BitVec 32 := Scf.iv c0_i32_171 c1_i32_173 k0_t2
  let v780 : Index := Scalar.indexCast arg10
  let c128_324 : Index := 128#32
  ![v778.toNat, 2, v780.toNat, 128]
def k0_off86 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v784 : Index := Scalar.indexCast v233
  let c3_i32_325 : BitVec 32 := 3#32
  let v785 : Index := Scalar.indexCast c3_i32_325
  let c0_i32_171 : BitVec 32 := 0#32
  let c1_i32_173 : BitVec 32 := 1#32
  let arg10 : BitVec 32 := Scf.iv c0_i32_171 c1_i32_173 k0_t2
  let v786 : Index := Scalar.indexCast arg10
  let c128_326 : Index := 128#32
  ![v784.toNat, 3, v786.toNat, 128]
def k0_off87 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v790 : Index := Scalar.indexCast v233
  let c4_i32_327 : BitVec 32 := 4#32
  let v791 : Index := Scalar.indexCast c4_i32_327
  let c0_i32_171 : BitVec 32 := 0#32
  let c1_i32_173 : BitVec 32 := 1#32
  let arg10 : BitVec 32 := Scf.iv c0_i32_171 c1_i32_173 k0_t2
  let v792 : Index := Scalar.indexCast arg10
  let c128_328 : Index := 128#32
  ![v790.toNat, 4, v792.toNat, 128]
def k0_off88 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v796 : Index := Scalar.indexCast v233
  let c5_i32_329 : BitVec 32 := 5#32
  let v797 : Index := Scalar.indexCast c5_i32_329
  let c0_i32_171 : BitVec 32 := 0#32
  let c1_i32_173 : BitVec 32 := 1#32
  let arg10 : BitVec 32 := Scf.iv c0_i32_171 c1_i32_173 k0_t2
  let v798 : Index := Scalar.indexCast arg10
  let c128_330 : Index := 128#32
  ![v796.toNat, 5, v798.toNat, 128]
def k0_off89 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v802 : Index := Scalar.indexCast v233
  let c6_i32_331 : BitVec 32 := 6#32
  let v803 : Index := Scalar.indexCast c6_i32_331
  let c0_i32_171 : BitVec 32 := 0#32
  let c1_i32_173 : BitVec 32 := 1#32
  let arg10 : BitVec 32 := Scf.iv c0_i32_171 c1_i32_173 k0_t2
  let v804 : Index := Scalar.indexCast arg10
  let c128_332 : Index := 128#32
  ![v802.toNat, 6, v804.toNat, 128]
def k0_off90 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v808 : Index := Scalar.indexCast v233
  let c7_i32_333 : BitVec 32 := 7#32
  let v809 : Index := Scalar.indexCast c7_i32_333
  let c0_i32_171 : BitVec 32 := 0#32
  let c1_i32_173 : BitVec 32 := 1#32
  let arg10 : BitVec 32 := Scf.iv c0_i32_171 c1_i32_173 k0_t2
  let v810 : Index := Scalar.indexCast arg10
  let c128_334 : Index := 128#32
  ![v808.toNat, 7, v810.toNat, 128]
def k0_off91 (i : grid0.Coords) (k0_t1 : Fin (k0_t1_loop i).trips) (k0_t2 : Fin k0_t2_loop.trips) : Fin 3 → Nat :=
  let c0_i32_77 : BitVec 32 := 0#32
  let c1_i32_80 : BitVec 32 := 1#32
  let arg8 : BitVec 32 := Scf.iv c0_i32_77 c1_i32_80 k0_t1
  let c2_i32_128 : BitVec 32 := 2#32
  let v234 : BitVec 32 := Scalar.remsi arg8 c2_i32_128
  let v814 : Index := Scalar.indexCast v234
  let c0_i32_171 : BitVec 32 := 0#32
  let c1_i32_173 : BitVec 32 := 1#32
  let arg10 : BitVec 32 := Scf.iv c0_i32_171 c1_i32_173 k0_t2
  let v815 : Index := Scalar.indexCast arg10
  let c128_335 : Index := 128#32
  ![v814.toNat, v815.toNat, 128]
def k0_off92 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v819 : Index := Scalar.indexCast v233
  let c0_i32_336 : BitVec 32 := 0#32
  let v820 : Index := Scalar.indexCast c0_i32_336
  let c0_i32_171 : BitVec 32 := 0#32
  let c1_i32_173 : BitVec 32 := 1#32
  let arg10 : BitVec 32 := Scf.iv c0_i32_171 c1_i32_173 k0_t2
  let v821 : Index := Scalar.indexCast arg10
  let c144 : Index := 144#32
  ![v819.toNat, 0, v821.toNat, 144]
def k0_off93 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v824 : Index := Scalar.indexCast v233
  let c1_i32_337 : BitVec 32 := 1#32
  let v825 : Index := Scalar.indexCast c1_i32_337
  let c0_i32_171 : BitVec 32 := 0#32
  let c1_i32_173 : BitVec 32 := 1#32
  let arg10 : BitVec 32 := Scf.iv c0_i32_171 c1_i32_173 k0_t2
  let v826 : Index := Scalar.indexCast arg10
  let c144_338 : Index := 144#32
  ![v824.toNat, 1, v826.toNat, 144]
def k0_off94 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v830 : Index := Scalar.indexCast v233
  let c2_i32_339 : BitVec 32 := 2#32
  let v831 : Index := Scalar.indexCast c2_i32_339
  let c0_i32_171 : BitVec 32 := 0#32
  let c1_i32_173 : BitVec 32 := 1#32
  let arg10 : BitVec 32 := Scf.iv c0_i32_171 c1_i32_173 k0_t2
  let v832 : Index := Scalar.indexCast arg10
  let c144_340 : Index := 144#32
  ![v830.toNat, 2, v832.toNat, 144]
def k0_off95 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v836 : Index := Scalar.indexCast v233
  let c3_i32_341 : BitVec 32 := 3#32
  let v837 : Index := Scalar.indexCast c3_i32_341
  let c0_i32_171 : BitVec 32 := 0#32
  let c1_i32_173 : BitVec 32 := 1#32
  let arg10 : BitVec 32 := Scf.iv c0_i32_171 c1_i32_173 k0_t2
  let v838 : Index := Scalar.indexCast arg10
  let c144_342 : Index := 144#32
  ![v836.toNat, 3, v838.toNat, 144]
def k0_off96 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v842 : Index := Scalar.indexCast v233
  let c4_i32_343 : BitVec 32 := 4#32
  let v843 : Index := Scalar.indexCast c4_i32_343
  let c0_i32_171 : BitVec 32 := 0#32
  let c1_i32_173 : BitVec 32 := 1#32
  let arg10 : BitVec 32 := Scf.iv c0_i32_171 c1_i32_173 k0_t2
  let v844 : Index := Scalar.indexCast arg10
  let c144_344 : Index := 144#32
  ![v842.toNat, 4, v844.toNat, 144]
def k0_off97 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v848 : Index := Scalar.indexCast v233
  let c5_i32_345 : BitVec 32 := 5#32
  let v849 : Index := Scalar.indexCast c5_i32_345
  let c0_i32_171 : BitVec 32 := 0#32
  let c1_i32_173 : BitVec 32 := 1#32
  let arg10 : BitVec 32 := Scf.iv c0_i32_171 c1_i32_173 k0_t2
  let v850 : Index := Scalar.indexCast arg10
  let c144_346 : Index := 144#32
  ![v848.toNat, 5, v850.toNat, 144]
def k0_off98 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v854 : Index := Scalar.indexCast v233
  let c6_i32_347 : BitVec 32 := 6#32
  let v855 : Index := Scalar.indexCast c6_i32_347
  let c0_i32_171 : BitVec 32 := 0#32
  let c1_i32_173 : BitVec 32 := 1#32
  let arg10 : BitVec 32 := Scf.iv c0_i32_171 c1_i32_173 k0_t2
  let v856 : Index := Scalar.indexCast arg10
  let c144_348 : Index := 144#32
  ![v854.toNat, 6, v856.toNat, 144]
def k0_off99 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v860 : Index := Scalar.indexCast v233
  let c7_i32_349 : BitVec 32 := 7#32
  let v861 : Index := Scalar.indexCast c7_i32_349
  let c0_i32_171 : BitVec 32 := 0#32
  let c1_i32_173 : BitVec 32 := 1#32
  let arg10 : BitVec 32 := Scf.iv c0_i32_171 c1_i32_173 k0_t2
  let v862 : Index := Scalar.indexCast arg10
  let c144_350 : Index := 144#32
  ![v860.toNat, 7, v862.toNat, 144]
def k0_off100 (i : grid0.Coords) (k0_t1 : Fin (k0_t1_loop i).trips) (k0_t2 : Fin k0_t2_loop.trips) : Fin 3 → Nat :=
  let c0_i32_77 : BitVec 32 := 0#32
  let c1_i32_80 : BitVec 32 := 1#32
  let arg8 : BitVec 32 := Scf.iv c0_i32_77 c1_i32_80 k0_t1
  let c2_i32_128 : BitVec 32 := 2#32
  let v234 : BitVec 32 := Scalar.remsi arg8 c2_i32_128
  let v866 : Index := Scalar.indexCast v234
  let c0_i32_171 : BitVec 32 := 0#32
  let c1_i32_173 : BitVec 32 := 1#32
  let arg10 : BitVec 32 := Scf.iv c0_i32_171 c1_i32_173 k0_t2
  let v867 : Index := Scalar.indexCast arg10
  let c144_351 : Index := 144#32
  ![v866.toNat, v867.toNat, 144]
def k0_off101 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v871 : Index := Scalar.indexCast v233
  let c0_i32_352 : BitVec 32 := 0#32
  let v872 : Index := Scalar.indexCast c0_i32_352
  let c0_i32_171 : BitVec 32 := 0#32
  let c1_i32_173 : BitVec 32 := 1#32
  let arg10 : BitVec 32 := Scf.iv c0_i32_171 c1_i32_173 k0_t2
  let v873 : Index := Scalar.indexCast arg10
  let c160 : Index := 160#32
  ![v871.toNat, 0, v873.toNat, 160]
def k0_off102 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v876 : Index := Scalar.indexCast v233
  let c1_i32_353 : BitVec 32 := 1#32
  let v877 : Index := Scalar.indexCast c1_i32_353
  let c0_i32_171 : BitVec 32 := 0#32
  let c1_i32_173 : BitVec 32 := 1#32
  let arg10 : BitVec 32 := Scf.iv c0_i32_171 c1_i32_173 k0_t2
  let v878 : Index := Scalar.indexCast arg10
  let c160_354 : Index := 160#32
  ![v876.toNat, 1, v878.toNat, 160]
def k0_off103 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v882 : Index := Scalar.indexCast v233
  let c2_i32_355 : BitVec 32 := 2#32
  let v883 : Index := Scalar.indexCast c2_i32_355
  let c0_i32_171 : BitVec 32 := 0#32
  let c1_i32_173 : BitVec 32 := 1#32
  let arg10 : BitVec 32 := Scf.iv c0_i32_171 c1_i32_173 k0_t2
  let v884 : Index := Scalar.indexCast arg10
  let c160_356 : Index := 160#32
  ![v882.toNat, 2, v884.toNat, 160]
def k0_off104 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v888 : Index := Scalar.indexCast v233
  let c3_i32_357 : BitVec 32 := 3#32
  let v889 : Index := Scalar.indexCast c3_i32_357
  let c0_i32_171 : BitVec 32 := 0#32
  let c1_i32_173 : BitVec 32 := 1#32
  let arg10 : BitVec 32 := Scf.iv c0_i32_171 c1_i32_173 k0_t2
  let v890 : Index := Scalar.indexCast arg10
  let c160_358 : Index := 160#32
  ![v888.toNat, 3, v890.toNat, 160]
def k0_off105 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v894 : Index := Scalar.indexCast v233
  let c4_i32_359 : BitVec 32 := 4#32
  let v895 : Index := Scalar.indexCast c4_i32_359
  let c0_i32_171 : BitVec 32 := 0#32
  let c1_i32_173 : BitVec 32 := 1#32
  let arg10 : BitVec 32 := Scf.iv c0_i32_171 c1_i32_173 k0_t2
  let v896 : Index := Scalar.indexCast arg10
  let c160_360 : Index := 160#32
  ![v894.toNat, 4, v896.toNat, 160]
def k0_off106 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v900 : Index := Scalar.indexCast v233
  let c5_i32_361 : BitVec 32 := 5#32
  let v901 : Index := Scalar.indexCast c5_i32_361
  let c0_i32_171 : BitVec 32 := 0#32
  let c1_i32_173 : BitVec 32 := 1#32
  let arg10 : BitVec 32 := Scf.iv c0_i32_171 c1_i32_173 k0_t2
  let v902 : Index := Scalar.indexCast arg10
  let c160_362 : Index := 160#32
  ![v900.toNat, 5, v902.toNat, 160]
def k0_off107 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v906 : Index := Scalar.indexCast v233
  let c6_i32_363 : BitVec 32 := 6#32
  let v907 : Index := Scalar.indexCast c6_i32_363
  let c0_i32_171 : BitVec 32 := 0#32
  let c1_i32_173 : BitVec 32 := 1#32
  let arg10 : BitVec 32 := Scf.iv c0_i32_171 c1_i32_173 k0_t2
  let v908 : Index := Scalar.indexCast arg10
  let c160_364 : Index := 160#32
  ![v906.toNat, 6, v908.toNat, 160]
def k0_off108 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v912 : Index := Scalar.indexCast v233
  let c7_i32_365 : BitVec 32 := 7#32
  let v913 : Index := Scalar.indexCast c7_i32_365
  let c0_i32_171 : BitVec 32 := 0#32
  let c1_i32_173 : BitVec 32 := 1#32
  let arg10 : BitVec 32 := Scf.iv c0_i32_171 c1_i32_173 k0_t2
  let v914 : Index := Scalar.indexCast arg10
  let c160_366 : Index := 160#32
  ![v912.toNat, 7, v914.toNat, 160]
def k0_off109 (i : grid0.Coords) (k0_t1 : Fin (k0_t1_loop i).trips) (k0_t2 : Fin k0_t2_loop.trips) : Fin 3 → Nat :=
  let c0_i32_77 : BitVec 32 := 0#32
  let c1_i32_80 : BitVec 32 := 1#32
  let arg8 : BitVec 32 := Scf.iv c0_i32_77 c1_i32_80 k0_t1
  let c2_i32_128 : BitVec 32 := 2#32
  let v234 : BitVec 32 := Scalar.remsi arg8 c2_i32_128
  let v918 : Index := Scalar.indexCast v234
  let c0_i32_171 : BitVec 32 := 0#32
  let c1_i32_173 : BitVec 32 := 1#32
  let arg10 : BitVec 32 := Scf.iv c0_i32_171 c1_i32_173 k0_t2
  let v919 : Index := Scalar.indexCast arg10
  let c160_367 : Index := 160#32
  ![v918.toNat, v919.toNat, 160]
def k0_off110 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v923 : Index := Scalar.indexCast v233
  let c0_i32_368 : BitVec 32 := 0#32
  let v924 : Index := Scalar.indexCast c0_i32_368
  let c0_i32_171 : BitVec 32 := 0#32
  let c1_i32_173 : BitVec 32 := 1#32
  let arg10 : BitVec 32 := Scf.iv c0_i32_171 c1_i32_173 k0_t2
  let v925 : Index := Scalar.indexCast arg10
  let c176 : Index := 176#32
  ![v923.toNat, 0, v925.toNat, 176]
def k0_off111 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v928 : Index := Scalar.indexCast v233
  let c1_i32_369 : BitVec 32 := 1#32
  let v929 : Index := Scalar.indexCast c1_i32_369
  let c0_i32_171 : BitVec 32 := 0#32
  let c1_i32_173 : BitVec 32 := 1#32
  let arg10 : BitVec 32 := Scf.iv c0_i32_171 c1_i32_173 k0_t2
  let v930 : Index := Scalar.indexCast arg10
  let c176_370 : Index := 176#32
  ![v928.toNat, 1, v930.toNat, 176]
def k0_off112 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v934 : Index := Scalar.indexCast v233
  let c2_i32_371 : BitVec 32 := 2#32
  let v935 : Index := Scalar.indexCast c2_i32_371
  let c0_i32_171 : BitVec 32 := 0#32
  let c1_i32_173 : BitVec 32 := 1#32
  let arg10 : BitVec 32 := Scf.iv c0_i32_171 c1_i32_173 k0_t2
  let v936 : Index := Scalar.indexCast arg10
  let c176_372 : Index := 176#32
  ![v934.toNat, 2, v936.toNat, 176]
def k0_off113 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v940 : Index := Scalar.indexCast v233
  let c3_i32_373 : BitVec 32 := 3#32
  let v941 : Index := Scalar.indexCast c3_i32_373
  let c0_i32_171 : BitVec 32 := 0#32
  let c1_i32_173 : BitVec 32 := 1#32
  let arg10 : BitVec 32 := Scf.iv c0_i32_171 c1_i32_173 k0_t2
  let v942 : Index := Scalar.indexCast arg10
  let c176_374 : Index := 176#32
  ![v940.toNat, 3, v942.toNat, 176]
def k0_off114 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v946 : Index := Scalar.indexCast v233
  let c4_i32_375 : BitVec 32 := 4#32
  let v947 : Index := Scalar.indexCast c4_i32_375
  let c0_i32_171 : BitVec 32 := 0#32
  let c1_i32_173 : BitVec 32 := 1#32
  let arg10 : BitVec 32 := Scf.iv c0_i32_171 c1_i32_173 k0_t2
  let v948 : Index := Scalar.indexCast arg10
  let c176_376 : Index := 176#32
  ![v946.toNat, 4, v948.toNat, 176]
def k0_off115 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v952 : Index := Scalar.indexCast v233
  let c5_i32_377 : BitVec 32 := 5#32
  let v953 : Index := Scalar.indexCast c5_i32_377
  let c0_i32_171 : BitVec 32 := 0#32
  let c1_i32_173 : BitVec 32 := 1#32
  let arg10 : BitVec 32 := Scf.iv c0_i32_171 c1_i32_173 k0_t2
  let v954 : Index := Scalar.indexCast arg10
  let c176_378 : Index := 176#32
  ![v952.toNat, 5, v954.toNat, 176]
def k0_off116 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v958 : Index := Scalar.indexCast v233
  let c6_i32_379 : BitVec 32 := 6#32
  let v959 : Index := Scalar.indexCast c6_i32_379
  let c0_i32_171 : BitVec 32 := 0#32
  let c1_i32_173 : BitVec 32 := 1#32
  let arg10 : BitVec 32 := Scf.iv c0_i32_171 c1_i32_173 k0_t2
  let v960 : Index := Scalar.indexCast arg10
  let c176_380 : Index := 176#32
  ![v958.toNat, 6, v960.toNat, 176]
def k0_off117 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v964 : Index := Scalar.indexCast v233
  let c7_i32_381 : BitVec 32 := 7#32
  let v965 : Index := Scalar.indexCast c7_i32_381
  let c0_i32_171 : BitVec 32 := 0#32
  let c1_i32_173 : BitVec 32 := 1#32
  let arg10 : BitVec 32 := Scf.iv c0_i32_171 c1_i32_173 k0_t2
  let v966 : Index := Scalar.indexCast arg10
  let c176_382 : Index := 176#32
  ![v964.toNat, 7, v966.toNat, 176]
def k0_off118 (i : grid0.Coords) (k0_t1 : Fin (k0_t1_loop i).trips) (k0_t2 : Fin k0_t2_loop.trips) : Fin 3 → Nat :=
  let c0_i32_77 : BitVec 32 := 0#32
  let c1_i32_80 : BitVec 32 := 1#32
  let arg8 : BitVec 32 := Scf.iv c0_i32_77 c1_i32_80 k0_t1
  let c2_i32_128 : BitVec 32 := 2#32
  let v234 : BitVec 32 := Scalar.remsi arg8 c2_i32_128
  let v970 : Index := Scalar.indexCast v234
  let c0_i32_171 : BitVec 32 := 0#32
  let c1_i32_173 : BitVec 32 := 1#32
  let arg10 : BitVec 32 := Scf.iv c0_i32_171 c1_i32_173 k0_t2
  let v971 : Index := Scalar.indexCast arg10
  let c176_383 : Index := 176#32
  ![v970.toNat, v971.toNat, 176]
def k0_off119 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v975 : Index := Scalar.indexCast v233
  let c0_i32_384 : BitVec 32 := 0#32
  let v976 : Index := Scalar.indexCast c0_i32_384
  let c0_i32_171 : BitVec 32 := 0#32
  let c1_i32_173 : BitVec 32 := 1#32
  let arg10 : BitVec 32 := Scf.iv c0_i32_171 c1_i32_173 k0_t2
  let v977 : Index := Scalar.indexCast arg10
  let c192 : Index := 192#32
  ![v975.toNat, 0, v977.toNat, 192]
def k0_off120 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v980 : Index := Scalar.indexCast v233
  let c1_i32_385 : BitVec 32 := 1#32
  let v981 : Index := Scalar.indexCast c1_i32_385
  let c0_i32_171 : BitVec 32 := 0#32
  let c1_i32_173 : BitVec 32 := 1#32
  let arg10 : BitVec 32 := Scf.iv c0_i32_171 c1_i32_173 k0_t2
  let v982 : Index := Scalar.indexCast arg10
  let c192_386 : Index := 192#32
  ![v980.toNat, 1, v982.toNat, 192]
def k0_off121 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v986 : Index := Scalar.indexCast v233
  let c2_i32_387 : BitVec 32 := 2#32
  let v987 : Index := Scalar.indexCast c2_i32_387
  let c0_i32_171 : BitVec 32 := 0#32
  let c1_i32_173 : BitVec 32 := 1#32
  let arg10 : BitVec 32 := Scf.iv c0_i32_171 c1_i32_173 k0_t2
  let v988 : Index := Scalar.indexCast arg10
  let c192_388 : Index := 192#32
  ![v986.toNat, 2, v988.toNat, 192]
def k0_off122 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v992 : Index := Scalar.indexCast v233
  let c3_i32_389 : BitVec 32 := 3#32
  let v993 : Index := Scalar.indexCast c3_i32_389
  let c0_i32_171 : BitVec 32 := 0#32
  let c1_i32_173 : BitVec 32 := 1#32
  let arg10 : BitVec 32 := Scf.iv c0_i32_171 c1_i32_173 k0_t2
  let v994 : Index := Scalar.indexCast arg10
  let c192_390 : Index := 192#32
  ![v992.toNat, 3, v994.toNat, 192]
def k0_off123 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v998 : Index := Scalar.indexCast v233
  let c4_i32_391 : BitVec 32 := 4#32
  let v999 : Index := Scalar.indexCast c4_i32_391
  let c0_i32_171 : BitVec 32 := 0#32
  let c1_i32_173 : BitVec 32 := 1#32
  let arg10 : BitVec 32 := Scf.iv c0_i32_171 c1_i32_173 k0_t2
  let v1000 : Index := Scalar.indexCast arg10
  let c192_392 : Index := 192#32
  ![v998.toNat, 4, v1000.toNat, 192]
def k0_off124 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v1004 : Index := Scalar.indexCast v233
  let c5_i32_393 : BitVec 32 := 5#32
  let v1005 : Index := Scalar.indexCast c5_i32_393
  let c0_i32_171 : BitVec 32 := 0#32
  let c1_i32_173 : BitVec 32 := 1#32
  let arg10 : BitVec 32 := Scf.iv c0_i32_171 c1_i32_173 k0_t2
  let v1006 : Index := Scalar.indexCast arg10
  let c192_394 : Index := 192#32
  ![v1004.toNat, 5, v1006.toNat, 192]
def k0_off125 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v1010 : Index := Scalar.indexCast v233
  let c6_i32_395 : BitVec 32 := 6#32
  let v1011 : Index := Scalar.indexCast c6_i32_395
  let c0_i32_171 : BitVec 32 := 0#32
  let c1_i32_173 : BitVec 32 := 1#32
  let arg10 : BitVec 32 := Scf.iv c0_i32_171 c1_i32_173 k0_t2
  let v1012 : Index := Scalar.indexCast arg10
  let c192_396 : Index := 192#32
  ![v1010.toNat, 6, v1012.toNat, 192]
def k0_off126 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v1016 : Index := Scalar.indexCast v233
  let c7_i32_397 : BitVec 32 := 7#32
  let v1017 : Index := Scalar.indexCast c7_i32_397
  let c0_i32_171 : BitVec 32 := 0#32
  let c1_i32_173 : BitVec 32 := 1#32
  let arg10 : BitVec 32 := Scf.iv c0_i32_171 c1_i32_173 k0_t2
  let v1018 : Index := Scalar.indexCast arg10
  let c192_398 : Index := 192#32
  ![v1016.toNat, 7, v1018.toNat, 192]
def k0_off127 (i : grid0.Coords) (k0_t1 : Fin (k0_t1_loop i).trips) (k0_t2 : Fin k0_t2_loop.trips) : Fin 3 → Nat :=
  let c0_i32_77 : BitVec 32 := 0#32
  let c1_i32_80 : BitVec 32 := 1#32
  let arg8 : BitVec 32 := Scf.iv c0_i32_77 c1_i32_80 k0_t1
  let c2_i32_128 : BitVec 32 := 2#32
  let v234 : BitVec 32 := Scalar.remsi arg8 c2_i32_128
  let v1022 : Index := Scalar.indexCast v234
  let c0_i32_171 : BitVec 32 := 0#32
  let c1_i32_173 : BitVec 32 := 1#32
  let arg10 : BitVec 32 := Scf.iv c0_i32_171 c1_i32_173 k0_t2
  let v1023 : Index := Scalar.indexCast arg10
  let c192_399 : Index := 192#32
  ![v1022.toNat, v1023.toNat, 192]
def k0_off128 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v1027 : Index := Scalar.indexCast v233
  let c0_i32_400 : BitVec 32 := 0#32
  let v1028 : Index := Scalar.indexCast c0_i32_400
  let c0_i32_171 : BitVec 32 := 0#32
  let c1_i32_173 : BitVec 32 := 1#32
  let arg10 : BitVec 32 := Scf.iv c0_i32_171 c1_i32_173 k0_t2
  let v1029 : Index := Scalar.indexCast arg10
  let c208 : Index := 208#32
  ![v1027.toNat, 0, v1029.toNat, 208]
def k0_off129 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v1032 : Index := Scalar.indexCast v233
  let c1_i32_401 : BitVec 32 := 1#32
  let v1033 : Index := Scalar.indexCast c1_i32_401
  let c0_i32_171 : BitVec 32 := 0#32
  let c1_i32_173 : BitVec 32 := 1#32
  let arg10 : BitVec 32 := Scf.iv c0_i32_171 c1_i32_173 k0_t2
  let v1034 : Index := Scalar.indexCast arg10
  let c208_402 : Index := 208#32
  ![v1032.toNat, 1, v1034.toNat, 208]
def k0_off130 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v1038 : Index := Scalar.indexCast v233
  let c2_i32_403 : BitVec 32 := 2#32
  let v1039 : Index := Scalar.indexCast c2_i32_403
  let c0_i32_171 : BitVec 32 := 0#32
  let c1_i32_173 : BitVec 32 := 1#32
  let arg10 : BitVec 32 := Scf.iv c0_i32_171 c1_i32_173 k0_t2
  let v1040 : Index := Scalar.indexCast arg10
  let c208_404 : Index := 208#32
  ![v1038.toNat, 2, v1040.toNat, 208]
def k0_off131 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v1044 : Index := Scalar.indexCast v233
  let c3_i32_405 : BitVec 32 := 3#32
  let v1045 : Index := Scalar.indexCast c3_i32_405
  let c0_i32_171 : BitVec 32 := 0#32
  let c1_i32_173 : BitVec 32 := 1#32
  let arg10 : BitVec 32 := Scf.iv c0_i32_171 c1_i32_173 k0_t2
  let v1046 : Index := Scalar.indexCast arg10
  let c208_406 : Index := 208#32
  ![v1044.toNat, 3, v1046.toNat, 208]
def k0_off132 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v1050 : Index := Scalar.indexCast v233
  let c4_i32_407 : BitVec 32 := 4#32
  let v1051 : Index := Scalar.indexCast c4_i32_407
  let c0_i32_171 : BitVec 32 := 0#32
  let c1_i32_173 : BitVec 32 := 1#32
  let arg10 : BitVec 32 := Scf.iv c0_i32_171 c1_i32_173 k0_t2
  let v1052 : Index := Scalar.indexCast arg10
  let c208_408 : Index := 208#32
  ![v1050.toNat, 4, v1052.toNat, 208]
def k0_off133 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v1056 : Index := Scalar.indexCast v233
  let c5_i32_409 : BitVec 32 := 5#32
  let v1057 : Index := Scalar.indexCast c5_i32_409
  let c0_i32_171 : BitVec 32 := 0#32
  let c1_i32_173 : BitVec 32 := 1#32
  let arg10 : BitVec 32 := Scf.iv c0_i32_171 c1_i32_173 k0_t2
  let v1058 : Index := Scalar.indexCast arg10
  let c208_410 : Index := 208#32
  ![v1056.toNat, 5, v1058.toNat, 208]
def k0_off134 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v1062 : Index := Scalar.indexCast v233
  let c6_i32_411 : BitVec 32 := 6#32
  let v1063 : Index := Scalar.indexCast c6_i32_411
  let c0_i32_171 : BitVec 32 := 0#32
  let c1_i32_173 : BitVec 32 := 1#32
  let arg10 : BitVec 32 := Scf.iv c0_i32_171 c1_i32_173 k0_t2
  let v1064 : Index := Scalar.indexCast arg10
  let c208_412 : Index := 208#32
  ![v1062.toNat, 6, v1064.toNat, 208]
def k0_off135 (i : grid0.Coords) (k0_t1 : Fin (k0_t1_loop i).trips) (k0_t2 : Fin k0_t2_loop.trips) : Fin 4 → Nat :=
  let c0_i32_77 : BitVec 32 := 0#32
  let c1_i32_80 : BitVec 32 := 1#32
  let arg8 : BitVec 32 := Scf.iv c0_i32_77 c1_i32_80 k0_t1
  let c3_i32 : BitVec 32 := 3#32
  let v233 : BitVec 32 := Scalar.remsi arg8 c3_i32
  let v1068 : Index := Scalar.indexCast v233
  let c7_i32_413 : BitVec 32 := 7#32
  let v1069 : Index := Scalar.indexCast c7_i32_413
  let c0_i32_171 : BitVec 32 := 0#32
  let c1_i32_173 : BitVec 32 := 1#32
  let arg10 : BitVec 32 := Scf.iv c0_i32_171 c1_i32_173 k0_t2
  let v1070 : Index := Scalar.indexCast arg10
  let c208_414 : Index := 208#32
  ![v1068.toNat, 7, v1070.toNat, 208]
def k0_off136 (i : grid0.Coords) (k0_t1 : Fin (k0_t1_loop i).trips) (k0_t2 : Fin k0_t2_loop.trips) : Fin 3 → Nat :=
  let c0_i32_77 : BitVec 32 := 0#32
  let c1_i32_80 : BitVec 32 := 1#32
  let arg8 : BitVec 32 := Scf.iv c0_i32_77 c1_i32_80 k0_t1
  let c2_i32_128 : BitVec 32 := 2#32
  let v234 : BitVec 32 := Scalar.remsi arg8 c2_i32_128
  let v1074 : Index := Scalar.indexCast v234
  let c0_i32_171 : BitVec 32 := 0#32
  let c1_i32_173 : BitVec 32 := 1#32
  let arg10 : BitVec 32 := Scf.iv c0_i32_171 c1_i32_173 k0_t2
  let v1075 : Index := Scalar.indexCast arg10
  let c208_415 : Index := 208#32
  ![v1074.toNat, v1075.toNat, 208]
def k0_off137 (i : grid0.Coords) (k0_t1 : Fin (k0_t1_loop i).trips) : Fin 3 → Nat :=
  let c0_i32_77 : BitVec 32 := 0#32
  let c1_i32_80 : BitVec 32 := 1#32
  let arg8 : BitVec 32 := Scf.iv c0_i32_77 c1_i32_80 k0_t1
  let c2_i32_128 : BitVec 32 := 2#32
  let v234 : BitVec 32 := Scalar.remsi arg8 c2_i32_128
  let c0_i32_189 : BitVec 32 := 0#32
  let c0_i32_190 : BitVec 32 := 0#32
  ![v234.toNat, 0, 0]
def k0_off138 (i : grid0.Coords) (k0_t1 : Fin (k0_t1_loop i).trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c17_i32 : BitVec 32 := 17#32
  let v4 : BitVec 32 := Scalar.muli v1 c17_i32
  let c16_i32_0 : BitVec 32 := 16#32
  let v5 : BitVec 32 := Scalar.minsi v1 c16_i32_0
  let v6 : BitVec 32 := Scalar.addi v4 v5
  let c0_i32_77 : BitVec 32 := 0#32
  let c1_i32_80 : BitVec 32 := 1#32
  let arg8 : BitVec 32 := Scf.iv c0_i32_77 c1_i32_80 k0_t1
  let v312 : BitVec 32 := Scalar.addi v6 arg8
  let c0_i32_176 : BitVec 32 := 0#32
  let v314 : BitVec 1 := Scalar.cmpi .sgt v312 c0_i32_176
  let v315 : BitVec 32 := Scalar.extui v314
  let c0_i32_177 : BitVec 32 := 0#32
  let v316 : BitVec 1 := Scalar.cmpi .slt v312 c0_i32_177
  let v317 : BitVec 32 := Scalar.extui v316
  let v318 : BitVec 32 := Scalar.subi v315 v317
  let c14_i32_175 : BitVec 32 := 14#32
  let c0_i32_178 : BitVec 32 := 0#32
  let v319 : BitVec 1 := Scalar.cmpi .sgt c14_i32_175 c0_i32_178
  let v320 : BitVec 32 := Scalar.extui v319
  let c0_i32_179 : BitVec 32 := 0#32
  let v321 : BitVec 1 := Scalar.cmpi .slt c14_i32_175 c0_i32_179
  let v322 : BitVec 32 := Scalar.extui v321
  let v323 : BitVec 32 := Scalar.subi v320 v322
  let v324 : BitVec 1 := Scalar.cmpi .ne v318 v323
  let v325 : BitVec 32 := Scalar.remsi v312 c14_i32_175
  let c0_i32_180 : BitVec 32 := 0#32
  let v326 : BitVec 1 := Scalar.cmpi .ne v325 c0_i32_180
  let v327 : BitVec 1 := Scalar.andi v324 v326
  let v313 : BitVec 32 := Scalar.divsi v312 c14_i32_175
  let c1_i32_181 : BitVec 32 := 1#32
  let v328 : BitVec 32 := Scalar.subi v313 c1_i32_181
  let v329 : BitVec 32 := Scalar.select v327 v328 v313
  let c14_i32_182 : BitVec 32 := 14#32
  let c0_i32_183 : BitVec 32 := 0#32
  let v330 : BitVec 1 := Scalar.cmpi .eq c14_i32_182 c0_i32_183
  let c1_i32_184 : BitVec 32 := 1#32
  let v331 : BitVec 32 := Scalar.select v330 c1_i32_184 c14_i32_182
  let v332 : BitVec 32 := Scalar.remsi v312 v331
  let c0_i32_186 : BitVec 32 := 0#32
  let v334 : BitVec 1 := Scalar.cmpi .slt v332 c0_i32_186
  let c0_i32_187 : BitVec 32 := 0#32
  let v335 : BitVec 1 := Scalar.cmpi .slt v331 c0_i32_187
  let v336 : BitVec 1 := Scalar.xori v334 v335
  let c0_i32_185 : BitVec 32 := 0#32
  let v333 : BitVec 1 := Scalar.cmpi .ne v332 c0_i32_185
  let v337 : BitVec 1 := Scalar.andi v336 v333
  let v338 : BitVec 32 := Scalar.addi v332 v331
  let v339 : BitVec 32 := Scalar.select v337 v338 v332
  let c16_i32_188 : BitVec 32 := 16#32
  let v340 : BitVec 32 := Scalar.muli v339 c16_i32_188
  let c0_i32_191 : BitVec 32 := 0#32
  ![v329.toNat, v340.toNat, 0]
def k0_off139 (i : grid0.Coords) (k0_t1 : Fin (k0_t1_loop i).trips) : Fin 1 → Nat :=
  let c0_i32_77 : BitVec 32 := 0#32
  let c1_i32_80 : BitVec 32 := 1#32
  let arg8 : BitVec 32 := Scf.iv c0_i32_77 c1_i32_80 k0_t1
  let c2_i32_128 : BitVec 32 := 2#32
  let v234 : BitVec 32 := Scalar.remsi arg8 c2_i32_128
  ![v234.toNat]
@[reducible] def k0_t3_loop (i : grid0.Coords) : Scf.Loop 32 :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let v143 : BitVec 32 := Scalar.addi c0_i32_77 v142
  let c1_i32_81 : BitVec 32 := 1#32
  ⟨v146, v143, c1_i32_81⟩
def k0_cond3 (i : grid0.Coords) (k0_t3 : Fin (k0_t3_loop i).trips) : BitVec 1 :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32_129 : BitVec 32 := 3#32
  let v235 : BitVec 32 := Scalar.addi arg8 c3_i32_129
  let c1_i32_130 : BitVec 32 := 1#32
  let v236 : BitVec 32 := Scalar.subi v235 c1_i32_130
  let v237 : BitVec 1 := Scalar.cmpi .slt v236 v7
  let v238 : BitVec 32 := Scalar.extui v237
  let c0_i32_131 : BitVec 32 := 0#32
  let v239 : BitVec 1 := Scalar.cmpi .ne v238 c0_i32_131
  v239

def k0_off140 (i : grid0.Coords) (k0_t3 : Fin (k0_t3_loop i).trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32_198 : BitVec 32 := 3#32
  let v353 : BitVec 32 := Scalar.addi arg8 c3_i32_198
  let c1_i32_199 : BitVec 32 := 1#32
  let v354 : BitVec 32 := Scalar.subi v353 c1_i32_199
  let c3_i32_200 : BitVec 32 := 3#32
  let v355 : BitVec 32 := Scalar.remsi v354 c3_i32_200
  let c0_i32_229 : BitVec 32 := 0#32
  let c0_i32_230 : BitVec 32 := 0#32
  let c0_i32_231 : BitVec 32 := 0#32
  ![v355.toNat, 0, 0, 0]
def k0_off141 (i : grid0.Coords) (k0_t3 : Fin (k0_t3_loop i).trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c17_i32 : BitVec 32 := 17#32
  let v4 : BitVec 32 := Scalar.muli v1 c17_i32
  let c16_i32_0 : BitVec 32 := 16#32
  let v5 : BitVec 32 := Scalar.minsi v1 c16_i32_0
  let v6 : BitVec 32 := Scalar.addi v4 v5
  let c0_i32_77 : BitVec 32 := 0#32
  let c17_i32_1 : BitVec 32 := 17#32
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32_196 : BitVec 32 := 3#32
  let v351 : BitVec 32 := Scalar.addi arg8 c3_i32_196
  let c1_i32_197 : BitVec 32 := 1#32
  let v352 : BitVec 32 := Scalar.subi v351 c1_i32_197
  let v356 : BitVec 32 := Scalar.addi v6 v352
  let c0_i32_202 : BitVec 32 := 0#32
  let v358 : BitVec 1 := Scalar.cmpi .sgt v356 c0_i32_202
  let v359 : BitVec 32 := Scalar.extui v358
  let c0_i32_203 : BitVec 32 := 0#32
  let v360 : BitVec 1 := Scalar.cmpi .slt v356 c0_i32_203
  let v361 : BitVec 32 := Scalar.extui v360
  let v362 : BitVec 32 := Scalar.subi v359 v361
  let c14_i32_201 : BitVec 32 := 14#32
  let c0_i32_204 : BitVec 32 := 0#32
  let v363 : BitVec 1 := Scalar.cmpi .sgt c14_i32_201 c0_i32_204
  let v364 : BitVec 32 := Scalar.extui v363
  let c0_i32_205 : BitVec 32 := 0#32
  let v365 : BitVec 1 := Scalar.cmpi .slt c14_i32_201 c0_i32_205
  let v366 : BitVec 32 := Scalar.extui v365
  let v367 : BitVec 32 := Scalar.subi v364 v366
  let v368 : BitVec 1 := Scalar.cmpi .ne v362 v367
  let v369 : BitVec 32 := Scalar.remsi v356 c14_i32_201
  let c0_i32_206 : BitVec 32 := 0#32
  let v370 : BitVec 1 := Scalar.cmpi .ne v369 c0_i32_206
  let v371 : BitVec 1 := Scalar.andi v368 v370
  let v357 : BitVec 32 := Scalar.divsi v356 c14_i32_201
  let c1_i32_207 : BitVec 32 := 1#32
  let v372 : BitVec 32 := Scalar.subi v357 c1_i32_207
  let v373 : BitVec 32 := Scalar.select v371 v372 v357
  let c0_i32_209 : BitVec 32 := 0#32
  let v375 : BitVec 1 := Scalar.cmpi .sgt v373 c0_i32_209
  let v376 : BitVec 32 := Scalar.extui v375
  let c0_i32_210 : BitVec 32 := 0#32
  let v377 : BitVec 1 := Scalar.cmpi .slt v373 c0_i32_210
  let v378 : BitVec 32 := Scalar.extui v377
  let v379 : BitVec 32 := Scalar.subi v376 v378
  let c24_i32_208 : BitVec 32 := 24#32
  let c0_i32_211 : BitVec 32 := 0#32
  let v380 : BitVec 1 := Scalar.cmpi .sgt c24_i32_208 c0_i32_211
  let v381 : BitVec 32 := Scalar.extui v380
  let c0_i32_212 : BitVec 32 := 0#32
  let v382 : BitVec 1 := Scalar.cmpi .slt c24_i32_208 c0_i32_212
  let v383 : BitVec 32 := Scalar.extui v382
  let v384 : BitVec 32 := Scalar.subi v381 v383
  let v385 : BitVec 1 := Scalar.cmpi .ne v379 v384
  let v386 : BitVec 32 := Scalar.remsi v373 c24_i32_208
  let c0_i32_213 : BitVec 32 := 0#32
  let v387 : BitVec 1 := Scalar.cmpi .ne v386 c0_i32_213
  let v388 : BitVec 1 := Scalar.andi v385 v387
  let v374 : BitVec 32 := Scalar.divsi v373 c24_i32_208
  let c1_i32_214 : BitVec 32 := 1#32
  let v389 : BitVec 32 := Scalar.subi v374 c1_i32_214
  let v390 : BitVec 32 := Scalar.select v388 v389 v374
  let c24_i32_215 : BitVec 32 := 24#32
  let c0_i32_216 : BitVec 32 := 0#32
  let v391 : BitVec 1 := Scalar.cmpi .eq c24_i32_215 c0_i32_216
  let c1_i32_217 : BitVec 32 := 1#32
  let v392 : BitVec 32 := Scalar.select v391 c1_i32_217 c24_i32_215
  let v393 : BitVec 32 := Scalar.remsi v373 v392
  let c0_i32_219 : BitVec 32 := 0#32
  let v395 : BitVec 1 := Scalar.cmpi .slt v393 c0_i32_219
  let c0_i32_220 : BitVec 32 := 0#32
  let v396 : BitVec 1 := Scalar.cmpi .slt v392 c0_i32_220
  let v397 : BitVec 1 := Scalar.xori v395 v396
  let c0_i32_218 : BitVec 32 := 0#32
  let v394 : BitVec 1 := Scalar.cmpi .ne v393 c0_i32_218
  let v398 : BitVec 1 := Scalar.andi v397 v394
  let v399 : BitVec 32 := Scalar.addi v393 v392
  let v400 : BitVec 32 := Scalar.select v398 v399 v393
  let c8_i32_228 : BitVec 32 := 8#32
  let v412 : BitVec 32 := Scalar.muli v400 c8_i32_228
  let c14_i32_221 : BitVec 32 := 14#32
  let c0_i32_222 : BitVec 32 := 0#32
  let v401 : BitVec 1 := Scalar.cmpi .eq c14_i32_221 c0_i32_222
  let c1_i32_223 : BitVec 32 := 1#32
  let v402 : BitVec 32 := Scalar.select v401 c1_i32_223 c14_i32_221
  let v403 : BitVec 32 := Scalar.remsi v356 v402
  let c0_i32_225 : BitVec 32 := 0#32
  let v405 : BitVec 1 := Scalar.cmpi .slt v403 c0_i32_225
  let c0_i32_226 : BitVec 32 := 0#32
  let v406 : BitVec 1 := Scalar.cmpi .slt v402 c0_i32_226
  let v407 : BitVec 1 := Scalar.xori v405 v406
  let c0_i32_224 : BitVec 32 := 0#32
  let v404 : BitVec 1 := Scalar.cmpi .ne v403 c0_i32_224
  let v408 : BitVec 1 := Scalar.andi v407 v404
  let v409 : BitVec 32 := Scalar.addi v403 v402
  let v410 : BitVec 32 := Scalar.select v408 v409 v403
  let c16_i32_227 : BitVec 32 := 16#32
  let v411 : BitVec 32 := Scalar.muli v410 c16_i32_227
  let c0_i32_232 : BitVec 32 := 0#32
  ![v390.toNat, v412.toNat, v411.toNat, 0]
def k0_off142 (i : grid0.Coords) (k0_t3 : Fin (k0_t3_loop i).trips) : Fin 1 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32_198 : BitVec 32 := 3#32
  let v353 : BitVec 32 := Scalar.addi arg8 c3_i32_198
  let c1_i32_199 : BitVec 32 := 1#32
  let v354 : BitVec 32 := Scalar.subi v353 c1_i32_199
  let c3_i32_200 : BitVec 32 := 3#32
  let v355 : BitVec 32 := Scalar.remsi v354 c3_i32_200
  ![v355.toNat]
def k0_off143 (i : grid0.Coords) (k0_t3 : Fin (k0_t3_loop i).trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let c0_i32_160 : BitVec 32 := 0#32
  let c0_i32_161 : BitVec 32 := 0#32
  let c0_i32_162 : BitVec 32 := 0#32
  ![v233.toNat, 0, 0, 0]
def k0_off144 (i : grid0.Coords) (k0_t3 : Fin (k0_t3_loop i).trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c17_i32 : BitVec 32 := 17#32
  let v4 : BitVec 32 := Scalar.muli v1 c17_i32
  let c16_i32_0 : BitVec 32 := 16#32
  let v5 : BitVec 32 := Scalar.minsi v1 c16_i32_0
  let v6 : BitVec 32 := Scalar.addi v4 v5
  let c0_i32_77 : BitVec 32 := 0#32
  let c17_i32_1 : BitVec 32 := 17#32
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let v240 : BitVec 32 := Scalar.addi v6 arg8
  let c0_i32_133 : BitVec 32 := 0#32
  let v242 : BitVec 1 := Scalar.cmpi .sgt v240 c0_i32_133
  let v243 : BitVec 32 := Scalar.extui v242
  let c0_i32_134 : BitVec 32 := 0#32
  let v244 : BitVec 1 := Scalar.cmpi .slt v240 c0_i32_134
  let v245 : BitVec 32 := Scalar.extui v244
  let v246 : BitVec 32 := Scalar.subi v243 v245
  let c14_i32_132 : BitVec 32 := 14#32
  let c0_i32_135 : BitVec 32 := 0#32
  let v247 : BitVec 1 := Scalar.cmpi .sgt c14_i32_132 c0_i32_135
  let v248 : BitVec 32 := Scalar.extui v247
  let c0_i32_136 : BitVec 32 := 0#32
  let v249 : BitVec 1 := Scalar.cmpi .slt c14_i32_132 c0_i32_136
  let v250 : BitVec 32 := Scalar.extui v249
  let v251 : BitVec 32 := Scalar.subi v248 v250
  let v252 : BitVec 1 := Scalar.cmpi .ne v246 v251
  let v253 : BitVec 32 := Scalar.remsi v240 c14_i32_132
  let c0_i32_137 : BitVec 32 := 0#32
  let v254 : BitVec 1 := Scalar.cmpi .ne v253 c0_i32_137
  let v255 : BitVec 1 := Scalar.andi v252 v254
  let v241 : BitVec 32 := Scalar.divsi v240 c14_i32_132
  let c1_i32_138 : BitVec 32 := 1#32
  let v256 : BitVec 32 := Scalar.subi v241 c1_i32_138
  let v257 : BitVec 32 := Scalar.select v255 v256 v241
  let c0_i32_140 : BitVec 32 := 0#32
  let v259 : BitVec 1 := Scalar.cmpi .sgt v257 c0_i32_140
  let v260 : BitVec 32 := Scalar.extui v259
  let c0_i32_141 : BitVec 32 := 0#32
  let v261 : BitVec 1 := Scalar.cmpi .slt v257 c0_i32_141
  let v262 : BitVec 32 := Scalar.extui v261
  let v263 : BitVec 32 := Scalar.subi v260 v262
  let c24_i32_139 : BitVec 32 := 24#32
  let c0_i32_142 : BitVec 32 := 0#32
  let v264 : BitVec 1 := Scalar.cmpi .sgt c24_i32_139 c0_i32_142
  let v265 : BitVec 32 := Scalar.extui v264
  let c0_i32_143 : BitVec 32 := 0#32
  let v266 : BitVec 1 := Scalar.cmpi .slt c24_i32_139 c0_i32_143
  let v267 : BitVec 32 := Scalar.extui v266
  let v268 : BitVec 32 := Scalar.subi v265 v267
  let v269 : BitVec 1 := Scalar.cmpi .ne v263 v268
  let v270 : BitVec 32 := Scalar.remsi v257 c24_i32_139
  let c0_i32_144 : BitVec 32 := 0#32
  let v271 : BitVec 1 := Scalar.cmpi .ne v270 c0_i32_144
  let v272 : BitVec 1 := Scalar.andi v269 v271
  let v258 : BitVec 32 := Scalar.divsi v257 c24_i32_139
  let c1_i32_145 : BitVec 32 := 1#32
  let v273 : BitVec 32 := Scalar.subi v258 c1_i32_145
  let v274 : BitVec 32 := Scalar.select v272 v273 v258
  let c24_i32_146 : BitVec 32 := 24#32
  let c0_i32_147 : BitVec 32 := 0#32
  let v275 : BitVec 1 := Scalar.cmpi .eq c24_i32_146 c0_i32_147
  let c1_i32_148 : BitVec 32 := 1#32
  let v276 : BitVec 32 := Scalar.select v275 c1_i32_148 c24_i32_146
  let v277 : BitVec 32 := Scalar.remsi v257 v276
  let c0_i32_150 : BitVec 32 := 0#32
  let v279 : BitVec 1 := Scalar.cmpi .slt v277 c0_i32_150
  let c0_i32_151 : BitVec 32 := 0#32
  let v280 : BitVec 1 := Scalar.cmpi .slt v276 c0_i32_151
  let v281 : BitVec 1 := Scalar.xori v279 v280
  let c0_i32_149 : BitVec 32 := 0#32
  let v278 : BitVec 1 := Scalar.cmpi .ne v277 c0_i32_149
  let v282 : BitVec 1 := Scalar.andi v281 v278
  let v283 : BitVec 32 := Scalar.addi v277 v276
  let v284 : BitVec 32 := Scalar.select v282 v283 v277
  let c8_i32_159 : BitVec 32 := 8#32
  let v296 : BitVec 32 := Scalar.muli v284 c8_i32_159
  let c14_i32_152 : BitVec 32 := 14#32
  let c0_i32_153 : BitVec 32 := 0#32
  let v285 : BitVec 1 := Scalar.cmpi .eq c14_i32_152 c0_i32_153
  let c1_i32_154 : BitVec 32 := 1#32
  let v286 : BitVec 32 := Scalar.select v285 c1_i32_154 c14_i32_152
  let v287 : BitVec 32 := Scalar.remsi v240 v286
  let c0_i32_156 : BitVec 32 := 0#32
  let v289 : BitVec 1 := Scalar.cmpi .slt v287 c0_i32_156
  let c0_i32_157 : BitVec 32 := 0#32
  let v290 : BitVec 1 := Scalar.cmpi .slt v286 c0_i32_157
  let v291 : BitVec 1 := Scalar.xori v289 v290
  let c0_i32_155 : BitVec 32 := 0#32
  let v288 : BitVec 1 := Scalar.cmpi .ne v287 c0_i32_155
  let v292 : BitVec 1 := Scalar.andi v291 v288
  let v293 : BitVec 32 := Scalar.addi v287 v286
  let v294 : BitVec 32 := Scalar.select v292 v293 v287
  let c16_i32_158 : BitVec 32 := 16#32
  let v295 : BitVec 32 := Scalar.muli v294 c16_i32_158
  let c0_i32_163 : BitVec 32 := 0#32
  ![v274.toNat, v296.toNat, v295.toNat, 0]
def k0_off145 (i : grid0.Coords) (k0_t3 : Fin (k0_t3_loop i).trips) : Fin 1 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  ![v233.toNat]
def k0_cond4 (i : grid0.Coords) (k0_t3 : Fin (k0_t3_loop i).trips) : BitVec 1 :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c2_i32_168 : BitVec 32 := 2#32
  let v307 : BitVec 1 := Scalar.cmpi .sge arg8 c2_i32_168
  let v308 : BitVec 32 := Scalar.extui v307
  let c0_i32_169 : BitVec 32 := 0#32
  let v309 : BitVec 1 := Scalar.cmpi .ne v308 c0_i32_169
  v309

def k0_off146 (i : grid0.Coords) (k0_t3 : Fin (k0_t3_loop i).trips) : Fin 3 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c2_i32_128 : BitVec 32 := 2#32
  let v234 : BitVec 32 := Scalar.remsi arg8 c2_i32_128
  let c0_i32_211 : BitVec 32 := 0#32
  let c0_i32_212 : BitVec 32 := 0#32
  ![v234.toNat, 0, 0]
def k0_off147 (i : grid0.Coords) (k0_t3 : Fin (k0_t3_loop i).trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c17_i32 : BitVec 32 := 17#32
  let v4 : BitVec 32 := Scalar.muli v1 c17_i32
  let c16_i32_0 : BitVec 32 := 16#32
  let v5 : BitVec 32 := Scalar.minsi v1 c16_i32_0
  let v6 : BitVec 32 := Scalar.addi v4 v5
  let c0_i32_77 : BitVec 32 := 0#32
  let c17_i32_1 : BitVec 32 := 17#32
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c2_i32_196 : BitVec 32 := 2#32
  let v351 : BitVec 32 := Scalar.subi arg8 c2_i32_196
  let v352 : BitVec 32 := Scalar.addi v6 v351
  let c0_i32_198 : BitVec 32 := 0#32
  let v354 : BitVec 1 := Scalar.cmpi .sgt v352 c0_i32_198
  let v355 : BitVec 32 := Scalar.extui v354
  let c0_i32_199 : BitVec 32 := 0#32
  let v356 : BitVec 1 := Scalar.cmpi .slt v352 c0_i32_199
  let v357 : BitVec 32 := Scalar.extui v356
  let v358 : BitVec 32 := Scalar.subi v355 v357
  let c14_i32_197 : BitVec 32 := 14#32
  let c0_i32_200 : BitVec 32 := 0#32
  let v359 : BitVec 1 := Scalar.cmpi .sgt c14_i32_197 c0_i32_200
  let v360 : BitVec 32 := Scalar.extui v359
  let c0_i32_201 : BitVec 32 := 0#32
  let v361 : BitVec 1 := Scalar.cmpi .slt c14_i32_197 c0_i32_201
  let v362 : BitVec 32 := Scalar.extui v361
  let v363 : BitVec 32 := Scalar.subi v360 v362
  let v364 : BitVec 1 := Scalar.cmpi .ne v358 v363
  let v365 : BitVec 32 := Scalar.remsi v352 c14_i32_197
  let c0_i32_202 : BitVec 32 := 0#32
  let v366 : BitVec 1 := Scalar.cmpi .ne v365 c0_i32_202
  let v367 : BitVec 1 := Scalar.andi v364 v366
  let v353 : BitVec 32 := Scalar.divsi v352 c14_i32_197
  let c1_i32_203 : BitVec 32 := 1#32
  let v368 : BitVec 32 := Scalar.subi v353 c1_i32_203
  let v369 : BitVec 32 := Scalar.select v367 v368 v353
  let c14_i32_204 : BitVec 32 := 14#32
  let c0_i32_205 : BitVec 32 := 0#32
  let v370 : BitVec 1 := Scalar.cmpi .eq c14_i32_204 c0_i32_205
  let c1_i32_206 : BitVec 32 := 1#32
  let v371 : BitVec 32 := Scalar.select v370 c1_i32_206 c14_i32_204
  let v372 : BitVec 32 := Scalar.remsi v352 v371
  let c0_i32_208 : BitVec 32 := 0#32
  let v374 : BitVec 1 := Scalar.cmpi .slt v372 c0_i32_208
  let c0_i32_209 : BitVec 32 := 0#32
  let v375 : BitVec 1 := Scalar.cmpi .slt v371 c0_i32_209
  let v376 : BitVec 1 := Scalar.xori v374 v375
  let c0_i32_207 : BitVec 32 := 0#32
  let v373 : BitVec 1 := Scalar.cmpi .ne v372 c0_i32_207
  let v377 : BitVec 1 := Scalar.andi v376 v373
  let v378 : BitVec 32 := Scalar.addi v372 v371
  let v379 : BitVec 32 := Scalar.select v377 v378 v372
  let c16_i32_210 : BitVec 32 := 16#32
  let v380 : BitVec 32 := Scalar.muli v379 c16_i32_210
  let c0_i32_213 : BitVec 32 := 0#32
  ![v369.toNat, v380.toNat, 0]
def k0_off148 (i : grid0.Coords) (k0_t3 : Fin (k0_t3_loop i).trips) : Fin 1 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c2_i32_128 : BitVec 32 := 2#32
  let v234 : BitVec 32 := Scalar.remsi arg8 c2_i32_128
  ![v234.toNat]
@[reducible] def k0_t4_loop : Scf.Loop 32 :=
  let c0_i32_171 : BitVec 32 := 0#32
  let c16_i32_172 : BitVec 32 := 16#32
  let v310 : BitVec 32 := Scalar.addi c0_i32_171 c16_i32_172
  let c1_i32_173 : BitVec 32 := 1#32
  ⟨c0_i32_171, v310, c1_i32_173⟩
def k0_off149 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v351 : Index := Scalar.indexCast v233
  let c0_i32_196 : BitVec 32 := 0#32
  let v352 : Index := Scalar.indexCast c0_i32_196
  let c0_i32_171 : BitVec 32 := 0#32
  let c1_i32_173 : BitVec 32 := 1#32
  let arg10 : BitVec 32 := Scf.iv c0_i32_171 c1_i32_173 k0_t4
  let v353 : Index := Scalar.indexCast arg10
  let c0 : Index := 0#32
  ![v351.toNat, 0, v353.toNat, 0]
def k0_off150 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v356 : Index := Scalar.indexCast v233
  let c1_i32_197 : BitVec 32 := 1#32
  let v357 : Index := Scalar.indexCast c1_i32_197
  let c0_i32_171 : BitVec 32 := 0#32
  let c1_i32_173 : BitVec 32 := 1#32
  let arg10 : BitVec 32 := Scf.iv c0_i32_171 c1_i32_173 k0_t4
  let v358 : Index := Scalar.indexCast arg10
  let c0_198 : Index := 0#32
  ![v356.toNat, 1, v358.toNat, 0]
def k0_off151 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v362 : Index := Scalar.indexCast v233
  let c2_i32_199 : BitVec 32 := 2#32
  let v363 : Index := Scalar.indexCast c2_i32_199
  let c0_i32_171 : BitVec 32 := 0#32
  let c1_i32_173 : BitVec 32 := 1#32
  let arg10 : BitVec 32 := Scf.iv c0_i32_171 c1_i32_173 k0_t4
  let v364 : Index := Scalar.indexCast arg10
  let c0_200 : Index := 0#32
  ![v362.toNat, 2, v364.toNat, 0]
def k0_off152 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v368 : Index := Scalar.indexCast v233
  let c3_i32_201 : BitVec 32 := 3#32
  let v369 : Index := Scalar.indexCast c3_i32_201
  let c0_i32_171 : BitVec 32 := 0#32
  let c1_i32_173 : BitVec 32 := 1#32
  let arg10 : BitVec 32 := Scf.iv c0_i32_171 c1_i32_173 k0_t4
  let v370 : Index := Scalar.indexCast arg10
  let c0_202 : Index := 0#32
  ![v368.toNat, 3, v370.toNat, 0]
def k0_off153 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v374 : Index := Scalar.indexCast v233
  let c4_i32 : BitVec 32 := 4#32
  let v375 : Index := Scalar.indexCast c4_i32
  let c0_i32_171 : BitVec 32 := 0#32
  let c1_i32_173 : BitVec 32 := 1#32
  let arg10 : BitVec 32 := Scf.iv c0_i32_171 c1_i32_173 k0_t4
  let v376 : Index := Scalar.indexCast arg10
  let c0_203 : Index := 0#32
  ![v374.toNat, 4, v376.toNat, 0]
def k0_off154 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v380 : Index := Scalar.indexCast v233
  let c5_i32 : BitVec 32 := 5#32
  let v381 : Index := Scalar.indexCast c5_i32
  let c0_i32_171 : BitVec 32 := 0#32
  let c1_i32_173 : BitVec 32 := 1#32
  let arg10 : BitVec 32 := Scf.iv c0_i32_171 c1_i32_173 k0_t4
  let v382 : Index := Scalar.indexCast arg10
  let c0_204 : Index := 0#32
  ![v380.toNat, 5, v382.toNat, 0]
def k0_off155 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v386 : Index := Scalar.indexCast v233
  let c6_i32 : BitVec 32 := 6#32
  let v387 : Index := Scalar.indexCast c6_i32
  let c0_i32_171 : BitVec 32 := 0#32
  let c1_i32_173 : BitVec 32 := 1#32
  let arg10 : BitVec 32 := Scf.iv c0_i32_171 c1_i32_173 k0_t4
  let v388 : Index := Scalar.indexCast arg10
  let c0_205 : Index := 0#32
  ![v386.toNat, 6, v388.toNat, 0]
def k0_off156 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v392 : Index := Scalar.indexCast v233
  let c7_i32 : BitVec 32 := 7#32
  let v393 : Index := Scalar.indexCast c7_i32
  let c0_i32_171 : BitVec 32 := 0#32
  let c1_i32_173 : BitVec 32 := 1#32
  let arg10 : BitVec 32 := Scf.iv c0_i32_171 c1_i32_173 k0_t4
  let v394 : Index := Scalar.indexCast arg10
  let c0_206 : Index := 0#32
  ![v392.toNat, 7, v394.toNat, 0]
def k0_off157 (i : grid0.Coords) (k0_t3 : Fin (k0_t3_loop i).trips) (k0_t4 : Fin k0_t4_loop.trips) : Fin 3 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c2_i32_128 : BitVec 32 := 2#32
  let v234 : BitVec 32 := Scalar.remsi arg8 c2_i32_128
  let v398 : Index := Scalar.indexCast v234
  let c0_i32_171 : BitVec 32 := 0#32
  let c1_i32_173 : BitVec 32 := 1#32
  let arg10 : BitVec 32 := Scf.iv c0_i32_171 c1_i32_173 k0_t4
  let v399 : Index := Scalar.indexCast arg10
  let c0_207 : Index := 0#32
  ![v398.toNat, v399.toNat, 0]
def k0_off158 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v403 : Index := Scalar.indexCast v233
  let c0_i32_208 : BitVec 32 := 0#32
  let v404 : Index := Scalar.indexCast c0_i32_208
  let c0_i32_171 : BitVec 32 := 0#32
  let c1_i32_173 : BitVec 32 := 1#32
  let arg10 : BitVec 32 := Scf.iv c0_i32_171 c1_i32_173 k0_t4
  let v405 : Index := Scalar.indexCast arg10
  let c16 : Index := 16#32
  ![v403.toNat, 0, v405.toNat, 16]
def k0_off159 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v408 : Index := Scalar.indexCast v233
  let c1_i32_209 : BitVec 32 := 1#32
  let v409 : Index := Scalar.indexCast c1_i32_209
  let c0_i32_171 : BitVec 32 := 0#32
  let c1_i32_173 : BitVec 32 := 1#32
  let arg10 : BitVec 32 := Scf.iv c0_i32_171 c1_i32_173 k0_t4
  let v410 : Index := Scalar.indexCast arg10
  let c16_210 : Index := 16#32
  ![v408.toNat, 1, v410.toNat, 16]
def k0_off160 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v414 : Index := Scalar.indexCast v233
  let c2_i32_211 : BitVec 32 := 2#32
  let v415 : Index := Scalar.indexCast c2_i32_211
  let c0_i32_171 : BitVec 32 := 0#32
  let c1_i32_173 : BitVec 32 := 1#32
  let arg10 : BitVec 32 := Scf.iv c0_i32_171 c1_i32_173 k0_t4
  let v416 : Index := Scalar.indexCast arg10
  let c16_212 : Index := 16#32
  ![v414.toNat, 2, v416.toNat, 16]
def k0_off161 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v420 : Index := Scalar.indexCast v233
  let c3_i32_213 : BitVec 32 := 3#32
  let v421 : Index := Scalar.indexCast c3_i32_213
  let c0_i32_171 : BitVec 32 := 0#32
  let c1_i32_173 : BitVec 32 := 1#32
  let arg10 : BitVec 32 := Scf.iv c0_i32_171 c1_i32_173 k0_t4
  let v422 : Index := Scalar.indexCast arg10
  let c16_214 : Index := 16#32
  ![v420.toNat, 3, v422.toNat, 16]
def k0_off162 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v426 : Index := Scalar.indexCast v233
  let c4_i32_215 : BitVec 32 := 4#32
  let v427 : Index := Scalar.indexCast c4_i32_215
  let c0_i32_171 : BitVec 32 := 0#32
  let c1_i32_173 : BitVec 32 := 1#32
  let arg10 : BitVec 32 := Scf.iv c0_i32_171 c1_i32_173 k0_t4
  let v428 : Index := Scalar.indexCast arg10
  let c16_216 : Index := 16#32
  ![v426.toNat, 4, v428.toNat, 16]
def k0_off163 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v432 : Index := Scalar.indexCast v233
  let c5_i32_217 : BitVec 32 := 5#32
  let v433 : Index := Scalar.indexCast c5_i32_217
  let c0_i32_171 : BitVec 32 := 0#32
  let c1_i32_173 : BitVec 32 := 1#32
  let arg10 : BitVec 32 := Scf.iv c0_i32_171 c1_i32_173 k0_t4
  let v434 : Index := Scalar.indexCast arg10
  let c16_218 : Index := 16#32
  ![v432.toNat, 5, v434.toNat, 16]
def k0_off164 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v438 : Index := Scalar.indexCast v233
  let c6_i32_219 : BitVec 32 := 6#32
  let v439 : Index := Scalar.indexCast c6_i32_219
  let c0_i32_171 : BitVec 32 := 0#32
  let c1_i32_173 : BitVec 32 := 1#32
  let arg10 : BitVec 32 := Scf.iv c0_i32_171 c1_i32_173 k0_t4
  let v440 : Index := Scalar.indexCast arg10
  let c16_220 : Index := 16#32
  ![v438.toNat, 6, v440.toNat, 16]
def k0_off165 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v444 : Index := Scalar.indexCast v233
  let c7_i32_221 : BitVec 32 := 7#32
  let v445 : Index := Scalar.indexCast c7_i32_221
  let c0_i32_171 : BitVec 32 := 0#32
  let c1_i32_173 : BitVec 32 := 1#32
  let arg10 : BitVec 32 := Scf.iv c0_i32_171 c1_i32_173 k0_t4
  let v446 : Index := Scalar.indexCast arg10
  let c16_222 : Index := 16#32
  ![v444.toNat, 7, v446.toNat, 16]
def k0_off166 (i : grid0.Coords) (k0_t3 : Fin (k0_t3_loop i).trips) (k0_t4 : Fin k0_t4_loop.trips) : Fin 3 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c2_i32_128 : BitVec 32 := 2#32
  let v234 : BitVec 32 := Scalar.remsi arg8 c2_i32_128
  let v450 : Index := Scalar.indexCast v234
  let c0_i32_171 : BitVec 32 := 0#32
  let c1_i32_173 : BitVec 32 := 1#32
  let arg10 : BitVec 32 := Scf.iv c0_i32_171 c1_i32_173 k0_t4
  let v451 : Index := Scalar.indexCast arg10
  let c16_223 : Index := 16#32
  ![v450.toNat, v451.toNat, 16]
def k0_off167 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v455 : Index := Scalar.indexCast v233
  let c0_i32_224 : BitVec 32 := 0#32
  let v456 : Index := Scalar.indexCast c0_i32_224
  let c0_i32_171 : BitVec 32 := 0#32
  let c1_i32_173 : BitVec 32 := 1#32
  let arg10 : BitVec 32 := Scf.iv c0_i32_171 c1_i32_173 k0_t4
  let v457 : Index := Scalar.indexCast arg10
  let c32 : Index := 32#32
  ![v455.toNat, 0, v457.toNat, 32]
def k0_off168 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v460 : Index := Scalar.indexCast v233
  let c1_i32_225 : BitVec 32 := 1#32
  let v461 : Index := Scalar.indexCast c1_i32_225
  let c0_i32_171 : BitVec 32 := 0#32
  let c1_i32_173 : BitVec 32 := 1#32
  let arg10 : BitVec 32 := Scf.iv c0_i32_171 c1_i32_173 k0_t4
  let v462 : Index := Scalar.indexCast arg10
  let c32_226 : Index := 32#32
  ![v460.toNat, 1, v462.toNat, 32]
def k0_off169 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v466 : Index := Scalar.indexCast v233
  let c2_i32_227 : BitVec 32 := 2#32
  let v467 : Index := Scalar.indexCast c2_i32_227
  let c0_i32_171 : BitVec 32 := 0#32
  let c1_i32_173 : BitVec 32 := 1#32
  let arg10 : BitVec 32 := Scf.iv c0_i32_171 c1_i32_173 k0_t4
  let v468 : Index := Scalar.indexCast arg10
  let c32_228 : Index := 32#32
  ![v466.toNat, 2, v468.toNat, 32]
def k0_off170 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v472 : Index := Scalar.indexCast v233
  let c3_i32_229 : BitVec 32 := 3#32
  let v473 : Index := Scalar.indexCast c3_i32_229
  let c0_i32_171 : BitVec 32 := 0#32
  let c1_i32_173 : BitVec 32 := 1#32
  let arg10 : BitVec 32 := Scf.iv c0_i32_171 c1_i32_173 k0_t4
  let v474 : Index := Scalar.indexCast arg10
  let c32_230 : Index := 32#32
  ![v472.toNat, 3, v474.toNat, 32]
def k0_off171 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v478 : Index := Scalar.indexCast v233
  let c4_i32_231 : BitVec 32 := 4#32
  let v479 : Index := Scalar.indexCast c4_i32_231
  let c0_i32_171 : BitVec 32 := 0#32
  let c1_i32_173 : BitVec 32 := 1#32
  let arg10 : BitVec 32 := Scf.iv c0_i32_171 c1_i32_173 k0_t4
  let v480 : Index := Scalar.indexCast arg10
  let c32_232 : Index := 32#32
  ![v478.toNat, 4, v480.toNat, 32]
def k0_off172 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v484 : Index := Scalar.indexCast v233
  let c5_i32_233 : BitVec 32 := 5#32
  let v485 : Index := Scalar.indexCast c5_i32_233
  let c0_i32_171 : BitVec 32 := 0#32
  let c1_i32_173 : BitVec 32 := 1#32
  let arg10 : BitVec 32 := Scf.iv c0_i32_171 c1_i32_173 k0_t4
  let v486 : Index := Scalar.indexCast arg10
  let c32_234 : Index := 32#32
  ![v484.toNat, 5, v486.toNat, 32]
def k0_off173 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v490 : Index := Scalar.indexCast v233
  let c6_i32_235 : BitVec 32 := 6#32
  let v491 : Index := Scalar.indexCast c6_i32_235
  let c0_i32_171 : BitVec 32 := 0#32
  let c1_i32_173 : BitVec 32 := 1#32
  let arg10 : BitVec 32 := Scf.iv c0_i32_171 c1_i32_173 k0_t4
  let v492 : Index := Scalar.indexCast arg10
  let c32_236 : Index := 32#32
  ![v490.toNat, 6, v492.toNat, 32]
def k0_off174 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v496 : Index := Scalar.indexCast v233
  let c7_i32_237 : BitVec 32 := 7#32
  let v497 : Index := Scalar.indexCast c7_i32_237
  let c0_i32_171 : BitVec 32 := 0#32
  let c1_i32_173 : BitVec 32 := 1#32
  let arg10 : BitVec 32 := Scf.iv c0_i32_171 c1_i32_173 k0_t4
  let v498 : Index := Scalar.indexCast arg10
  let c32_238 : Index := 32#32
  ![v496.toNat, 7, v498.toNat, 32]
def k0_off175 (i : grid0.Coords) (k0_t3 : Fin (k0_t3_loop i).trips) (k0_t4 : Fin k0_t4_loop.trips) : Fin 3 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c2_i32_128 : BitVec 32 := 2#32
  let v234 : BitVec 32 := Scalar.remsi arg8 c2_i32_128
  let v502 : Index := Scalar.indexCast v234
  let c0_i32_171 : BitVec 32 := 0#32
  let c1_i32_173 : BitVec 32 := 1#32
  let arg10 : BitVec 32 := Scf.iv c0_i32_171 c1_i32_173 k0_t4
  let v503 : Index := Scalar.indexCast arg10
  let c32_239 : Index := 32#32
  ![v502.toNat, v503.toNat, 32]
def k0_off176 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v507 : Index := Scalar.indexCast v233
  let c0_i32_240 : BitVec 32 := 0#32
  let v508 : Index := Scalar.indexCast c0_i32_240
  let c0_i32_171 : BitVec 32 := 0#32
  let c1_i32_173 : BitVec 32 := 1#32
  let arg10 : BitVec 32 := Scf.iv c0_i32_171 c1_i32_173 k0_t4
  let v509 : Index := Scalar.indexCast arg10
  let c48 : Index := 48#32
  ![v507.toNat, 0, v509.toNat, 48]
def k0_off177 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v512 : Index := Scalar.indexCast v233
  let c1_i32_241 : BitVec 32 := 1#32
  let v513 : Index := Scalar.indexCast c1_i32_241
  let c0_i32_171 : BitVec 32 := 0#32
  let c1_i32_173 : BitVec 32 := 1#32
  let arg10 : BitVec 32 := Scf.iv c0_i32_171 c1_i32_173 k0_t4
  let v514 : Index := Scalar.indexCast arg10
  let c48_242 : Index := 48#32
  ![v512.toNat, 1, v514.toNat, 48]
def k0_off178 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v518 : Index := Scalar.indexCast v233
  let c2_i32_243 : BitVec 32 := 2#32
  let v519 : Index := Scalar.indexCast c2_i32_243
  let c0_i32_171 : BitVec 32 := 0#32
  let c1_i32_173 : BitVec 32 := 1#32
  let arg10 : BitVec 32 := Scf.iv c0_i32_171 c1_i32_173 k0_t4
  let v520 : Index := Scalar.indexCast arg10
  let c48_244 : Index := 48#32
  ![v518.toNat, 2, v520.toNat, 48]
def k0_off179 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v524 : Index := Scalar.indexCast v233
  let c3_i32_245 : BitVec 32 := 3#32
  let v525 : Index := Scalar.indexCast c3_i32_245
  let c0_i32_171 : BitVec 32 := 0#32
  let c1_i32_173 : BitVec 32 := 1#32
  let arg10 : BitVec 32 := Scf.iv c0_i32_171 c1_i32_173 k0_t4
  let v526 : Index := Scalar.indexCast arg10
  let c48_246 : Index := 48#32
  ![v524.toNat, 3, v526.toNat, 48]
def k0_off180 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v530 : Index := Scalar.indexCast v233
  let c4_i32_247 : BitVec 32 := 4#32
  let v531 : Index := Scalar.indexCast c4_i32_247
  let c0_i32_171 : BitVec 32 := 0#32
  let c1_i32_173 : BitVec 32 := 1#32
  let arg10 : BitVec 32 := Scf.iv c0_i32_171 c1_i32_173 k0_t4
  let v532 : Index := Scalar.indexCast arg10
  let c48_248 : Index := 48#32
  ![v530.toNat, 4, v532.toNat, 48]
def k0_off181 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v536 : Index := Scalar.indexCast v233
  let c5_i32_249 : BitVec 32 := 5#32
  let v537 : Index := Scalar.indexCast c5_i32_249
  let c0_i32_171 : BitVec 32 := 0#32
  let c1_i32_173 : BitVec 32 := 1#32
  let arg10 : BitVec 32 := Scf.iv c0_i32_171 c1_i32_173 k0_t4
  let v538 : Index := Scalar.indexCast arg10
  let c48_250 : Index := 48#32
  ![v536.toNat, 5, v538.toNat, 48]
def k0_off182 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v542 : Index := Scalar.indexCast v233
  let c6_i32_251 : BitVec 32 := 6#32
  let v543 : Index := Scalar.indexCast c6_i32_251
  let c0_i32_171 : BitVec 32 := 0#32
  let c1_i32_173 : BitVec 32 := 1#32
  let arg10 : BitVec 32 := Scf.iv c0_i32_171 c1_i32_173 k0_t4
  let v544 : Index := Scalar.indexCast arg10
  let c48_252 : Index := 48#32
  ![v542.toNat, 6, v544.toNat, 48]
def k0_off183 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v548 : Index := Scalar.indexCast v233
  let c7_i32_253 : BitVec 32 := 7#32
  let v549 : Index := Scalar.indexCast c7_i32_253
  let c0_i32_171 : BitVec 32 := 0#32
  let c1_i32_173 : BitVec 32 := 1#32
  let arg10 : BitVec 32 := Scf.iv c0_i32_171 c1_i32_173 k0_t4
  let v550 : Index := Scalar.indexCast arg10
  let c48_254 : Index := 48#32
  ![v548.toNat, 7, v550.toNat, 48]
def k0_off184 (i : grid0.Coords) (k0_t3 : Fin (k0_t3_loop i).trips) (k0_t4 : Fin k0_t4_loop.trips) : Fin 3 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c2_i32_128 : BitVec 32 := 2#32
  let v234 : BitVec 32 := Scalar.remsi arg8 c2_i32_128
  let v554 : Index := Scalar.indexCast v234
  let c0_i32_171 : BitVec 32 := 0#32
  let c1_i32_173 : BitVec 32 := 1#32
  let arg10 : BitVec 32 := Scf.iv c0_i32_171 c1_i32_173 k0_t4
  let v555 : Index := Scalar.indexCast arg10
  let c48_255 : Index := 48#32
  ![v554.toNat, v555.toNat, 48]
def k0_off185 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v559 : Index := Scalar.indexCast v233
  let c0_i32_256 : BitVec 32 := 0#32
  let v560 : Index := Scalar.indexCast c0_i32_256
  let c0_i32_171 : BitVec 32 := 0#32
  let c1_i32_173 : BitVec 32 := 1#32
  let arg10 : BitVec 32 := Scf.iv c0_i32_171 c1_i32_173 k0_t4
  let v561 : Index := Scalar.indexCast arg10
  let c64 : Index := 64#32
  ![v559.toNat, 0, v561.toNat, 64]
def k0_off186 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v564 : Index := Scalar.indexCast v233
  let c1_i32_257 : BitVec 32 := 1#32
  let v565 : Index := Scalar.indexCast c1_i32_257
  let c0_i32_171 : BitVec 32 := 0#32
  let c1_i32_173 : BitVec 32 := 1#32
  let arg10 : BitVec 32 := Scf.iv c0_i32_171 c1_i32_173 k0_t4
  let v566 : Index := Scalar.indexCast arg10
  let c64_258 : Index := 64#32
  ![v564.toNat, 1, v566.toNat, 64]
def k0_off187 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v570 : Index := Scalar.indexCast v233
  let c2_i32_259 : BitVec 32 := 2#32
  let v571 : Index := Scalar.indexCast c2_i32_259
  let c0_i32_171 : BitVec 32 := 0#32
  let c1_i32_173 : BitVec 32 := 1#32
  let arg10 : BitVec 32 := Scf.iv c0_i32_171 c1_i32_173 k0_t4
  let v572 : Index := Scalar.indexCast arg10
  let c64_260 : Index := 64#32
  ![v570.toNat, 2, v572.toNat, 64]
def k0_off188 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v576 : Index := Scalar.indexCast v233
  let c3_i32_261 : BitVec 32 := 3#32
  let v577 : Index := Scalar.indexCast c3_i32_261
  let c0_i32_171 : BitVec 32 := 0#32
  let c1_i32_173 : BitVec 32 := 1#32
  let arg10 : BitVec 32 := Scf.iv c0_i32_171 c1_i32_173 k0_t4
  let v578 : Index := Scalar.indexCast arg10
  let c64_262 : Index := 64#32
  ![v576.toNat, 3, v578.toNat, 64]
def k0_off189 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v582 : Index := Scalar.indexCast v233
  let c4_i32_263 : BitVec 32 := 4#32
  let v583 : Index := Scalar.indexCast c4_i32_263
  let c0_i32_171 : BitVec 32 := 0#32
  let c1_i32_173 : BitVec 32 := 1#32
  let arg10 : BitVec 32 := Scf.iv c0_i32_171 c1_i32_173 k0_t4
  let v584 : Index := Scalar.indexCast arg10
  let c64_264 : Index := 64#32
  ![v582.toNat, 4, v584.toNat, 64]
def k0_off190 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v588 : Index := Scalar.indexCast v233
  let c5_i32_265 : BitVec 32 := 5#32
  let v589 : Index := Scalar.indexCast c5_i32_265
  let c0_i32_171 : BitVec 32 := 0#32
  let c1_i32_173 : BitVec 32 := 1#32
  let arg10 : BitVec 32 := Scf.iv c0_i32_171 c1_i32_173 k0_t4
  let v590 : Index := Scalar.indexCast arg10
  let c64_266 : Index := 64#32
  ![v588.toNat, 5, v590.toNat, 64]
def k0_off191 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v594 : Index := Scalar.indexCast v233
  let c6_i32_267 : BitVec 32 := 6#32
  let v595 : Index := Scalar.indexCast c6_i32_267
  let c0_i32_171 : BitVec 32 := 0#32
  let c1_i32_173 : BitVec 32 := 1#32
  let arg10 : BitVec 32 := Scf.iv c0_i32_171 c1_i32_173 k0_t4
  let v596 : Index := Scalar.indexCast arg10
  let c64_268 : Index := 64#32
  ![v594.toNat, 6, v596.toNat, 64]
def k0_off192 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v600 : Index := Scalar.indexCast v233
  let c7_i32_269 : BitVec 32 := 7#32
  let v601 : Index := Scalar.indexCast c7_i32_269
  let c0_i32_171 : BitVec 32 := 0#32
  let c1_i32_173 : BitVec 32 := 1#32
  let arg10 : BitVec 32 := Scf.iv c0_i32_171 c1_i32_173 k0_t4
  let v602 : Index := Scalar.indexCast arg10
  let c64_270 : Index := 64#32
  ![v600.toNat, 7, v602.toNat, 64]
def k0_off193 (i : grid0.Coords) (k0_t3 : Fin (k0_t3_loop i).trips) (k0_t4 : Fin k0_t4_loop.trips) : Fin 3 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c2_i32_128 : BitVec 32 := 2#32
  let v234 : BitVec 32 := Scalar.remsi arg8 c2_i32_128
  let v606 : Index := Scalar.indexCast v234
  let c0_i32_171 : BitVec 32 := 0#32
  let c1_i32_173 : BitVec 32 := 1#32
  let arg10 : BitVec 32 := Scf.iv c0_i32_171 c1_i32_173 k0_t4
  let v607 : Index := Scalar.indexCast arg10
  let c64_271 : Index := 64#32
  ![v606.toNat, v607.toNat, 64]
def k0_off194 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v611 : Index := Scalar.indexCast v233
  let c0_i32_272 : BitVec 32 := 0#32
  let v612 : Index := Scalar.indexCast c0_i32_272
  let c0_i32_171 : BitVec 32 := 0#32
  let c1_i32_173 : BitVec 32 := 1#32
  let arg10 : BitVec 32 := Scf.iv c0_i32_171 c1_i32_173 k0_t4
  let v613 : Index := Scalar.indexCast arg10
  let c80 : Index := 80#32
  ![v611.toNat, 0, v613.toNat, 80]
def k0_off195 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v616 : Index := Scalar.indexCast v233
  let c1_i32_273 : BitVec 32 := 1#32
  let v617 : Index := Scalar.indexCast c1_i32_273
  let c0_i32_171 : BitVec 32 := 0#32
  let c1_i32_173 : BitVec 32 := 1#32
  let arg10 : BitVec 32 := Scf.iv c0_i32_171 c1_i32_173 k0_t4
  let v618 : Index := Scalar.indexCast arg10
  let c80_274 : Index := 80#32
  ![v616.toNat, 1, v618.toNat, 80]
def k0_off196 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v622 : Index := Scalar.indexCast v233
  let c2_i32_275 : BitVec 32 := 2#32
  let v623 : Index := Scalar.indexCast c2_i32_275
  let c0_i32_171 : BitVec 32 := 0#32
  let c1_i32_173 : BitVec 32 := 1#32
  let arg10 : BitVec 32 := Scf.iv c0_i32_171 c1_i32_173 k0_t4
  let v624 : Index := Scalar.indexCast arg10
  let c80_276 : Index := 80#32
  ![v622.toNat, 2, v624.toNat, 80]
def k0_off197 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v628 : Index := Scalar.indexCast v233
  let c3_i32_277 : BitVec 32 := 3#32
  let v629 : Index := Scalar.indexCast c3_i32_277
  let c0_i32_171 : BitVec 32 := 0#32
  let c1_i32_173 : BitVec 32 := 1#32
  let arg10 : BitVec 32 := Scf.iv c0_i32_171 c1_i32_173 k0_t4
  let v630 : Index := Scalar.indexCast arg10
  let c80_278 : Index := 80#32
  ![v628.toNat, 3, v630.toNat, 80]
def k0_off198 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v634 : Index := Scalar.indexCast v233
  let c4_i32_279 : BitVec 32 := 4#32
  let v635 : Index := Scalar.indexCast c4_i32_279
  let c0_i32_171 : BitVec 32 := 0#32
  let c1_i32_173 : BitVec 32 := 1#32
  let arg10 : BitVec 32 := Scf.iv c0_i32_171 c1_i32_173 k0_t4
  let v636 : Index := Scalar.indexCast arg10
  let c80_280 : Index := 80#32
  ![v634.toNat, 4, v636.toNat, 80]
def k0_off199 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v640 : Index := Scalar.indexCast v233
  let c5_i32_281 : BitVec 32 := 5#32
  let v641 : Index := Scalar.indexCast c5_i32_281
  let c0_i32_171 : BitVec 32 := 0#32
  let c1_i32_173 : BitVec 32 := 1#32
  let arg10 : BitVec 32 := Scf.iv c0_i32_171 c1_i32_173 k0_t4
  let v642 : Index := Scalar.indexCast arg10
  let c80_282 : Index := 80#32
  ![v640.toNat, 5, v642.toNat, 80]
def k0_off200 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v646 : Index := Scalar.indexCast v233
  let c6_i32_283 : BitVec 32 := 6#32
  let v647 : Index := Scalar.indexCast c6_i32_283
  let c0_i32_171 : BitVec 32 := 0#32
  let c1_i32_173 : BitVec 32 := 1#32
  let arg10 : BitVec 32 := Scf.iv c0_i32_171 c1_i32_173 k0_t4
  let v648 : Index := Scalar.indexCast arg10
  let c80_284 : Index := 80#32
  ![v646.toNat, 6, v648.toNat, 80]
def k0_off201 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v652 : Index := Scalar.indexCast v233
  let c7_i32_285 : BitVec 32 := 7#32
  let v653 : Index := Scalar.indexCast c7_i32_285
  let c0_i32_171 : BitVec 32 := 0#32
  let c1_i32_173 : BitVec 32 := 1#32
  let arg10 : BitVec 32 := Scf.iv c0_i32_171 c1_i32_173 k0_t4
  let v654 : Index := Scalar.indexCast arg10
  let c80_286 : Index := 80#32
  ![v652.toNat, 7, v654.toNat, 80]
def k0_off202 (i : grid0.Coords) (k0_t3 : Fin (k0_t3_loop i).trips) (k0_t4 : Fin k0_t4_loop.trips) : Fin 3 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c2_i32_128 : BitVec 32 := 2#32
  let v234 : BitVec 32 := Scalar.remsi arg8 c2_i32_128
  let v658 : Index := Scalar.indexCast v234
  let c0_i32_171 : BitVec 32 := 0#32
  let c1_i32_173 : BitVec 32 := 1#32
  let arg10 : BitVec 32 := Scf.iv c0_i32_171 c1_i32_173 k0_t4
  let v659 : Index := Scalar.indexCast arg10
  let c80_287 : Index := 80#32
  ![v658.toNat, v659.toNat, 80]
def k0_off203 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v663 : Index := Scalar.indexCast v233
  let c0_i32_288 : BitVec 32 := 0#32
  let v664 : Index := Scalar.indexCast c0_i32_288
  let c0_i32_171 : BitVec 32 := 0#32
  let c1_i32_173 : BitVec 32 := 1#32
  let arg10 : BitVec 32 := Scf.iv c0_i32_171 c1_i32_173 k0_t4
  let v665 : Index := Scalar.indexCast arg10
  let c96 : Index := 96#32
  ![v663.toNat, 0, v665.toNat, 96]
def k0_off204 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v668 : Index := Scalar.indexCast v233
  let c1_i32_289 : BitVec 32 := 1#32
  let v669 : Index := Scalar.indexCast c1_i32_289
  let c0_i32_171 : BitVec 32 := 0#32
  let c1_i32_173 : BitVec 32 := 1#32
  let arg10 : BitVec 32 := Scf.iv c0_i32_171 c1_i32_173 k0_t4
  let v670 : Index := Scalar.indexCast arg10
  let c96_290 : Index := 96#32
  ![v668.toNat, 1, v670.toNat, 96]
def k0_off205 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v674 : Index := Scalar.indexCast v233
  let c2_i32_291 : BitVec 32 := 2#32
  let v675 : Index := Scalar.indexCast c2_i32_291
  let c0_i32_171 : BitVec 32 := 0#32
  let c1_i32_173 : BitVec 32 := 1#32
  let arg10 : BitVec 32 := Scf.iv c0_i32_171 c1_i32_173 k0_t4
  let v676 : Index := Scalar.indexCast arg10
  let c96_292 : Index := 96#32
  ![v674.toNat, 2, v676.toNat, 96]
def k0_off206 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v680 : Index := Scalar.indexCast v233
  let c3_i32_293 : BitVec 32 := 3#32
  let v681 : Index := Scalar.indexCast c3_i32_293
  let c0_i32_171 : BitVec 32 := 0#32
  let c1_i32_173 : BitVec 32 := 1#32
  let arg10 : BitVec 32 := Scf.iv c0_i32_171 c1_i32_173 k0_t4
  let v682 : Index := Scalar.indexCast arg10
  let c96_294 : Index := 96#32
  ![v680.toNat, 3, v682.toNat, 96]
def k0_off207 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v686 : Index := Scalar.indexCast v233
  let c4_i32_295 : BitVec 32 := 4#32
  let v687 : Index := Scalar.indexCast c4_i32_295
  let c0_i32_171 : BitVec 32 := 0#32
  let c1_i32_173 : BitVec 32 := 1#32
  let arg10 : BitVec 32 := Scf.iv c0_i32_171 c1_i32_173 k0_t4
  let v688 : Index := Scalar.indexCast arg10
  let c96_296 : Index := 96#32
  ![v686.toNat, 4, v688.toNat, 96]
def k0_off208 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v692 : Index := Scalar.indexCast v233
  let c5_i32_297 : BitVec 32 := 5#32
  let v693 : Index := Scalar.indexCast c5_i32_297
  let c0_i32_171 : BitVec 32 := 0#32
  let c1_i32_173 : BitVec 32 := 1#32
  let arg10 : BitVec 32 := Scf.iv c0_i32_171 c1_i32_173 k0_t4
  let v694 : Index := Scalar.indexCast arg10
  let c96_298 : Index := 96#32
  ![v692.toNat, 5, v694.toNat, 96]
def k0_off209 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v698 : Index := Scalar.indexCast v233
  let c6_i32_299 : BitVec 32 := 6#32
  let v699 : Index := Scalar.indexCast c6_i32_299
  let c0_i32_171 : BitVec 32 := 0#32
  let c1_i32_173 : BitVec 32 := 1#32
  let arg10 : BitVec 32 := Scf.iv c0_i32_171 c1_i32_173 k0_t4
  let v700 : Index := Scalar.indexCast arg10
  let c96_300 : Index := 96#32
  ![v698.toNat, 6, v700.toNat, 96]
def k0_off210 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v704 : Index := Scalar.indexCast v233
  let c7_i32_301 : BitVec 32 := 7#32
  let v705 : Index := Scalar.indexCast c7_i32_301
  let c0_i32_171 : BitVec 32 := 0#32
  let c1_i32_173 : BitVec 32 := 1#32
  let arg10 : BitVec 32 := Scf.iv c0_i32_171 c1_i32_173 k0_t4
  let v706 : Index := Scalar.indexCast arg10
  let c96_302 : Index := 96#32
  ![v704.toNat, 7, v706.toNat, 96]
def k0_off211 (i : grid0.Coords) (k0_t3 : Fin (k0_t3_loop i).trips) (k0_t4 : Fin k0_t4_loop.trips) : Fin 3 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c2_i32_128 : BitVec 32 := 2#32
  let v234 : BitVec 32 := Scalar.remsi arg8 c2_i32_128
  let v710 : Index := Scalar.indexCast v234
  let c0_i32_171 : BitVec 32 := 0#32
  let c1_i32_173 : BitVec 32 := 1#32
  let arg10 : BitVec 32 := Scf.iv c0_i32_171 c1_i32_173 k0_t4
  let v711 : Index := Scalar.indexCast arg10
  let c96_303 : Index := 96#32
  ![v710.toNat, v711.toNat, 96]
def k0_off212 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v715 : Index := Scalar.indexCast v233
  let c0_i32_304 : BitVec 32 := 0#32
  let v716 : Index := Scalar.indexCast c0_i32_304
  let c0_i32_171 : BitVec 32 := 0#32
  let c1_i32_173 : BitVec 32 := 1#32
  let arg10 : BitVec 32 := Scf.iv c0_i32_171 c1_i32_173 k0_t4
  let v717 : Index := Scalar.indexCast arg10
  let c112 : Index := 112#32
  ![v715.toNat, 0, v717.toNat, 112]
def k0_off213 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v720 : Index := Scalar.indexCast v233
  let c1_i32_305 : BitVec 32 := 1#32
  let v721 : Index := Scalar.indexCast c1_i32_305
  let c0_i32_171 : BitVec 32 := 0#32
  let c1_i32_173 : BitVec 32 := 1#32
  let arg10 : BitVec 32 := Scf.iv c0_i32_171 c1_i32_173 k0_t4
  let v722 : Index := Scalar.indexCast arg10
  let c112_306 : Index := 112#32
  ![v720.toNat, 1, v722.toNat, 112]
def k0_off214 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v726 : Index := Scalar.indexCast v233
  let c2_i32_307 : BitVec 32 := 2#32
  let v727 : Index := Scalar.indexCast c2_i32_307
  let c0_i32_171 : BitVec 32 := 0#32
  let c1_i32_173 : BitVec 32 := 1#32
  let arg10 : BitVec 32 := Scf.iv c0_i32_171 c1_i32_173 k0_t4
  let v728 : Index := Scalar.indexCast arg10
  let c112_308 : Index := 112#32
  ![v726.toNat, 2, v728.toNat, 112]
def k0_off215 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v732 : Index := Scalar.indexCast v233
  let c3_i32_309 : BitVec 32 := 3#32
  let v733 : Index := Scalar.indexCast c3_i32_309
  let c0_i32_171 : BitVec 32 := 0#32
  let c1_i32_173 : BitVec 32 := 1#32
  let arg10 : BitVec 32 := Scf.iv c0_i32_171 c1_i32_173 k0_t4
  let v734 : Index := Scalar.indexCast arg10
  let c112_310 : Index := 112#32
  ![v732.toNat, 3, v734.toNat, 112]
def k0_off216 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v738 : Index := Scalar.indexCast v233
  let c4_i32_311 : BitVec 32 := 4#32
  let v739 : Index := Scalar.indexCast c4_i32_311
  let c0_i32_171 : BitVec 32 := 0#32
  let c1_i32_173 : BitVec 32 := 1#32
  let arg10 : BitVec 32 := Scf.iv c0_i32_171 c1_i32_173 k0_t4
  let v740 : Index := Scalar.indexCast arg10
  let c112_312 : Index := 112#32
  ![v738.toNat, 4, v740.toNat, 112]
def k0_off217 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v744 : Index := Scalar.indexCast v233
  let c5_i32_313 : BitVec 32 := 5#32
  let v745 : Index := Scalar.indexCast c5_i32_313
  let c0_i32_171 : BitVec 32 := 0#32
  let c1_i32_173 : BitVec 32 := 1#32
  let arg10 : BitVec 32 := Scf.iv c0_i32_171 c1_i32_173 k0_t4
  let v746 : Index := Scalar.indexCast arg10
  let c112_314 : Index := 112#32
  ![v744.toNat, 5, v746.toNat, 112]
def k0_off218 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v750 : Index := Scalar.indexCast v233
  let c6_i32_315 : BitVec 32 := 6#32
  let v751 : Index := Scalar.indexCast c6_i32_315
  let c0_i32_171 : BitVec 32 := 0#32
  let c1_i32_173 : BitVec 32 := 1#32
  let arg10 : BitVec 32 := Scf.iv c0_i32_171 c1_i32_173 k0_t4
  let v752 : Index := Scalar.indexCast arg10
  let c112_316 : Index := 112#32
  ![v750.toNat, 6, v752.toNat, 112]
def k0_off219 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v756 : Index := Scalar.indexCast v233
  let c7_i32_317 : BitVec 32 := 7#32
  let v757 : Index := Scalar.indexCast c7_i32_317
  let c0_i32_171 : BitVec 32 := 0#32
  let c1_i32_173 : BitVec 32 := 1#32
  let arg10 : BitVec 32 := Scf.iv c0_i32_171 c1_i32_173 k0_t4
  let v758 : Index := Scalar.indexCast arg10
  let c112_318 : Index := 112#32
  ![v756.toNat, 7, v758.toNat, 112]
def k0_off220 (i : grid0.Coords) (k0_t3 : Fin (k0_t3_loop i).trips) (k0_t4 : Fin k0_t4_loop.trips) : Fin 3 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c2_i32_128 : BitVec 32 := 2#32
  let v234 : BitVec 32 := Scalar.remsi arg8 c2_i32_128
  let v762 : Index := Scalar.indexCast v234
  let c0_i32_171 : BitVec 32 := 0#32
  let c1_i32_173 : BitVec 32 := 1#32
  let arg10 : BitVec 32 := Scf.iv c0_i32_171 c1_i32_173 k0_t4
  let v763 : Index := Scalar.indexCast arg10
  let c112_319 : Index := 112#32
  ![v762.toNat, v763.toNat, 112]
def k0_off221 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v767 : Index := Scalar.indexCast v233
  let c0_i32_320 : BitVec 32 := 0#32
  let v768 : Index := Scalar.indexCast c0_i32_320
  let c0_i32_171 : BitVec 32 := 0#32
  let c1_i32_173 : BitVec 32 := 1#32
  let arg10 : BitVec 32 := Scf.iv c0_i32_171 c1_i32_173 k0_t4
  let v769 : Index := Scalar.indexCast arg10
  let c128 : Index := 128#32
  ![v767.toNat, 0, v769.toNat, 128]
def k0_off222 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v772 : Index := Scalar.indexCast v233
  let c1_i32_321 : BitVec 32 := 1#32
  let v773 : Index := Scalar.indexCast c1_i32_321
  let c0_i32_171 : BitVec 32 := 0#32
  let c1_i32_173 : BitVec 32 := 1#32
  let arg10 : BitVec 32 := Scf.iv c0_i32_171 c1_i32_173 k0_t4
  let v774 : Index := Scalar.indexCast arg10
  let c128_322 : Index := 128#32
  ![v772.toNat, 1, v774.toNat, 128]
def k0_off223 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v778 : Index := Scalar.indexCast v233
  let c2_i32_323 : BitVec 32 := 2#32
  let v779 : Index := Scalar.indexCast c2_i32_323
  let c0_i32_171 : BitVec 32 := 0#32
  let c1_i32_173 : BitVec 32 := 1#32
  let arg10 : BitVec 32 := Scf.iv c0_i32_171 c1_i32_173 k0_t4
  let v780 : Index := Scalar.indexCast arg10
  let c128_324 : Index := 128#32
  ![v778.toNat, 2, v780.toNat, 128]
def k0_off224 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v784 : Index := Scalar.indexCast v233
  let c3_i32_325 : BitVec 32 := 3#32
  let v785 : Index := Scalar.indexCast c3_i32_325
  let c0_i32_171 : BitVec 32 := 0#32
  let c1_i32_173 : BitVec 32 := 1#32
  let arg10 : BitVec 32 := Scf.iv c0_i32_171 c1_i32_173 k0_t4
  let v786 : Index := Scalar.indexCast arg10
  let c128_326 : Index := 128#32
  ![v784.toNat, 3, v786.toNat, 128]
def k0_off225 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v790 : Index := Scalar.indexCast v233
  let c4_i32_327 : BitVec 32 := 4#32
  let v791 : Index := Scalar.indexCast c4_i32_327
  let c0_i32_171 : BitVec 32 := 0#32
  let c1_i32_173 : BitVec 32 := 1#32
  let arg10 : BitVec 32 := Scf.iv c0_i32_171 c1_i32_173 k0_t4
  let v792 : Index := Scalar.indexCast arg10
  let c128_328 : Index := 128#32
  ![v790.toNat, 4, v792.toNat, 128]
def k0_off226 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v796 : Index := Scalar.indexCast v233
  let c5_i32_329 : BitVec 32 := 5#32
  let v797 : Index := Scalar.indexCast c5_i32_329
  let c0_i32_171 : BitVec 32 := 0#32
  let c1_i32_173 : BitVec 32 := 1#32
  let arg10 : BitVec 32 := Scf.iv c0_i32_171 c1_i32_173 k0_t4
  let v798 : Index := Scalar.indexCast arg10
  let c128_330 : Index := 128#32
  ![v796.toNat, 5, v798.toNat, 128]
def k0_off227 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v802 : Index := Scalar.indexCast v233
  let c6_i32_331 : BitVec 32 := 6#32
  let v803 : Index := Scalar.indexCast c6_i32_331
  let c0_i32_171 : BitVec 32 := 0#32
  let c1_i32_173 : BitVec 32 := 1#32
  let arg10 : BitVec 32 := Scf.iv c0_i32_171 c1_i32_173 k0_t4
  let v804 : Index := Scalar.indexCast arg10
  let c128_332 : Index := 128#32
  ![v802.toNat, 6, v804.toNat, 128]
def k0_off228 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v808 : Index := Scalar.indexCast v233
  let c7_i32_333 : BitVec 32 := 7#32
  let v809 : Index := Scalar.indexCast c7_i32_333
  let c0_i32_171 : BitVec 32 := 0#32
  let c1_i32_173 : BitVec 32 := 1#32
  let arg10 : BitVec 32 := Scf.iv c0_i32_171 c1_i32_173 k0_t4
  let v810 : Index := Scalar.indexCast arg10
  let c128_334 : Index := 128#32
  ![v808.toNat, 7, v810.toNat, 128]
def k0_off229 (i : grid0.Coords) (k0_t3 : Fin (k0_t3_loop i).trips) (k0_t4 : Fin k0_t4_loop.trips) : Fin 3 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c2_i32_128 : BitVec 32 := 2#32
  let v234 : BitVec 32 := Scalar.remsi arg8 c2_i32_128
  let v814 : Index := Scalar.indexCast v234
  let c0_i32_171 : BitVec 32 := 0#32
  let c1_i32_173 : BitVec 32 := 1#32
  let arg10 : BitVec 32 := Scf.iv c0_i32_171 c1_i32_173 k0_t4
  let v815 : Index := Scalar.indexCast arg10
  let c128_335 : Index := 128#32
  ![v814.toNat, v815.toNat, 128]
def k0_off230 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v819 : Index := Scalar.indexCast v233
  let c0_i32_336 : BitVec 32 := 0#32
  let v820 : Index := Scalar.indexCast c0_i32_336
  let c0_i32_171 : BitVec 32 := 0#32
  let c1_i32_173 : BitVec 32 := 1#32
  let arg10 : BitVec 32 := Scf.iv c0_i32_171 c1_i32_173 k0_t4
  let v821 : Index := Scalar.indexCast arg10
  let c144 : Index := 144#32
  ![v819.toNat, 0, v821.toNat, 144]
def k0_off231 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v824 : Index := Scalar.indexCast v233
  let c1_i32_337 : BitVec 32 := 1#32
  let v825 : Index := Scalar.indexCast c1_i32_337
  let c0_i32_171 : BitVec 32 := 0#32
  let c1_i32_173 : BitVec 32 := 1#32
  let arg10 : BitVec 32 := Scf.iv c0_i32_171 c1_i32_173 k0_t4
  let v826 : Index := Scalar.indexCast arg10
  let c144_338 : Index := 144#32
  ![v824.toNat, 1, v826.toNat, 144]
def k0_off232 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v830 : Index := Scalar.indexCast v233
  let c2_i32_339 : BitVec 32 := 2#32
  let v831 : Index := Scalar.indexCast c2_i32_339
  let c0_i32_171 : BitVec 32 := 0#32
  let c1_i32_173 : BitVec 32 := 1#32
  let arg10 : BitVec 32 := Scf.iv c0_i32_171 c1_i32_173 k0_t4
  let v832 : Index := Scalar.indexCast arg10
  let c144_340 : Index := 144#32
  ![v830.toNat, 2, v832.toNat, 144]
def k0_off233 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v836 : Index := Scalar.indexCast v233
  let c3_i32_341 : BitVec 32 := 3#32
  let v837 : Index := Scalar.indexCast c3_i32_341
  let c0_i32_171 : BitVec 32 := 0#32
  let c1_i32_173 : BitVec 32 := 1#32
  let arg10 : BitVec 32 := Scf.iv c0_i32_171 c1_i32_173 k0_t4
  let v838 : Index := Scalar.indexCast arg10
  let c144_342 : Index := 144#32
  ![v836.toNat, 3, v838.toNat, 144]
def k0_off234 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v842 : Index := Scalar.indexCast v233
  let c4_i32_343 : BitVec 32 := 4#32
  let v843 : Index := Scalar.indexCast c4_i32_343
  let c0_i32_171 : BitVec 32 := 0#32
  let c1_i32_173 : BitVec 32 := 1#32
  let arg10 : BitVec 32 := Scf.iv c0_i32_171 c1_i32_173 k0_t4
  let v844 : Index := Scalar.indexCast arg10
  let c144_344 : Index := 144#32
  ![v842.toNat, 4, v844.toNat, 144]
def k0_off235 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v848 : Index := Scalar.indexCast v233
  let c5_i32_345 : BitVec 32 := 5#32
  let v849 : Index := Scalar.indexCast c5_i32_345
  let c0_i32_171 : BitVec 32 := 0#32
  let c1_i32_173 : BitVec 32 := 1#32
  let arg10 : BitVec 32 := Scf.iv c0_i32_171 c1_i32_173 k0_t4
  let v850 : Index := Scalar.indexCast arg10
  let c144_346 : Index := 144#32
  ![v848.toNat, 5, v850.toNat, 144]
def k0_off236 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v854 : Index := Scalar.indexCast v233
  let c6_i32_347 : BitVec 32 := 6#32
  let v855 : Index := Scalar.indexCast c6_i32_347
  let c0_i32_171 : BitVec 32 := 0#32
  let c1_i32_173 : BitVec 32 := 1#32
  let arg10 : BitVec 32 := Scf.iv c0_i32_171 c1_i32_173 k0_t4
  let v856 : Index := Scalar.indexCast arg10
  let c144_348 : Index := 144#32
  ![v854.toNat, 6, v856.toNat, 144]
def k0_off237 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v860 : Index := Scalar.indexCast v233
  let c7_i32_349 : BitVec 32 := 7#32
  let v861 : Index := Scalar.indexCast c7_i32_349
  let c0_i32_171 : BitVec 32 := 0#32
  let c1_i32_173 : BitVec 32 := 1#32
  let arg10 : BitVec 32 := Scf.iv c0_i32_171 c1_i32_173 k0_t4
  let v862 : Index := Scalar.indexCast arg10
  let c144_350 : Index := 144#32
  ![v860.toNat, 7, v862.toNat, 144]
def k0_off238 (i : grid0.Coords) (k0_t3 : Fin (k0_t3_loop i).trips) (k0_t4 : Fin k0_t4_loop.trips) : Fin 3 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c2_i32_128 : BitVec 32 := 2#32
  let v234 : BitVec 32 := Scalar.remsi arg8 c2_i32_128
  let v866 : Index := Scalar.indexCast v234
  let c0_i32_171 : BitVec 32 := 0#32
  let c1_i32_173 : BitVec 32 := 1#32
  let arg10 : BitVec 32 := Scf.iv c0_i32_171 c1_i32_173 k0_t4
  let v867 : Index := Scalar.indexCast arg10
  let c144_351 : Index := 144#32
  ![v866.toNat, v867.toNat, 144]
def k0_off239 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v871 : Index := Scalar.indexCast v233
  let c0_i32_352 : BitVec 32 := 0#32
  let v872 : Index := Scalar.indexCast c0_i32_352
  let c0_i32_171 : BitVec 32 := 0#32
  let c1_i32_173 : BitVec 32 := 1#32
  let arg10 : BitVec 32 := Scf.iv c0_i32_171 c1_i32_173 k0_t4
  let v873 : Index := Scalar.indexCast arg10
  let c160 : Index := 160#32
  ![v871.toNat, 0, v873.toNat, 160]
def k0_off240 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v876 : Index := Scalar.indexCast v233
  let c1_i32_353 : BitVec 32 := 1#32
  let v877 : Index := Scalar.indexCast c1_i32_353
  let c0_i32_171 : BitVec 32 := 0#32
  let c1_i32_173 : BitVec 32 := 1#32
  let arg10 : BitVec 32 := Scf.iv c0_i32_171 c1_i32_173 k0_t4
  let v878 : Index := Scalar.indexCast arg10
  let c160_354 : Index := 160#32
  ![v876.toNat, 1, v878.toNat, 160]
def k0_off241 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v882 : Index := Scalar.indexCast v233
  let c2_i32_355 : BitVec 32 := 2#32
  let v883 : Index := Scalar.indexCast c2_i32_355
  let c0_i32_171 : BitVec 32 := 0#32
  let c1_i32_173 : BitVec 32 := 1#32
  let arg10 : BitVec 32 := Scf.iv c0_i32_171 c1_i32_173 k0_t4
  let v884 : Index := Scalar.indexCast arg10
  let c160_356 : Index := 160#32
  ![v882.toNat, 2, v884.toNat, 160]
def k0_off242 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v888 : Index := Scalar.indexCast v233
  let c3_i32_357 : BitVec 32 := 3#32
  let v889 : Index := Scalar.indexCast c3_i32_357
  let c0_i32_171 : BitVec 32 := 0#32
  let c1_i32_173 : BitVec 32 := 1#32
  let arg10 : BitVec 32 := Scf.iv c0_i32_171 c1_i32_173 k0_t4
  let v890 : Index := Scalar.indexCast arg10
  let c160_358 : Index := 160#32
  ![v888.toNat, 3, v890.toNat, 160]
def k0_off243 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v894 : Index := Scalar.indexCast v233
  let c4_i32_359 : BitVec 32 := 4#32
  let v895 : Index := Scalar.indexCast c4_i32_359
  let c0_i32_171 : BitVec 32 := 0#32
  let c1_i32_173 : BitVec 32 := 1#32
  let arg10 : BitVec 32 := Scf.iv c0_i32_171 c1_i32_173 k0_t4
  let v896 : Index := Scalar.indexCast arg10
  let c160_360 : Index := 160#32
  ![v894.toNat, 4, v896.toNat, 160]
def k0_off244 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v900 : Index := Scalar.indexCast v233
  let c5_i32_361 : BitVec 32 := 5#32
  let v901 : Index := Scalar.indexCast c5_i32_361
  let c0_i32_171 : BitVec 32 := 0#32
  let c1_i32_173 : BitVec 32 := 1#32
  let arg10 : BitVec 32 := Scf.iv c0_i32_171 c1_i32_173 k0_t4
  let v902 : Index := Scalar.indexCast arg10
  let c160_362 : Index := 160#32
  ![v900.toNat, 5, v902.toNat, 160]
def k0_off245 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v906 : Index := Scalar.indexCast v233
  let c6_i32_363 : BitVec 32 := 6#32
  let v907 : Index := Scalar.indexCast c6_i32_363
  let c0_i32_171 : BitVec 32 := 0#32
  let c1_i32_173 : BitVec 32 := 1#32
  let arg10 : BitVec 32 := Scf.iv c0_i32_171 c1_i32_173 k0_t4
  let v908 : Index := Scalar.indexCast arg10
  let c160_364 : Index := 160#32
  ![v906.toNat, 6, v908.toNat, 160]
def k0_off246 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v912 : Index := Scalar.indexCast v233
  let c7_i32_365 : BitVec 32 := 7#32
  let v913 : Index := Scalar.indexCast c7_i32_365
  let c0_i32_171 : BitVec 32 := 0#32
  let c1_i32_173 : BitVec 32 := 1#32
  let arg10 : BitVec 32 := Scf.iv c0_i32_171 c1_i32_173 k0_t4
  let v914 : Index := Scalar.indexCast arg10
  let c160_366 : Index := 160#32
  ![v912.toNat, 7, v914.toNat, 160]
def k0_off247 (i : grid0.Coords) (k0_t3 : Fin (k0_t3_loop i).trips) (k0_t4 : Fin k0_t4_loop.trips) : Fin 3 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c2_i32_128 : BitVec 32 := 2#32
  let v234 : BitVec 32 := Scalar.remsi arg8 c2_i32_128
  let v918 : Index := Scalar.indexCast v234
  let c0_i32_171 : BitVec 32 := 0#32
  let c1_i32_173 : BitVec 32 := 1#32
  let arg10 : BitVec 32 := Scf.iv c0_i32_171 c1_i32_173 k0_t4
  let v919 : Index := Scalar.indexCast arg10
  let c160_367 : Index := 160#32
  ![v918.toNat, v919.toNat, 160]
def k0_off248 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v923 : Index := Scalar.indexCast v233
  let c0_i32_368 : BitVec 32 := 0#32
  let v924 : Index := Scalar.indexCast c0_i32_368
  let c0_i32_171 : BitVec 32 := 0#32
  let c1_i32_173 : BitVec 32 := 1#32
  let arg10 : BitVec 32 := Scf.iv c0_i32_171 c1_i32_173 k0_t4
  let v925 : Index := Scalar.indexCast arg10
  let c176 : Index := 176#32
  ![v923.toNat, 0, v925.toNat, 176]
def k0_off249 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v928 : Index := Scalar.indexCast v233
  let c1_i32_369 : BitVec 32 := 1#32
  let v929 : Index := Scalar.indexCast c1_i32_369
  let c0_i32_171 : BitVec 32 := 0#32
  let c1_i32_173 : BitVec 32 := 1#32
  let arg10 : BitVec 32 := Scf.iv c0_i32_171 c1_i32_173 k0_t4
  let v930 : Index := Scalar.indexCast arg10
  let c176_370 : Index := 176#32
  ![v928.toNat, 1, v930.toNat, 176]
def k0_off250 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v934 : Index := Scalar.indexCast v233
  let c2_i32_371 : BitVec 32 := 2#32
  let v935 : Index := Scalar.indexCast c2_i32_371
  let c0_i32_171 : BitVec 32 := 0#32
  let c1_i32_173 : BitVec 32 := 1#32
  let arg10 : BitVec 32 := Scf.iv c0_i32_171 c1_i32_173 k0_t4
  let v936 : Index := Scalar.indexCast arg10
  let c176_372 : Index := 176#32
  ![v934.toNat, 2, v936.toNat, 176]
def k0_off251 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v940 : Index := Scalar.indexCast v233
  let c3_i32_373 : BitVec 32 := 3#32
  let v941 : Index := Scalar.indexCast c3_i32_373
  let c0_i32_171 : BitVec 32 := 0#32
  let c1_i32_173 : BitVec 32 := 1#32
  let arg10 : BitVec 32 := Scf.iv c0_i32_171 c1_i32_173 k0_t4
  let v942 : Index := Scalar.indexCast arg10
  let c176_374 : Index := 176#32
  ![v940.toNat, 3, v942.toNat, 176]
def k0_off252 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v946 : Index := Scalar.indexCast v233
  let c4_i32_375 : BitVec 32 := 4#32
  let v947 : Index := Scalar.indexCast c4_i32_375
  let c0_i32_171 : BitVec 32 := 0#32
  let c1_i32_173 : BitVec 32 := 1#32
  let arg10 : BitVec 32 := Scf.iv c0_i32_171 c1_i32_173 k0_t4
  let v948 : Index := Scalar.indexCast arg10
  let c176_376 : Index := 176#32
  ![v946.toNat, 4, v948.toNat, 176]
def k0_off253 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v952 : Index := Scalar.indexCast v233
  let c5_i32_377 : BitVec 32 := 5#32
  let v953 : Index := Scalar.indexCast c5_i32_377
  let c0_i32_171 : BitVec 32 := 0#32
  let c1_i32_173 : BitVec 32 := 1#32
  let arg10 : BitVec 32 := Scf.iv c0_i32_171 c1_i32_173 k0_t4
  let v954 : Index := Scalar.indexCast arg10
  let c176_378 : Index := 176#32
  ![v952.toNat, 5, v954.toNat, 176]
def k0_off254 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v958 : Index := Scalar.indexCast v233
  let c6_i32_379 : BitVec 32 := 6#32
  let v959 : Index := Scalar.indexCast c6_i32_379
  let c0_i32_171 : BitVec 32 := 0#32
  let c1_i32_173 : BitVec 32 := 1#32
  let arg10 : BitVec 32 := Scf.iv c0_i32_171 c1_i32_173 k0_t4
  let v960 : Index := Scalar.indexCast arg10
  let c176_380 : Index := 176#32
  ![v958.toNat, 6, v960.toNat, 176]
def k0_off255 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v964 : Index := Scalar.indexCast v233
  let c7_i32_381 : BitVec 32 := 7#32
  let v965 : Index := Scalar.indexCast c7_i32_381
  let c0_i32_171 : BitVec 32 := 0#32
  let c1_i32_173 : BitVec 32 := 1#32
  let arg10 : BitVec 32 := Scf.iv c0_i32_171 c1_i32_173 k0_t4
  let v966 : Index := Scalar.indexCast arg10
  let c176_382 : Index := 176#32
  ![v964.toNat, 7, v966.toNat, 176]
def k0_off256 (i : grid0.Coords) (k0_t3 : Fin (k0_t3_loop i).trips) (k0_t4 : Fin k0_t4_loop.trips) : Fin 3 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c2_i32_128 : BitVec 32 := 2#32
  let v234 : BitVec 32 := Scalar.remsi arg8 c2_i32_128
  let v970 : Index := Scalar.indexCast v234
  let c0_i32_171 : BitVec 32 := 0#32
  let c1_i32_173 : BitVec 32 := 1#32
  let arg10 : BitVec 32 := Scf.iv c0_i32_171 c1_i32_173 k0_t4
  let v971 : Index := Scalar.indexCast arg10
  let c176_383 : Index := 176#32
  ![v970.toNat, v971.toNat, 176]
def k0_off257 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v975 : Index := Scalar.indexCast v233
  let c0_i32_384 : BitVec 32 := 0#32
  let v976 : Index := Scalar.indexCast c0_i32_384
  let c0_i32_171 : BitVec 32 := 0#32
  let c1_i32_173 : BitVec 32 := 1#32
  let arg10 : BitVec 32 := Scf.iv c0_i32_171 c1_i32_173 k0_t4
  let v977 : Index := Scalar.indexCast arg10
  let c192 : Index := 192#32
  ![v975.toNat, 0, v977.toNat, 192]
def k0_off258 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v980 : Index := Scalar.indexCast v233
  let c1_i32_385 : BitVec 32 := 1#32
  let v981 : Index := Scalar.indexCast c1_i32_385
  let c0_i32_171 : BitVec 32 := 0#32
  let c1_i32_173 : BitVec 32 := 1#32
  let arg10 : BitVec 32 := Scf.iv c0_i32_171 c1_i32_173 k0_t4
  let v982 : Index := Scalar.indexCast arg10
  let c192_386 : Index := 192#32
  ![v980.toNat, 1, v982.toNat, 192]
def k0_off259 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v986 : Index := Scalar.indexCast v233
  let c2_i32_387 : BitVec 32 := 2#32
  let v987 : Index := Scalar.indexCast c2_i32_387
  let c0_i32_171 : BitVec 32 := 0#32
  let c1_i32_173 : BitVec 32 := 1#32
  let arg10 : BitVec 32 := Scf.iv c0_i32_171 c1_i32_173 k0_t4
  let v988 : Index := Scalar.indexCast arg10
  let c192_388 : Index := 192#32
  ![v986.toNat, 2, v988.toNat, 192]
def k0_off260 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v992 : Index := Scalar.indexCast v233
  let c3_i32_389 : BitVec 32 := 3#32
  let v993 : Index := Scalar.indexCast c3_i32_389
  let c0_i32_171 : BitVec 32 := 0#32
  let c1_i32_173 : BitVec 32 := 1#32
  let arg10 : BitVec 32 := Scf.iv c0_i32_171 c1_i32_173 k0_t4
  let v994 : Index := Scalar.indexCast arg10
  let c192_390 : Index := 192#32
  ![v992.toNat, 3, v994.toNat, 192]
def k0_off261 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v998 : Index := Scalar.indexCast v233
  let c4_i32_391 : BitVec 32 := 4#32
  let v999 : Index := Scalar.indexCast c4_i32_391
  let c0_i32_171 : BitVec 32 := 0#32
  let c1_i32_173 : BitVec 32 := 1#32
  let arg10 : BitVec 32 := Scf.iv c0_i32_171 c1_i32_173 k0_t4
  let v1000 : Index := Scalar.indexCast arg10
  let c192_392 : Index := 192#32
  ![v998.toNat, 4, v1000.toNat, 192]
def k0_off262 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v1004 : Index := Scalar.indexCast v233
  let c5_i32_393 : BitVec 32 := 5#32
  let v1005 : Index := Scalar.indexCast c5_i32_393
  let c0_i32_171 : BitVec 32 := 0#32
  let c1_i32_173 : BitVec 32 := 1#32
  let arg10 : BitVec 32 := Scf.iv c0_i32_171 c1_i32_173 k0_t4
  let v1006 : Index := Scalar.indexCast arg10
  let c192_394 : Index := 192#32
  ![v1004.toNat, 5, v1006.toNat, 192]
def k0_off263 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v1010 : Index := Scalar.indexCast v233
  let c6_i32_395 : BitVec 32 := 6#32
  let v1011 : Index := Scalar.indexCast c6_i32_395
  let c0_i32_171 : BitVec 32 := 0#32
  let c1_i32_173 : BitVec 32 := 1#32
  let arg10 : BitVec 32 := Scf.iv c0_i32_171 c1_i32_173 k0_t4
  let v1012 : Index := Scalar.indexCast arg10
  let c192_396 : Index := 192#32
  ![v1010.toNat, 6, v1012.toNat, 192]
def k0_off264 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v1016 : Index := Scalar.indexCast v233
  let c7_i32_397 : BitVec 32 := 7#32
  let v1017 : Index := Scalar.indexCast c7_i32_397
  let c0_i32_171 : BitVec 32 := 0#32
  let c1_i32_173 : BitVec 32 := 1#32
  let arg10 : BitVec 32 := Scf.iv c0_i32_171 c1_i32_173 k0_t4
  let v1018 : Index := Scalar.indexCast arg10
  let c192_398 : Index := 192#32
  ![v1016.toNat, 7, v1018.toNat, 192]
def k0_off265 (i : grid0.Coords) (k0_t3 : Fin (k0_t3_loop i).trips) (k0_t4 : Fin k0_t4_loop.trips) : Fin 3 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c2_i32_128 : BitVec 32 := 2#32
  let v234 : BitVec 32 := Scalar.remsi arg8 c2_i32_128
  let v1022 : Index := Scalar.indexCast v234
  let c0_i32_171 : BitVec 32 := 0#32
  let c1_i32_173 : BitVec 32 := 1#32
  let arg10 : BitVec 32 := Scf.iv c0_i32_171 c1_i32_173 k0_t4
  let v1023 : Index := Scalar.indexCast arg10
  let c192_399 : Index := 192#32
  ![v1022.toNat, v1023.toNat, 192]
def k0_off266 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v1027 : Index := Scalar.indexCast v233
  let c0_i32_400 : BitVec 32 := 0#32
  let v1028 : Index := Scalar.indexCast c0_i32_400
  let c0_i32_171 : BitVec 32 := 0#32
  let c1_i32_173 : BitVec 32 := 1#32
  let arg10 : BitVec 32 := Scf.iv c0_i32_171 c1_i32_173 k0_t4
  let v1029 : Index := Scalar.indexCast arg10
  let c208 : Index := 208#32
  ![v1027.toNat, 0, v1029.toNat, 208]
def k0_off267 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v1032 : Index := Scalar.indexCast v233
  let c1_i32_401 : BitVec 32 := 1#32
  let v1033 : Index := Scalar.indexCast c1_i32_401
  let c0_i32_171 : BitVec 32 := 0#32
  let c1_i32_173 : BitVec 32 := 1#32
  let arg10 : BitVec 32 := Scf.iv c0_i32_171 c1_i32_173 k0_t4
  let v1034 : Index := Scalar.indexCast arg10
  let c208_402 : Index := 208#32
  ![v1032.toNat, 1, v1034.toNat, 208]
def k0_off268 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v1038 : Index := Scalar.indexCast v233
  let c2_i32_403 : BitVec 32 := 2#32
  let v1039 : Index := Scalar.indexCast c2_i32_403
  let c0_i32_171 : BitVec 32 := 0#32
  let c1_i32_173 : BitVec 32 := 1#32
  let arg10 : BitVec 32 := Scf.iv c0_i32_171 c1_i32_173 k0_t4
  let v1040 : Index := Scalar.indexCast arg10
  let c208_404 : Index := 208#32
  ![v1038.toNat, 2, v1040.toNat, 208]
def k0_off269 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v1044 : Index := Scalar.indexCast v233
  let c3_i32_405 : BitVec 32 := 3#32
  let v1045 : Index := Scalar.indexCast c3_i32_405
  let c0_i32_171 : BitVec 32 := 0#32
  let c1_i32_173 : BitVec 32 := 1#32
  let arg10 : BitVec 32 := Scf.iv c0_i32_171 c1_i32_173 k0_t4
  let v1046 : Index := Scalar.indexCast arg10
  let c208_406 : Index := 208#32
  ![v1044.toNat, 3, v1046.toNat, 208]
def k0_off270 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v1050 : Index := Scalar.indexCast v233
  let c4_i32_407 : BitVec 32 := 4#32
  let v1051 : Index := Scalar.indexCast c4_i32_407
  let c0_i32_171 : BitVec 32 := 0#32
  let c1_i32_173 : BitVec 32 := 1#32
  let arg10 : BitVec 32 := Scf.iv c0_i32_171 c1_i32_173 k0_t4
  let v1052 : Index := Scalar.indexCast arg10
  let c208_408 : Index := 208#32
  ![v1050.toNat, 4, v1052.toNat, 208]
def k0_off271 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v1056 : Index := Scalar.indexCast v233
  let c5_i32_409 : BitVec 32 := 5#32
  let v1057 : Index := Scalar.indexCast c5_i32_409
  let c0_i32_171 : BitVec 32 := 0#32
  let c1_i32_173 : BitVec 32 := 1#32
  let arg10 : BitVec 32 := Scf.iv c0_i32_171 c1_i32_173 k0_t4
  let v1058 : Index := Scalar.indexCast arg10
  let c208_410 : Index := 208#32
  ![v1056.toNat, 5, v1058.toNat, 208]
def k0_off272 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v1062 : Index := Scalar.indexCast v233
  let c6_i32_411 : BitVec 32 := 6#32
  let v1063 : Index := Scalar.indexCast c6_i32_411
  let c0_i32_171 : BitVec 32 := 0#32
  let c1_i32_173 : BitVec 32 := 1#32
  let arg10 : BitVec 32 := Scf.iv c0_i32_171 c1_i32_173 k0_t4
  let v1064 : Index := Scalar.indexCast arg10
  let c208_412 : Index := 208#32
  ![v1062.toNat, 6, v1064.toNat, 208]
def k0_off273 (i : grid0.Coords) (k0_t3 : Fin (k0_t3_loop i).trips) (k0_t4 : Fin k0_t4_loop.trips) : Fin 4 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c3_i32 : BitVec 32 := 3#32
  let v233 : BitVec 32 := Scalar.remsi arg8 c3_i32
  let v1068 : Index := Scalar.indexCast v233
  let c7_i32_413 : BitVec 32 := 7#32
  let v1069 : Index := Scalar.indexCast c7_i32_413
  let c0_i32_171 : BitVec 32 := 0#32
  let c1_i32_173 : BitVec 32 := 1#32
  let arg10 : BitVec 32 := Scf.iv c0_i32_171 c1_i32_173 k0_t4
  let v1070 : Index := Scalar.indexCast arg10
  let c208_414 : Index := 208#32
  ![v1068.toNat, 7, v1070.toNat, 208]
def k0_off274 (i : grid0.Coords) (k0_t3 : Fin (k0_t3_loop i).trips) (k0_t4 : Fin k0_t4_loop.trips) : Fin 3 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c2_i32_128 : BitVec 32 := 2#32
  let v234 : BitVec 32 := Scalar.remsi arg8 c2_i32_128
  let v1074 : Index := Scalar.indexCast v234
  let c0_i32_171 : BitVec 32 := 0#32
  let c1_i32_173 : BitVec 32 := 1#32
  let arg10 : BitVec 32 := Scf.iv c0_i32_171 c1_i32_173 k0_t4
  let v1075 : Index := Scalar.indexCast arg10
  let c208_415 : Index := 208#32
  ![v1074.toNat, v1075.toNat, 208]
def k0_off275 (i : grid0.Coords) (k0_t3 : Fin (k0_t3_loop i).trips) : Fin 3 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c2_i32_128 : BitVec 32 := 2#32
  let v234 : BitVec 32 := Scalar.remsi arg8 c2_i32_128
  let c0_i32_189 : BitVec 32 := 0#32
  let c0_i32_190 : BitVec 32 := 0#32
  ![v234.toNat, 0, 0]
def k0_off276 (i : grid0.Coords) (k0_t3 : Fin (k0_t3_loop i).trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c17_i32 : BitVec 32 := 17#32
  let v4 : BitVec 32 := Scalar.muli v1 c17_i32
  let c16_i32_0 : BitVec 32 := 16#32
  let v5 : BitVec 32 := Scalar.minsi v1 c16_i32_0
  let v6 : BitVec 32 := Scalar.addi v4 v5
  let c0_i32_77 : BitVec 32 := 0#32
  let c17_i32_1 : BitVec 32 := 17#32
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let v312 : BitVec 32 := Scalar.addi v6 arg8
  let c0_i32_176 : BitVec 32 := 0#32
  let v314 : BitVec 1 := Scalar.cmpi .sgt v312 c0_i32_176
  let v315 : BitVec 32 := Scalar.extui v314
  let c0_i32_177 : BitVec 32 := 0#32
  let v316 : BitVec 1 := Scalar.cmpi .slt v312 c0_i32_177
  let v317 : BitVec 32 := Scalar.extui v316
  let v318 : BitVec 32 := Scalar.subi v315 v317
  let c14_i32_175 : BitVec 32 := 14#32
  let c0_i32_178 : BitVec 32 := 0#32
  let v319 : BitVec 1 := Scalar.cmpi .sgt c14_i32_175 c0_i32_178
  let v320 : BitVec 32 := Scalar.extui v319
  let c0_i32_179 : BitVec 32 := 0#32
  let v321 : BitVec 1 := Scalar.cmpi .slt c14_i32_175 c0_i32_179
  let v322 : BitVec 32 := Scalar.extui v321
  let v323 : BitVec 32 := Scalar.subi v320 v322
  let v324 : BitVec 1 := Scalar.cmpi .ne v318 v323
  let v325 : BitVec 32 := Scalar.remsi v312 c14_i32_175
  let c0_i32_180 : BitVec 32 := 0#32
  let v326 : BitVec 1 := Scalar.cmpi .ne v325 c0_i32_180
  let v327 : BitVec 1 := Scalar.andi v324 v326
  let v313 : BitVec 32 := Scalar.divsi v312 c14_i32_175
  let c1_i32_181 : BitVec 32 := 1#32
  let v328 : BitVec 32 := Scalar.subi v313 c1_i32_181
  let v329 : BitVec 32 := Scalar.select v327 v328 v313
  let c14_i32_182 : BitVec 32 := 14#32
  let c0_i32_183 : BitVec 32 := 0#32
  let v330 : BitVec 1 := Scalar.cmpi .eq c14_i32_182 c0_i32_183
  let c1_i32_184 : BitVec 32 := 1#32
  let v331 : BitVec 32 := Scalar.select v330 c1_i32_184 c14_i32_182
  let v332 : BitVec 32 := Scalar.remsi v312 v331
  let c0_i32_186 : BitVec 32 := 0#32
  let v334 : BitVec 1 := Scalar.cmpi .slt v332 c0_i32_186
  let c0_i32_187 : BitVec 32 := 0#32
  let v335 : BitVec 1 := Scalar.cmpi .slt v331 c0_i32_187
  let v336 : BitVec 1 := Scalar.xori v334 v335
  let c0_i32_185 : BitVec 32 := 0#32
  let v333 : BitVec 1 := Scalar.cmpi .ne v332 c0_i32_185
  let v337 : BitVec 1 := Scalar.andi v336 v333
  let v338 : BitVec 32 := Scalar.addi v332 v331
  let v339 : BitVec 32 := Scalar.select v337 v338 v332
  let c16_i32_188 : BitVec 32 := 16#32
  let v340 : BitVec 32 := Scalar.muli v339 c16_i32_188
  let c0_i32_191 : BitVec 32 := 0#32
  ![v329.toNat, v340.toNat, 0]
def k0_off277 (i : grid0.Coords) (k0_t3 : Fin (k0_t3_loop i).trips) : Fin 1 → Nat :=
  let c0_i32_77 : BitVec 32 := 0#32
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v142 : BitVec 32 := Scalar.subi v7 c0_i32_77
  let c1_i32_79 : BitVec 32 := 1#32
  let v144 : BitVec 32 := Scalar.divsi v142 c1_i32_79
  let v145 : BitVec 32 := Scalar.muli v144 c1_i32_79
  let v146 : BitVec 32 := Scalar.addi c0_i32_77 v145
  let c1_i32_81 : BitVec 32 := 1#32
  let arg8 : BitVec 32 := Scf.iv v146 c1_i32_81 k0_t3
  let c2_i32_128 : BitVec 32 := 2#32
  let v234 : BitVec 32 := Scalar.remsi arg8 c2_i32_128
  ![v234.toNat]
def k0_off278 (i : grid0.Coords) (c2_i32_83 : BitVec 32) : Fin 3 → Nat :=
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v150 : BitVec 32 := Scalar.subi v7 c2_i32_83
  let c2_i32_84 : BitVec 32 := 2#32
  let v151 : BitVec 32 := Scalar.remsi v150 c2_i32_84
  let c0_i32_99 : BitVec 32 := 0#32
  let c0_i32_100 : BitVec 32 := 0#32
  ![v151.toNat, 0, 0]
def k0_off279 (i : grid0.Coords) (c2_i32_82 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c17_i32 : BitVec 32 := 17#32
  let v4 : BitVec 32 := Scalar.muli v1 c17_i32
  let c16_i32_0 : BitVec 32 := 16#32
  let v5 : BitVec 32 := Scalar.minsi v1 c16_i32_0
  let v6 : BitVec 32 := Scalar.addi v4 v5
  let c17_i32_1 : BitVec 32 := 17#32
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v149 : BitVec 32 := Scalar.subi v7 c2_i32_82
  let v152 : BitVec 32 := Scalar.addi v6 v149
  let c0_i32_86 : BitVec 32 := 0#32
  let v154 : BitVec 1 := Scalar.cmpi .sgt v152 c0_i32_86
  let v155 : BitVec 32 := Scalar.extui v154
  let c0_i32_87 : BitVec 32 := 0#32
  let v156 : BitVec 1 := Scalar.cmpi .slt v152 c0_i32_87
  let v157 : BitVec 32 := Scalar.extui v156
  let v158 : BitVec 32 := Scalar.subi v155 v157
  let c14_i32_85 : BitVec 32 := 14#32
  let c0_i32_88 : BitVec 32 := 0#32
  let v159 : BitVec 1 := Scalar.cmpi .sgt c14_i32_85 c0_i32_88
  let v160 : BitVec 32 := Scalar.extui v159
  let c0_i32_89 : BitVec 32 := 0#32
  let v161 : BitVec 1 := Scalar.cmpi .slt c14_i32_85 c0_i32_89
  let v162 : BitVec 32 := Scalar.extui v161
  let v163 : BitVec 32 := Scalar.subi v160 v162
  let v164 : BitVec 1 := Scalar.cmpi .ne v158 v163
  let v165 : BitVec 32 := Scalar.remsi v152 c14_i32_85
  let c0_i32_90 : BitVec 32 := 0#32
  let v166 : BitVec 1 := Scalar.cmpi .ne v165 c0_i32_90
  let v167 : BitVec 1 := Scalar.andi v164 v166
  let v153 : BitVec 32 := Scalar.divsi v152 c14_i32_85
  let c1_i32_91 : BitVec 32 := 1#32
  let v168 : BitVec 32 := Scalar.subi v153 c1_i32_91
  let v169 : BitVec 32 := Scalar.select v167 v168 v153
  let c14_i32_92 : BitVec 32 := 14#32
  let c0_i32_93 : BitVec 32 := 0#32
  let v170 : BitVec 1 := Scalar.cmpi .eq c14_i32_92 c0_i32_93
  let c1_i32_94 : BitVec 32 := 1#32
  let v171 : BitVec 32 := Scalar.select v170 c1_i32_94 c14_i32_92
  let v172 : BitVec 32 := Scalar.remsi v152 v171
  let c0_i32_96 : BitVec 32 := 0#32
  let v174 : BitVec 1 := Scalar.cmpi .slt v172 c0_i32_96
  let c0_i32_97 : BitVec 32 := 0#32
  let v175 : BitVec 1 := Scalar.cmpi .slt v171 c0_i32_97
  let v176 : BitVec 1 := Scalar.xori v174 v175
  let c0_i32_95 : BitVec 32 := 0#32
  let v173 : BitVec 1 := Scalar.cmpi .ne v172 c0_i32_95
  let v177 : BitVec 1 := Scalar.andi v176 v173
  let v178 : BitVec 32 := Scalar.addi v172 v171
  let v179 : BitVec 32 := Scalar.select v177 v178 v172
  let c16_i32_98 : BitVec 32 := 16#32
  let v180 : BitVec 32 := Scalar.muli v179 c16_i32_98
  let c0_i32_101 : BitVec 32 := 0#32
  ![v169.toNat, v180.toNat, 0]
def k0_off280 (i : grid0.Coords) (c2_i32_83 : BitVec 32) : Fin 1 → Nat :=
  let c17_i32_1 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let c1_i32 : BitVec 32 := 1#32
  let c0_i32 : BitVec 32 := 0#32
  let v3 : BitVec 32 := Scalar.select v2 c1_i32 c0_i32
  let v7 : BitVec 32 := Scalar.addi c17_i32_1 v3
  let v150 : BitVec 32 := Scalar.subi v7 c2_i32_83
  let c2_i32_84 : BitVec 32 := 2#32
  let v151 : BitVec 32 := Scalar.remsi v150 c2_i32_84
  ![v151.toNat]
abbrev grid1 : Pipeline.Grid := ⟨1, ![56], ![false]⟩

abbrev pre1 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 2 → Nat :=
  let c40_i32_4 : BitVec 32 := 40#32
  let arg0 : BitVec 32 := BitVec.ofNat 32 (i 0).val
  let v18 : BitVec 32 := Scalar.addi c40_i32_4 arg0
  let c24_i32_5 : BitVec 32 := 24#32
  let c0_i32_6 : BitVec 32 := 0#32
  let v19 : BitVec 1 := Scalar.cmpi .eq c24_i32_5 c0_i32_6
  let c1_i32_7 : BitVec 32 := 1#32
  let v20 : BitVec 32 := Scalar.select v19 c1_i32_7 c24_i32_5
  let v21 : BitVec 32 := Scalar.remsi v18 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let v29 : Index := Scalar.indexCast v28
  let c0 : Index := 0#32
  ![v29.toNat, 0]
def cc1_transform_0 (k1_off1_inb : ∀ i : grid1.Coords, ∀ a, (k1_off1 i) a + S1x1.size a ≤ S24x8.size a) (numel1_S1x1 : S1x1.numel = 1) (pf : pre1.Contents (Elt F)) (i : grid1.Coords) : Fin 4 → Nat :=
  let arg0 : BitVec 32 := BitVec.ofNat 32 (i 0).val
  let c40_i32 : BitVec 32 := 40#32
  let v0 : BitVec 32 := Scalar.addi c40_i32 arg0
  let c24_i32 : BitVec 32 := 24#32
  let v1 : BitVec 32 := Scalar.divsi v0 c24_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c24_i32 c0_i32_1
  let v8 : BitVec 32 := Scalar.extui v7
  let c0_i32_2 : BitVec 32 := 0#32
  let v9 : BitVec 1 := Scalar.cmpi .slt c24_i32 c0_i32_2
  let v10 : BitVec 32 := Scalar.extui v9
  let v11 : BitVec 32 := Scalar.subi v8 v10
  let v12 : BitVec 1 := Scalar.cmpi .ne v6 v11
  let v13 : BitVec 32 := Scalar.remsi v0 c24_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c40_i32_4 : BitVec 32 := 40#32
  let v18 : BitVec 32 := Scalar.addi c40_i32_4 arg0
  let c24_i32_5 : BitVec 32 := 24#32
  let c0_i32_6 : BitVec 32 := 0#32
  let v19 : BitVec 1 := Scalar.cmpi .eq c24_i32_5 c0_i32_6
  let c1_i32_7 : BitVec 32 := 1#32
  let v20 : BitVec 32 := Scalar.select v19 c1_i32_7 c24_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let v29 : Index := Scalar.indexCast v28
  let c0 : Index := 0#32
  let v30 : BitVec 32 := pf.at 0 (Rect.unit (s := S24x8) ![v29.toNat, 0] S1x1.size (k1_off1_inb i)) numel1_S1x1
  let c8_i32 : BitVec 32 := 8#32
  let v31 : BitVec 32 := Scalar.divsi v30 c8_i32
  let c0_i32_11 : BitVec 32 := 0#32
  let v32 : BitVec 1 := Scalar.cmpi .sgt v30 c0_i32_11
  let v33 : BitVec 32 := Scalar.extui v32
  let c0_i32_12 : BitVec 32 := 0#32
  let v34 : BitVec 1 := Scalar.cmpi .slt v30 c0_i32_12
  let v35 : BitVec 32 := Scalar.extui v34
  let v36 : BitVec 32 := Scalar.subi v33 v35
  let c0_i32_13 : BitVec 32 := 0#32
  let v37 : BitVec 1 := Scalar.cmpi .sgt c8_i32 c0_i32_13
  let v38 : BitVec 32 := Scalar.extui v37
  let c0_i32_14 : BitVec 32 := 0#32
  let v39 : BitVec 1 := Scalar.cmpi .slt c8_i32 c0_i32_14
  let v40 : BitVec 32 := Scalar.extui v39
  let v41 : BitVec 32 := Scalar.subi v38 v40
  let v42 : BitVec 1 := Scalar.cmpi .ne v36 v41
  let v43 : BitVec 32 := Scalar.remsi v30 c8_i32
  let c0_i32_15 : BitVec 32 := 0#32
  let v44 : BitVec 1 := Scalar.cmpi .ne v43 c0_i32_15
  let v45 : BitVec 1 := Scalar.andi v42 v44
  let c1_i32_16 : BitVec 32 := 1#32
  let v46 : BitVec 32 := Scalar.subi v31 c1_i32_16
  let v47 : BitVec 32 := Scalar.select v45 v46 v31
  let c0_i32_17 : BitVec 32 := 0#32
  let c0_i32_18 : BitVec 32 := 0#32
  let c0_i32_19 : BitVec 32 := 0#32
  ![v17.toNat, v47.toNat, c0_i32_17.toNat, c0_i32_18.toNat]

def cc1_transform_1 (i : grid1.Coords) : Fin 3 → Nat :=
  let arg0 : BitVec 32 := BitVec.ofNat 32 (i 0).val
  let c40_i32 : BitVec 32 := 40#32
  let v0 : BitVec 32 := Scalar.addi c40_i32 arg0
  let c0_i32 : BitVec 32 := 0#32
  let c0_i32_0 : BitVec 32 := 0#32
  let c0_i32_1 : BitVec 32 := 0#32
  ![v0.toNat, c0_i32.toNat, c0_i32_0.toNat]

abbrev stage1_0 : Fin 2 → Memref sig .tc .vmem S1x8x224x224 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x224x224 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x192x224x224 : Shape := ⟨4, ![4, 192, 224, 224]⟩
abbrev S24x8 : Shape := ⟨2, ![24, 8]⟩
abbrev S24x1 : Shape := ⟨2, ![24, 1]⟩
abbrev S24 : Shape := ⟨1, ![24]⟩
abbrev S_ : Shape := ⟨0, ![]⟩
abbrev S1 : Shape := ⟨1, ![1]⟩
abbrev S1x1 : Shape := ⟨2, ![1, 1]⟩
abbrev S4x24x224x224 : Shape := ⟨4, ![4, 24, 224, 224]⟩

abbrev nBuf : Space → Nat
  | .hbm => 209
  | .vmem => 0
  | .smem => 0
  | _ => 0

abbrev hbmTy0_0 (i : Nat) : BufTy := match i % 128 with
  | 0 => ⟨S4x192x224x224, .f32⟩
  | 1 => ⟨S24x8, .i32⟩
  | 2 => ⟨S24x1, .i32⟩
  | 3 => ⟨S24, .i32⟩
  | 4 => ⟨S_, .i32⟩
  | 5 => ⟨S24, .i32⟩
  | 6 => ⟨S24, .i1⟩
  | 7 => ⟨S_, .i32⟩
  | 8 => ⟨S24, .i32⟩
  | 9 => ⟨S24, .i32⟩
  | 10 => ⟨S24, .i32⟩
  | 11 => ⟨S24x1, .i32⟩
  | 12 => ⟨S1, .i32⟩
  | 13 => ⟨S_, .i32⟩
  | 14 => ⟨S24x1, .i32⟩
  | 15 => ⟨S24x1, .i1⟩
  | 16 => ⟨S1x1, .i32⟩
  | 17 => ⟨S24x1, .i32⟩
  | 18 => ⟨S24x1, .i1⟩
  | 19 => ⟨S24x1, .i1⟩
  | 20 => ⟨S_, .i1⟩
  | 21 => ⟨S24, .i1⟩
  | 22 => ⟨S4x24x224x224, .f32⟩
  | 23 => ⟨S4x24x224x224, .i1⟩
  | 24 => ⟨S_, .f32⟩
  | 25 => ⟨S4x24x224x224, .f32⟩
  | 26 => ⟨S4x24x224x224, .f32⟩
  | 27 => ⟨S24x1, .i32⟩
  | 28 => ⟨S24, .i32⟩
  | 29 => ⟨S_, .i32⟩
  | 30 => ⟨S24, .i32⟩
  | 31 => ⟨S24, .i1⟩
  | 32 => ⟨S_, .i32⟩
  | 33 => ⟨S24, .i32⟩
  | 34 => ⟨S24, .i32⟩
  | 35 => ⟨S24, .i32⟩
  | 36 => ⟨S24x1, .i32⟩
  | 37 => ⟨S1, .i32⟩
  | 38 => ⟨S_, .i32⟩
  | 39 => ⟨S24x1, .i32⟩
  | 40 => ⟨S24x1, .i1⟩
  | 41 => ⟨S1x1, .i32⟩
  | 42 => ⟨S24x1, .i32⟩
  | 43 => ⟨S24x1, .i1⟩
  | 44 => ⟨S24x1, .i1⟩
  | 45 => ⟨S_, .i1⟩
  | 46 => ⟨S24, .i1⟩
  | 47 => ⟨S4x24x224x224, .f32⟩
  | 48 => ⟨S4x24x224x224, .i1⟩
  | 49 => ⟨S_, .f32⟩
  | 50 => ⟨S4x24x224x224, .f32⟩
  | 51 => ⟨S4x24x224x224, .f32⟩
  | 52 => ⟨S4x24x224x224, .f32⟩
  | 53 => ⟨S24x1, .i32⟩
  | 54 => ⟨S24, .i32⟩
  | 55 => ⟨S_, .i32⟩
  | 56 => ⟨S24, .i32⟩
  | 57 => ⟨S24, .i1⟩
  | 58 => ⟨S_, .i32⟩
  | 59 => ⟨S24, .i32⟩
  | 60 => ⟨S24, .i32⟩
  | 61 => ⟨S24, .i32⟩
  | 62 => ⟨S24x1, .i32⟩
  | 63 => ⟨S1, .i32⟩
  | 64 => ⟨S_, .i32⟩
  | 65 => ⟨S24x1, .i32⟩
  | 66 => ⟨S24x1, .i1⟩
  | 67 => ⟨S1x1, .i32⟩
  | 68 => ⟨S24x1, .i32⟩
  | 69 => ⟨S24x1, .i1⟩
  | 70 => ⟨S24x1, .i1⟩
  | 71 => ⟨S_, .i1⟩
  | 72 => ⟨S24, .i1⟩
  | 73 => ⟨S4x24x224x224, .f32⟩
  | 74 => ⟨S4x24x224x224, .i1⟩
  | 75 => ⟨S_, .f32⟩
  | 76 => ⟨S4x24x224x224, .f32⟩
  | 77 => ⟨S4x24x224x224, .f32⟩
  | 78 => ⟨S4x24x224x224, .f32⟩
  | 79 => ⟨S24x1, .i32⟩
  | 80 => ⟨S24, .i32⟩
  | 81 => ⟨S_, .i32⟩
  | 82 => ⟨S24, .i32⟩
  | 83 => ⟨S24, .i1⟩
  | 84 => ⟨S_, .i32⟩
  | 85 => ⟨S24, .i32⟩
  | 86 => ⟨S24, .i32⟩
  | 87 => ⟨S24, .i32⟩
  | 88 => ⟨S24x1, .i32⟩
  | 89 => ⟨S1, .i32⟩
  | 90 => ⟨S_, .i32⟩
  | 91 => ⟨S24x1, .i32⟩
  | 92 => ⟨S24x1, .i1⟩
  | 93 => ⟨S1x1, .i32⟩
  | 94 => ⟨S24x1, .i32⟩
  | 95 => ⟨S24x1, .i1⟩
  | 96 => ⟨S24x1, .i1⟩
  | 97 => ⟨S_, .i1⟩
  | 98 => ⟨S24, .i1⟩
  | 99 => ⟨S4x24x224x224, .f32⟩
  | 100 => ⟨S4x24x224x224, .i1⟩
  | 101 => ⟨S_, .f32⟩
  | 102 => ⟨S4x24x224x224, .f32⟩
  | 103 => ⟨S4x24x224x224, .f32⟩
  | 104 => ⟨S4x24x224x224, .f32⟩
  | 105 => ⟨S24x1, .i32⟩
  | 106 => ⟨S24, .i32⟩
  | 107 => ⟨S_, .i32⟩
  | 108 => ⟨S24, .i32⟩
  | 109 => ⟨S24, .i1⟩
  | 110 => ⟨S_, .i32⟩
  | 111 => ⟨S24, .i32⟩
  | 112 => ⟨S24, .i32⟩
  | 113 => ⟨S24, .i32⟩
  | 114 => ⟨S24x1, .i32⟩
  | 115 => ⟨S1, .i32⟩
  | 116 => ⟨S_, .i32⟩
  | 117 => ⟨S24x1, .i32⟩
  | 118 => ⟨S24x1, .i1⟩
  | 119 => ⟨S1x1, .i32⟩
  | 120 => ⟨S24x1, .i32⟩
  | 121 => ⟨S24x1, .i1⟩
  | 122 => ⟨S24x1, .i1⟩
  | 123 => ⟨S_, .i1⟩
  | 124 => ⟨S24, .i1⟩
  | 125 => ⟨S4x24x224x224, .f32⟩
  | 126 => ⟨S4x24x224x224, .i1⟩
  | 127 => ⟨S_, .f32⟩
  | _ => ⟨S4x192x224x224, .f32⟩

abbrev hbmTy0_1 (i : Nat) : BufTy := match i % 128 with
  | 0 => ⟨S4x24x224x224, .f32⟩
  | 1 => ⟨S4x24x224x224, .f32⟩
  | 2 => ⟨S4x24x224x224, .f32⟩
  | 3 => ⟨S24x1, .i32⟩
  | 4 => ⟨S24, .i32⟩
  | 5 => ⟨S_, .i32⟩
  | 6 => ⟨S24, .i32⟩
  | 7 => ⟨S24, .i1⟩
  | 8 => ⟨S_, .i32⟩
  | 9 => ⟨S24, .i32⟩
  | 10 => ⟨S24, .i32⟩
  | 11 => ⟨S24, .i32⟩
  | 12 => ⟨S24x1, .i32⟩
  | 13 => ⟨S1, .i32⟩
  | 14 => ⟨S_, .i32⟩
  | 15 => ⟨S24x1, .i32⟩
  | 16 => ⟨S24x1, .i1⟩
  | 17 => ⟨S1x1, .i32⟩
  | 18 => ⟨S24x1, .i32⟩
  | 19 => ⟨S24x1, .i1⟩
  | 20 => ⟨S24x1, .i1⟩
  | 21 => ⟨S_, .i1⟩
  | 22 => ⟨S24, .i1⟩
  | 23 => ⟨S4x24x224x224, .f32⟩
  | 24 => ⟨S4x24x224x224, .i1⟩
  | 25 => ⟨S_, .f32⟩
  | 26 => ⟨S4x24x224x224, .f32⟩
  | 27 => ⟨S4x24x224x224, .f32⟩
  | 28 => ⟨S4x24x224x224, .f32⟩
  | 29 => ⟨S24x1, .i32⟩
  | 30 => ⟨S24, .i32⟩
  | 31 => ⟨S_, .i32⟩
  | 32 => ⟨S24, .i32⟩
  | 33 => ⟨S24, .i1⟩
  | 34 => ⟨S_, .i32⟩
  | 35 => ⟨S24, .i32⟩
  | 36 => ⟨S24, .i32⟩
  | 37 => ⟨S24, .i32⟩
  | 38 => ⟨S24x1, .i32⟩
  | 39 => ⟨S1, .i32⟩
  | 40 => ⟨S_, .i32⟩
  | 41 => ⟨S24x1, .i32⟩
  | 42 => ⟨S24x1, .i1⟩
  | 43 => ⟨S1x1, .i32⟩
  | 44 => ⟨S24x1, .i32⟩
  | 45 => ⟨S24x1, .i1⟩
  | 46 => ⟨S24x1, .i1⟩
  | 47 => ⟨S_, .i1⟩
  | 48 => ⟨S24, .i1⟩
  | 49 => ⟨S4x24x224x224, .f32⟩
  | 50 => ⟨S4x24x224x224, .i1⟩
  | 51 => ⟨S_, .f32⟩
  | 52 => ⟨S4x24x224x224, .f32⟩
  | 53 => ⟨S4x24x224x224, .f32⟩
  | 54 => ⟨S4x24x224x224, .f32⟩
  | 55 => ⟨S24x1, .i32⟩
  | 56 => ⟨S24, .i32⟩
  | 57 => ⟨S_, .i32⟩
  | 58 => ⟨S24, .i32⟩
  | 59 => ⟨S24, .i1⟩
  | 60 => ⟨S_, .i32⟩
  | 61 => ⟨S24, .i32⟩
  | 62 => ⟨S24, .i32⟩
  | 63 => ⟨S24, .i32⟩
  | 64 => ⟨S24x1, .i32⟩
  | 65 => ⟨S1, .i32⟩
  | 66 => ⟨S_, .i32⟩
  | 67 => ⟨S24x1, .i32⟩
  | 68 => ⟨S24x1, .i1⟩
  | 69 => ⟨S1x1, .i32⟩
  | 70 => ⟨S24x1, .i32⟩
  | 71 => ⟨S24x1, .i1⟩
  | 72 => ⟨S24x1, .i1⟩
  | 73 => ⟨S_, .i1⟩
  | 74 => ⟨S24, .i1⟩
  | 75 => ⟨S4x24x224x224, .f32⟩
  | 76 => ⟨S4x24x224x224, .i1⟩
  | 77 => ⟨S_, .f32⟩
  | 78 => ⟨S4x24x224x224, .f32⟩
  | 79 => ⟨S4x24x224x224, .f32⟩
  | 80 => ⟨S4x24x224x224, .f32⟩
  | _ => ⟨S4x192x224x224, .f32⟩

abbrev hbmTy (i : Nat) : BufTy := match i / 128 with
  | 0 => hbmTy0_0 i
  | 1 => hbmTy0_1 i
  | _ => ⟨S4x192x224x224, .f32⟩

abbrev bufTy : (tb : Table) → Fin (tcTables nBuf tb) → BufTy
  | .hbm, ⟨i, _⟩ => hbmTy i
  | _, _ => ⟨S4x192x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_cst : Ref sig .tc := ⟨.hbm, 49, rfl⟩
abbrev main_call1_v15 : Ref sig .tc := ⟨.hbm, 50, rfl⟩
abbrev main_v5 : Ref sig .tc := ⟨.hbm, 51, rfl⟩
abbrev main_v6 : Ref sig .tc := ⟨.hbm, 52, rfl⟩
abbrev main_v7 : Ref sig .tc := ⟨.hbm, 53, rfl⟩
abbrev main_v8 : Ref sig .tc := ⟨.hbm, 54, rfl⟩
abbrev main_call2_c : Ref sig .tc := ⟨.hbm, 55, rfl⟩
abbrev main_call2_v0 : Ref sig .tc := ⟨.hbm, 56, rfl⟩
abbrev main_call2_v1 : Ref sig .tc := ⟨.hbm, 57, rfl⟩
abbrev main_call2_c_0 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_call2_v5 : Ref sig .tc := ⟨.hbm, 62, rfl⟩
abbrev main_call2_c_1 : Ref sig .tc := ⟨.hbm, 63, rfl⟩
abbrev main_call2_c_2 : Ref sig .tc := ⟨.hbm, 64, rfl⟩
abbrev main_call2_v6 : Ref sig .tc := ⟨.hbm, 65, rfl⟩
abbrev main_call2_v7 : Ref sig .tc := ⟨.hbm, 66, rfl⟩
abbrev main_call2_v8 : Ref sig .tc := ⟨.hbm, 67, rfl⟩
abbrev main_call2_v9 : Ref sig .tc := ⟨.hbm, 68, rfl⟩
abbrev main_call2_v10 : Ref sig .tc := ⟨.hbm, 69, rfl⟩
abbrev main_call2_v11 : Ref sig .tc := ⟨.hbm, 70, rfl⟩
abbrev main_call2_c_3 : Ref sig .tc := ⟨.hbm, 71, rfl⟩
abbrev main_call2_v12 : Ref sig .tc := ⟨.hbm, 72, rfl⟩
abbrev main_call2_v13 : Ref sig .tc := ⟨.hbm, 73, rfl⟩
abbrev main_call2_v14 : Ref sig .tc := ⟨.hbm, 74, rfl⟩
abbrev main_call2_cst : Ref sig .tc := ⟨.hbm, 75, rfl⟩
abbrev main_call2_v15 : Ref sig .tc := ⟨.hbm, 76, rfl⟩
abbrev main_v9 : Ref sig .tc := ⟨.hbm, 77, rfl⟩
abbrev main_v10 : Ref sig .tc := ⟨.hbm, 78, rfl⟩
abbrev main_v11 : Ref sig .tc := ⟨.hbm, 79, rfl⟩
abbrev main_v12 : Ref sig .tc := ⟨.hbm, 80, rfl⟩
abbrev main_call3_c : Ref sig .tc := ⟨.hbm, 81, rfl⟩
abbrev main_call3_v0 : Ref sig .tc := ⟨.hbm, 82, rfl⟩
abbrev main_call3_v1 : Ref sig .tc := ⟨.hbm, 83, rfl⟩
abbrev main_call3_c_0 : Ref sig .tc := ⟨.hbm, 84, rfl⟩
abbrev main_call3_v2 : Ref sig .tc := ⟨.hbm, 85, rfl⟩
abbrev main_call3_v3 : Ref sig .tc := ⟨.hbm, 86, rfl⟩
abbrev main_call3_v4 : Ref sig .tc := ⟨.hbm, 87, rfl⟩
abbrev main_call3_v5 : Ref sig .tc := ⟨.hbm, 88, rfl⟩
abbrev main_call3_c_1 : Ref sig .tc := ⟨.hbm, 89, rfl⟩
abbrev main_call3_c_2 : Ref sig .tc := ⟨.hbm, 90, rfl⟩
abbrev main_call3_v6 : Ref sig .tc := ⟨.hbm, 91, rfl⟩
abbrev main_call3_v7 : Ref sig .tc := ⟨.hbm, 92, rfl⟩
abbrev main_call3_v8 : Ref sig .tc := ⟨.hbm, 93, rfl⟩
abbrev main_call3_v9 : Ref sig .tc := ⟨.hbm, 94, rfl⟩
abbrev main_call3_v10 : Ref sig .tc := ⟨.hbm, 95, rfl⟩
abbrev main_call3_v11 : Ref sig .tc := ⟨.hbm, 96, rfl⟩
abbrev main_call3_c_3 : Ref sig .tc := ⟨.hbm, 97, rfl⟩
abbrev main_call3_v12 : Ref sig .tc := ⟨.hbm, 98, rfl⟩
abbrev main_call3_v13 : Ref sig .tc := ⟨.hbm, 99, rfl⟩
abbrev main_call3_v14 : Ref sig .tc := ⟨.hbm, 100, rfl⟩
abbrev main_call3_cst : Ref sig .tc := ⟨.hbm, 101, rfl⟩
abbrev main_call3_v15 : Ref sig .tc := ⟨.hbm, 102, rfl⟩
abbrev main_v13 : Ref sig .tc := ⟨.hbm, 103, rfl⟩
abbrev main_v14 : Ref sig .tc := ⟨.hbm, 104, rfl⟩
abbrev main_v15 : Ref sig .tc := ⟨.hbm, 105, rfl⟩
abbrev main_v16 : Ref sig .tc := ⟨.hbm, 106, rfl⟩
abbrev main_call4_c : Ref sig .tc := ⟨.hbm, 107, rfl⟩
abbrev main_call4_v0 : Ref sig .tc := ⟨.hbm, 108, rfl⟩
abbrev main_call4_v1 : Ref sig .tc := ⟨.hbm, 109, rfl⟩
abbrev main_call4_c_0 : Ref sig .tc := ⟨.hbm, 110, rfl⟩
abbrev main_call4_v2 : Ref sig .tc := ⟨.hbm, 111, rfl⟩
abbrev main_call4_v3 : Ref sig .tc := ⟨.hbm, 112, rfl⟩
abbrev main_call4_v4 : Ref sig .tc := ⟨.hbm, 113, rfl⟩
abbrev main_call4_v5 : Ref sig .tc := ⟨.hbm, 114, rfl⟩
abbrev main_call4_c_1 : Ref sig .tc := ⟨.hbm, 115, rfl⟩
abbrev main_call4_c_2 : Ref sig .tc := ⟨.hbm, 116, rfl⟩
abbrev main_call4_v6 : Ref sig .tc := ⟨.hbm, 117, rfl⟩
abbrev main_call4_v7 : Ref sig .tc := ⟨.hbm, 118, rfl⟩
abbrev main_call4_v8 : Ref sig .tc := ⟨.hbm, 119, rfl⟩
abbrev main_call4_v9 : Ref sig .tc := ⟨.hbm, 120, rfl⟩
abbrev main_call4_v10 : Ref sig .tc := ⟨.hbm, 121, rfl⟩
abbrev main_call4_v11 : Ref sig .tc := ⟨.hbm, 122, rfl⟩
abbrev main_call4_c_3 : Ref sig .tc := ⟨.hbm, 123, rfl⟩
abbrev main_call4_v12 : Ref sig .tc := ⟨.hbm, 124, rfl⟩
abbrev main_call4_v13 : Ref sig .tc := ⟨.hbm, 125, rfl⟩
abbrev main_call4_v14 : Ref sig .tc := ⟨.hbm, 126, rfl⟩
abbrev main_call4_cst : Ref sig .tc := ⟨.hbm, 127, rfl⟩
abbrev main_call4_v15 : Ref sig .tc := ⟨.hbm, 128, rfl⟩
abbrev main_v17 : Ref sig .tc := ⟨.hbm, 129, rfl⟩
abbrev main_v18 : Ref sig .tc := ⟨.hbm, 130, rfl⟩
abbrev main_v19 : Ref sig .tc := ⟨.hbm, 131, rfl⟩
abbrev main_v20 : Ref sig .tc := ⟨.hbm, 132, rfl⟩
abbrev main_call5_c : Ref sig .tc := ⟨.hbm, 133, rfl⟩
abbrev main_call5_v0 : Ref sig .tc := ⟨.hbm, 134, rfl⟩
abbrev main_call5_v1 : Ref sig .tc := ⟨.hbm, 135, rfl⟩
abbrev main_call5_c_0 : Ref sig .tc := ⟨.hbm, 136, rfl⟩
abbrev main_call5_v2 : Ref sig .tc := ⟨.hbm, 137, rfl⟩
abbrev main_call5_v3 : Ref sig .tc := ⟨.hbm, 138, rfl⟩
abbrev main_call5_v4 : Ref sig .tc := ⟨.hbm, 139, rfl⟩
abbrev main_call5_v5 : Ref sig .tc := ⟨.hbm, 140, rfl⟩
abbrev main_call5_c_1 : Ref sig .tc := ⟨.hbm, 141, rfl⟩
abbrev main_call5_c_2 : Ref sig .tc := ⟨.hbm, 142, rfl⟩
abbrev main_call5_v6 : Ref sig .tc := ⟨.hbm, 143, rfl⟩
abbrev main_call5_v7 : Ref sig .tc := ⟨.hbm, 144, rfl⟩
abbrev main_call5_v8 : Ref sig .tc := ⟨.hbm, 145, rfl⟩
abbrev main_call5_v9 : Ref sig .tc := ⟨.hbm, 146, rfl⟩
abbrev main_call5_v10 : Ref sig .tc := ⟨.hbm, 147, rfl⟩
abbrev main_call5_v11 : Ref sig .tc := ⟨.hbm, 148, rfl⟩
abbrev main_call5_c_3 : Ref sig .tc := ⟨.hbm, 149, rfl⟩
abbrev main_call5_v12 : Ref sig .tc := ⟨.hbm, 150, rfl⟩
abbrev main_call5_v13 : Ref sig .tc := ⟨.hbm, 151, rfl⟩
abbrev main_call5_v14 : Ref sig .tc := ⟨.hbm, 152, rfl⟩
abbrev main_call5_cst : Ref sig .tc := ⟨.hbm, 153, rfl⟩
abbrev main_call5_v15 : Ref sig .tc := ⟨.hbm, 154, rfl⟩
abbrev main_v21 : Ref sig .tc := ⟨.hbm, 155, rfl⟩
abbrev main_v22 : Ref sig .tc := ⟨.hbm, 156, rfl⟩
abbrev main_v23 : Ref sig .tc := ⟨.hbm, 157, rfl⟩
abbrev main_v24 : Ref sig .tc := ⟨.hbm, 158, rfl⟩
abbrev main_call6_c : Ref sig .tc := ⟨.hbm, 159, rfl⟩
abbrev main_call6_v0 : Ref sig .tc := ⟨.hbm, 160, rfl⟩
abbrev main_call6_v1 : Ref sig .tc := ⟨.hbm, 161, rfl⟩
abbrev main_call6_c_0 : Ref sig .tc := ⟨.hbm, 162, rfl⟩
abbrev main_call6_v2 : Ref sig .tc := ⟨.hbm, 163, rfl⟩
abbrev main_call6_v3 : Ref sig .tc := ⟨.hbm, 164, rfl⟩
abbrev main_call6_v4 : Ref sig .tc := ⟨.hbm, 165, rfl⟩
abbrev main_call6_v5 : Ref sig .tc := ⟨.hbm, 166, rfl⟩
abbrev main_call6_c_1 : Ref sig .tc := ⟨.hbm, 167, rfl⟩
abbrev main_call6_c_2 : Ref sig .tc := ⟨.hbm, 168, rfl⟩
abbrev main_call6_v6 : Ref sig .tc := ⟨.hbm, 169, rfl⟩
abbrev main_call6_v7 : Ref sig .tc := ⟨.hbm, 170, rfl⟩
abbrev main_call6_v8 : Ref sig .tc := ⟨.hbm, 171, rfl⟩
abbrev main_call6_v9 : Ref sig .tc := ⟨.hbm, 172, rfl⟩
abbrev main_call6_v10 : Ref sig .tc := ⟨.hbm, 173, rfl⟩
abbrev main_call6_v11 : Ref sig .tc := ⟨.hbm, 174, rfl⟩
abbrev main_call6_c_3 : Ref sig .tc := ⟨.hbm, 175, rfl⟩
abbrev main_call6_v12 : Ref sig .tc := ⟨.hbm, 176, rfl⟩
abbrev main_call6_v13 : Ref sig .tc := ⟨.hbm, 177, rfl⟩
abbrev main_call6_v14 : Ref sig .tc := ⟨.hbm, 178, rfl⟩
abbrev main_call6_cst : Ref sig .tc := ⟨.hbm, 179, rfl⟩
abbrev main_call6_v15 : Ref sig .tc := ⟨.hbm, 180, rfl⟩
abbrev main_v25 : Ref sig .tc := ⟨.hbm, 181, rfl⟩
abbrev main_v26 : Ref sig .tc := ⟨.hbm, 182, rfl⟩
abbrev main_v27 : Ref sig .tc := ⟨.hbm, 183, rfl⟩
abbrev main_v28 : Ref sig .tc := ⟨.hbm, 184, rfl⟩
abbrev main_call7_c : Ref sig .tc := ⟨.hbm, 185, rfl⟩
abbrev main_call7_v0 : Ref sig .tc := ⟨.hbm, 186, rfl⟩
abbrev main_call7_v1 : Ref sig .tc := ⟨.hbm, 187, rfl⟩
abbrev main_call7_c_0 : Ref sig .tc := ⟨.hbm, 188, rfl⟩
abbrev main_call7_v2 : Ref sig .tc := ⟨.hbm, 189, rfl⟩
abbrev main_call7_v3 : Ref sig .tc := ⟨.hbm, 190, rfl⟩
abbrev main_call7_v4 : Ref sig .tc := ⟨.hbm, 191, rfl⟩
abbrev main_call7_v5 : Ref sig .tc := ⟨.hbm, 192, rfl⟩
abbrev main_call7_c_1 : Ref sig .tc := ⟨.hbm, 193, rfl⟩
abbrev main_call7_c_2 : Ref sig .tc := ⟨.hbm, 194, rfl⟩
abbrev main_call7_v6 : Ref sig .tc := ⟨.hbm, 195, rfl⟩
abbrev main_call7_v7 : Ref sig .tc := ⟨.hbm, 196, rfl⟩
abbrev main_call7_v8 : Ref sig .tc := ⟨.hbm, 197, rfl⟩
abbrev main_call7_v9 : Ref sig .tc := ⟨.hbm, 198, rfl⟩
abbrev main_call7_v10 : Ref sig .tc := ⟨.hbm, 199, rfl⟩
abbrev main_call7_v11 : Ref sig .tc := ⟨.hbm, 200, rfl⟩
abbrev main_call7_c_3 : Ref sig .tc := ⟨.hbm, 201, rfl⟩
abbrev main_call7_v12 : Ref sig .tc := ⟨.hbm, 202, rfl⟩
abbrev main_call7_v13 : Ref sig .tc := ⟨.hbm, 203, rfl⟩
abbrev main_call7_v14 : Ref sig .tc := ⟨.hbm, 204, rfl⟩
abbrev main_call7_cst : Ref sig .tc := ⟨.hbm, 205, rfl⟩
abbrev main_call7_v15 : Ref sig .tc := ⟨.hbm, 206, rfl⟩
abbrev main_v29 : Ref sig .tc := ⟨.hbm, 207, rfl⟩
abbrev main_v30 : Ref sig .tc := ⟨.hbm, 208, rfl⟩

abbrev nD : Nat := 1
abbrev τ : Topo := Topo.v7x

variable {F : FTy → Type} [FloatOps F]
-- ==== Proof.Base.lean ====
/-
  The names the proof speaks in: the launch's parameters, the memrefs the vector kernel works on (its two staging
  rings slot by slot, and the blocks of the input and of the result one unit of work names), and the values the
  kernel computes.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.Ring
public import proofs.«01_k».proof.Proof.Gen.KernelIdeal
public import proofs.«01_k».proof.Proof.Gen.KernelIdeal.Skeleton

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP [FloatOps F] : Labels := Pipeline.Sig Λ₀ (Fin 1) fun p => (pcfgs (F := F) p).Adm
abbrev K [FloatOps F] : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
/-- The pipeline's rounds; the whole user algebra. -/
abbrev UP : Type := UR sig nD τ
abbrev UU : Type := (UH × UP) × Counters

local notation "𝕄" => MT nD τ sig (HIx 1) (Elt F) ℕ UU ℕ

/-- The handshakes' rounds library and the pipeline's, the two halves of the left factor; the transfers' counters are
    found by instance in the right. -/
def EH : Emb UH (MT nD τ sig (HIx 1) (Elt F) ℕ UU ℕ) := (Emb.inl : Emb UH (UH × UP)).trans embL
def EP : Emb UP (MT nD τ sig (HIx 1) (Elt F) ℕ UU ℕ) := (Emb.inr : Emb UP (UH × UP)).trans embL

instance EH_lands : (EH : Emb UH 𝕄).LandsIn (upEmb : UEmb _ 𝕄) := by unfold EH embL; infer_instance
instance EP_lands : (EP : Emb UP 𝕄).LandsIn (upEmb : UEmb _ 𝕄) := by unfold EP embL; infer_instance

/-! ## Tiles -/

abbrev cV (L : grid0.Coords) : Fin τ.nSC := (L 0).castLE hcore0
abbrev jV (L : grid0.Coords) : Fin τ.nSub := (L 1).castLE hsub0
abbrev VT (d : Dev nD) (L : grid0.Coords) : Thread nD τ := V d (cV L) (jV L)

/-- A tile's number, the number of units it works through, the first of them. -/
def wid (L : grid0.Coords) : ℕ := 2 * (L 1).val + (L 0).val
def cnt (L : grid0.Coords) : ℕ := (if wid L < 16 then 1 else 0) + 17
def bas (L : grid0.Coords) : ℕ := 17 * wid L + min (wid L) 16

local notation "xW" => (Memref.whole Cert.KernelIdeal.main_arg0_scv : Memref Cert.KernelIdeal.sig Kind.scVector Space.hbm Cert.KernelIdeal.S4x192x224x224 EltTy.f32)
local notation "oW" => (Memref.whole Cert.KernelIdeal.main_v0_scv : Memref Cert.KernelIdeal.sig Kind.scVector Space.hbm Cert.KernelIdeal.S40x224x224 EltTy.f32)
local notation "iW" => (Memref.whole Cert.KernelIdeal.cc0_scratch0 : Memref Cert.KernelIdeal.sig Kind.scVector Space.vmem Cert.KernelIdeal.S3x8x16x224 EltTy.f32)
local notation "uW" => (Memref.whole Cert.KernelIdeal.cc0_scratch1 : Memref Cert.KernelIdeal.sig Kind.scVector Space.vmem Cert.KernelIdeal.S2x16x224 EltTy.f32)

abbrev xLoc (d : Dev nD) : Loc nD τ sig := (SparseCore.T d).loc main_arg0
abbrev oLoc (d : Dev nD) : Loc nD τ sig := (SparseCore.T d).loc main_v0

/-! ## The slots of the two staging rings, and their cells -/

/-- Slot `j` of the input ring lies within the buffer. -/
theorem inb_in (j : Fin 3) : ∀ a, (![j.val, 0, 0, 0] : Fin 4 → Nat) a + S1x8x16x224.size a ≤ S3x8x16x224.size a := by
  intro a; fin_cases a
  · show j.val + 1 ≤ 3; omega
  · exact Nat.le_refl 8
  · exact Nat.le_refl 16
  · exact Nat.le_refl 224
/-- Slot `j` of the output ring lies within the buffer. -/
theorem inb_out (j : Fin 2) : ∀ a, (![j.val, 0, 0] : Fin 3 → Nat) a + S1x16x224.size a ≤ S2x16x224.size a := by
  intro a; fin_cases a
  · show j.val + 1 ≤ 2; omega
  · exact Nat.le_refl 16
  · exact Nat.le_refl 224
/-- Cell `j` of the input ring lies within its array of three. -/
theorem inb_s3 (j : Fin 3) : ∀ a, (![j.val] : Fin 1 → Nat) a + S1.size a ≤ S3.size a := by
  intro a; fin_cases a; show j.val + 1 ≤ 3; omega
/-- Cell `j` of the output ring lies within its array of two. -/
theorem inb_s2 (j : Fin 2) : ∀ a, (![j.val] : Fin 1 → Nat) a + S1.size a ≤ S2.size a := by
  intro a; fin_cases a; show j.val + 1 ≤ 2; omega

/-- Slot `j` of the input ring, spelt as the body slices it; -/
def inB (j : Fin 3) : Memref sig .scVector .vmem S8x16x224 .f32 :=
  ((iW).slice (Rect.unit (s := S3x8x16x224) ![j.val, 0, 0, 0] S1x8x16x224.size (inb_in j)) (fun _ => rfl)).squeeze S8x16x224 squeezes_S1x8x16x224_S8x16x224
/-- slot `j` of the output ring; -/
def outB (j : Fin 2) : Memref sig .scVector .vmem S16x224 .f32 :=
  ((uW).slice (Rect.unit (s := S2x16x224) ![j.val, 0, 0] S1x16x224.size (inb_out j)) (fun _ => rfl)).squeeze S16x224 squeezes_S1x16x224_S16x224
/-- the two rings' cells. -/
def inS (j : Fin 3) : DmaSems sig S_ := (cc0_scratch2.slice (Rect.unit (s := S3) ![j.val] S1.size (inb_s3 j))).squeeze S_ squeezes_S1_S_
def outS (j : Fin 2) : DmaSems sig S_ := (cc0_scratch3.slice (Rect.unit (s := S2) ![j.val] S1.size (inb_s2 j))).squeeze S_ squeezes_S1_S_

/-! ## One unit of work: 16 rows of one output plane, and the 8 input channels' same rows -/

/-- Where unit `u` reads, where it writes. -/
def xOff (u : ℕ) : Fin 4 → ℕ := ![u / 14 / 24, u / 14 % 24 * 8, u % 14 * 16, 0]
def oOff (u : ℕ) : Fin 3 → ℕ := ![u / 14, u % 14 * 16, 0]

/-- What a unit reads lies within the input. -/
theorem inb_x (u : ℕ) (hu : u < 560) : ∀ a, xOff u a + S1x8x16x224.size a ≤ S4x192x224x224.size a := by
  intro a; fin_cases a
  · show u / 14 / 24 + 1 ≤ 4; omega
  · show u / 14 % 24 * 8 + 8 ≤ 192; omega
  · show u % 14 * 16 + 16 ≤ 224; omega
  · exact Nat.le_refl 224
/-- What a unit writes lies within the result. -/
theorem inb_o (u : ℕ) (hu : u < 560) : ∀ a, oOff u a + S1x16x224.size a ≤ S40x224x224.size a := by
  intro a; fin_cases a
  · show u / 14 + 1 ≤ 40; omega
  · show u % 14 * 16 + 16 ≤ 224; omega
  · exact Nat.le_refl 224

def xU (u : Fin 560) : Memref sig .scVector .hbm S8x16x224 .f32 :=
  ((xW).slice (Rect.unit (s := S4x192x224x224) (xOff u.val) S1x8x16x224.size (inb_x u.val u.isLt)) (fun _ => rfl)).squeeze S8x16x224 squeezes_S1x8x16x224_S8x16x224
def oU (u : Fin 560) : Memref sig .scVector .hbm S16x224 .f32 :=
  ((oW).slice (Rect.unit (s := S40x224x224) (oOff u.val) S1x16x224.size (inb_o u.val u.isLt)) (fun _ => rfl)).squeeze S16x224 squeezes_S1x16x224_S16x224

/-! ## Their elements, by coordinates -/

def inSet (j : Fin 3) : Finset S3x8x16x224.Idx := (Rect.unit (s := S3x8x16x224) ![j.val, 0, 0, 0] S1x8x16x224.size (inb_in j)).set
def outSet (j : Fin 2) : Finset S2x16x224.Idx := (Rect.unit (s := S2x16x224) ![j.val, 0, 0] S1x16x224.size (inb_out j)).set
def xSet (u : Fin 560) : Finset S4x192x224x224.Idx := (Rect.unit (s := S4x192x224x224) (xOff u.val) S1x8x16x224.size (inb_x u.val u.isLt)).set
def oSet (u : Fin 560) : Finset S40x224x224.Idx := (Rect.unit (s := S40x224x224) (oOff u.val) S1x16x224.size (inb_o u.val u.isLt)).set

/-- The elements that an input slot's view reaches are its set of indices. -/
theorem set_inB (j : Fin 3) : (inB j).view.set = inSet j := by
  simp only [inB, Memref.view_squeeze, View.set_reshape]; exact View.set_slice_whole _ _
/-- The elements that an output slot's view reaches are its set of indices. -/
theorem set_outB (j : Fin 2) : (outB j).view.set = outSet j := by
  simp only [outB, Memref.view_squeeze, View.set_reshape]; exact View.set_slice_whole _ _
/-- The elements of the input that a unit's view reaches are its set of indices. -/
theorem set_xU (u : Fin 560) : (xU u).view.set = xSet u := by
  simp only [xU, Memref.view_squeeze, View.set_reshape]; exact View.set_slice_whole _ _
/-- The elements of the result that a unit's view reaches are its set of indices. -/
theorem set_oU (u : Fin 560) : (oU u).view.set = oSet u := by
  simp only [oU, Memref.view_squeeze, View.set_reshape]; exact View.set_slice_whole _ _

/-- An index of the input ring is in slot `j` when its first coordinate is `j`. -/
theorem mem_inSet (j : Fin 3) (i : S3x8x16x224.Idx) : i ∈ inSet j ↔ (i 0).val = j.val := by
  have h1 : (i 1).val < 8 := (i 1).isLt
  have h2 : (i 2).val < 16 := (i 2).isLt
  have h3 : (i 3).val < 224 := (i 3).isLt
  unfold inSet
  rw [Rect.mem_set_unit]
  constructor
  · intro h; have := h 0
    change j.val ≤ (i 0).val ∧ (i 0).val < j.val + 1 at this; omega
  · intro h a; fin_cases a
    · change j.val ≤ (i 0).val ∧ (i 0).val < j.val + 1; omega
    · change 0 ≤ (i 1).val ∧ (i 1).val < 0 + 8; omega
    · change 0 ≤ (i 2).val ∧ (i 2).val < 0 + 16; omega
    · change 0 ≤ (i 3).val ∧ (i 3).val < 0 + 224; omega

/-- An index of the output ring is in slot `j` when its first coordinate is `j`. -/
theorem mem_outSet (j : Fin 2) (i : S2x16x224.Idx) : i ∈ outSet j ↔ (i 0).val = j.val := by
  have h1 : (i 1).val < 16 := (i 1).isLt
  have h2 : (i 2).val < 224 := (i 2).isLt
  unfold outSet
  rw [Rect.mem_set_unit]
  constructor
  · intro h; have := h 0
    change j.val ≤ (i 0).val ∧ (i 0).val < j.val + 1 at this; omega
  · intro h a; fin_cases a
    · change j.val ≤ (i 0).val ∧ (i 0).val < j.val + 1; omega
    · change 0 ≤ (i 1).val ∧ (i 1).val < 0 + 16; omega
    · change 0 ≤ (i 2).val ∧ (i 2).val < 0 + 224; omega

/-- An index of the input belongs to unit `u` when its image, its channel's set and its band of 16 rows are the unit's. -/
theorem mem_xSet (u : Fin 560) (i : S4x192x224x224.Idx) :
    i ∈ xSet u ↔ (i 0).val = u.val / 14 / 24 ∧ (i 1).val / 8 = u.val / 14 % 24 ∧ (i 2).val / 16 = u.val % 14 := by
  have h3 : (i 3).val < 224 := (i 3).isLt
  unfold xSet
  rw [Rect.mem_set_unit]
  constructor
  · intro h; have h0 := h 0; have h1 := h 1; have h2 := h 2
    change u.val / 14 / 24 ≤ (i 0).val ∧ (i 0).val < u.val / 14 / 24 + 1 at h0
    change u.val / 14 % 24 * 8 ≤ (i 1).val ∧ (i 1).val < u.val / 14 % 24 * 8 + 8 at h1
    change u.val % 14 * 16 ≤ (i 2).val ∧ (i 2).val < u.val % 14 * 16 + 16 at h2
    omega
  · intro h a; fin_cases a
    · change u.val / 14 / 24 ≤ (i 0).val ∧ (i 0).val < u.val / 14 / 24 + 1; omega
    · change u.val / 14 % 24 * 8 ≤ (i 1).val ∧ (i 1).val < u.val / 14 % 24 * 8 + 8; omega
    · change u.val % 14 * 16 ≤ (i 2).val ∧ (i 2).val < u.val % 14 * 16 + 16; omega
    · change 0 ≤ (i 3).val ∧ (i 3).val < 0 + 224; omega

/-- An index of the result belongs to unit `u` when its plane and its band of 16 rows are the unit's. -/
theorem mem_oSet (u : Fin 560) (i : S40x224x224.Idx) :
    i ∈ oSet u ↔ (i 0).val = u.val / 14 ∧ (i 1).val / 16 = u.val % 14 := by
  have h3 : (i 2).val < 224 := (i 2).isLt
  unfold oSet
  rw [Rect.mem_set_unit]
  constructor
  · intro h; have h0 := h 0; have h1 := h 1
    change u.val / 14 ≤ (i 0).val ∧ (i 0).val < u.val / 14 + 1 at h0
    change u.val % 14 * 16 ≤ (i 1).val ∧ (i 1).val < u.val % 14 * 16 + 16 at h1
    omega
  · intro h a; fin_cases a
    · change u.val / 14 ≤ (i 0).val ∧ (i 0).val < u.val / 14 + 1; omega
    · change u.val % 14 * 16 ≤ (i 1).val ∧ (i 1).val < u.val % 14 * 16 + 16; omega
    · change 0 ≤ (i 2).val ∧ (i 2).val < 0 + 224; omega

/-! ## The values -/

section Values
variable [FloatOps F]

/-- The input at given coordinates (each taken modulo its extent). -/
def xIx (b c h w : ℕ) : S4x192x224x224.Idx
  | 0 => ⟨b % 4, Nat.mod_lt _ (by decide)⟩
  | 1 => ⟨c % 192, Nat.mod_lt _ (by decide)⟩
  | 2 => ⟨h % 224, Nat.mod_lt _ (by decide)⟩
  | 3 => ⟨w % 224, Nat.mod_lt _ (by decide)⟩

/-- The maximum of eight values, taken from the left. -/
def max8 (g : ℕ → F .f32) : F .f32 :=
  FloatOps.maximumf (FloatOps.maximumf (FloatOps.maximumf (FloatOps.maximumf (FloatOps.maximumf (FloatOps.maximumf (FloatOps.maximumf
    (g 0) (g 1)) (g 2)) (g 3)) (g 4)) (g 5)) (g 6)) (g 7)

/-- Output plane `p`'s value at row `h`, column `w`: the maximum over its eight channels. -/
def plane (x : S4x192x224x224.Idx → F .f32) (p h w : ℕ) : F .f32 := max8 fun j => x (xIx (p / 24) (p % 24 * 8 + j) h w)

/-- What a slot of the input ring holds of unit `u`; what a slot of the output ring holds when `u` is done; the result. -/
def inVal (x : S4x192x224x224.Idx → F .f32) (u : ℕ) : S3x8x16x224.Idx → F .f32 :=
  fun i => x (xIx (u / 14 / 24) (u / 14 % 24 * 8 + (i 1).val) (u % 14 * 16 + (i 2).val) (i 3).val)
def outVal (x : S4x192x224x224.Idx → F .f32) (u : ℕ) : S2x16x224.Idx → F .f32 :=
  fun i => plane x (u / 14) (u % 14 * 16 + (i 1).val) (i 2).val
def oVal (x : S4x192x224x224.Idx → F .f32) : S40x224x224.Idx → F .f32 :=
  fun i => plane x (i 0).val (i 1).val (i 2).val

/-- The output slot part way: rows before `r`, and of row `r` the columns before `w`, are done. -/
def part (x : S4x192x224x224.Idx → F .f32) (u r w : ℕ) (f : S2x16x224.Idx → F .f32) : S2x16x224.Idx → F .f32 :=
  fun i => if (i 1).val < r ∨ ((i 1).val = r ∧ (i 2).val < w) then outVal x u i else f i

end Values

end Cert.Proof
-- ==== Proof.Table.lean ====
/-
  The prefetched table of the pipelined part at the contents the precondition admits: word `(s, j)` is `8 s + j`. At
  them the index maps are plain: grid point `t` is pair `40 + t`, whose input block is the eight channels of set
  `(40 + t) mod 24` of batch `(40 + t) / 24`, and whose result block is row `40 + t` of the pairs.
-/
module

public import proofs.«01_k».proof.Proof.Base
public import proofs.«01_k».proof.Proof.Gen.KernelIdeal.Launch

@[expose] public section

noncomputable section

namespace Cert.Proof

open Cert.KernelIdeal Cert.KernelIdeal.Gen

open Idealize.ShloMosaic
open Idealize.SL Idealize.SL.RA Idealize.SL.BI
open scoped Idealize.SL.BI
open Idealize.SL.BI.BIBase Idealize.SL.BI.Laws Idealize.SL.ProofMode Idealize.SL.Sem

/-- The table of the consecutive partition. -/
def tabW : S24x8.Idx → BitVec 32 := fun i => BitVec.ofNat 32 ((i 0).val * 8 + (i 1).val)

variable {F : FTy → Type} [FloatOps F]

/-- The one prefetched table at it. -/
def pfT : pre1.Contents (Elt F) := fun | ⟨0, _⟩ => tabW | ⟨_ + 1, h⟩ => absurd h (Nat.not_lt.2 (Nat.le_add_left _ _))

/-- The input's index map at the 56 points, the floats at their bits. -/
theorem tr0_bits : ∀ i : grid1.Coords, cc1_transform_0 (F := Bits) k1_off1_inb numel1_S1x1 pfT i
    = ![(40 + (i 0).val) / 24, (40 + (i 0).val) % 24, 0, 0] := by decide +kernel

/-- The same over any floats: the map reads none. -/
theorem tr0_eq (i : grid1.Coords) : cc1_transform_0 (F := F) k1_off1_inb numel1_S1x1 pfT i
    = ![(40 + (i 0).val) / 24, (40 + (i 0).val) % 24, 0, 0] := tr0_bits i

/-- The result's index map at the 56 points. -/
theorem tr1_eq : ∀ i : grid1.Coords, cc1_transform_1 i = ![40 + (i 0).val, 0, 0] := by decide +kernel

/-- The table is admissible: every block lies inside the input. -/
theorem ok_pfT : ok1 (F := F) pfT := fun i => by
  refine ⟨fun a => ?_, .inl rfl⟩
  rw [tr0_eq]
  have h : (i 0).val < 56 := (i 0).isLt
  fin_cases a
  · show ((40 + (i 0).val) / 24 + 1) * 1 ≤ 4; omega
  · show ((40 + (i 0).val) % 24 + 1) * 8 ≤ 192; omega
  · show (0 + 1) * 224 ≤ 224; omega
  · show (0 + 1) * 224 ≤ 224; omega

/-- The pipeline's tables, admissible. -/
def adm : (p : Fin 1) → (pcfgs (F := F) p).Adm := fun _ => ⟨pfT, ok_pfT⟩

/-- The pipeline at them. -/
abbrev cfgT : Pipeline.Cfg sig Λ₀ := cfg1 (F := F) ⟨pfT, ok_pfT⟩

/-- The coordinate of grid point `t` is `t`. -/
theorem coords_val : ∀ t : Fin grid1.N, (grid1.coords t 0).val = t.val := by decide +kernel

/-- Every point fetches its input block. -/
theorem fetch_true (t : Fin (cfgT (F := F)).N) : ((cfgT (F := F)).win 0).fetch t = true := by
  have h56 : t.val < 56 := t.isLt
  unfold Pipeline.Window.fetch
  by_cases h0 : t.val = 0
  · simp [h0]; rfl
  · have hne : ((cfgT (F := F)).win 0).index t ≠ ((cfgT (F := F)).win 0).index ⟨t.val - 1, Nat.lt_of_le_of_lt (Nat.sub_le _ _) t.isLt⟩ := fun e => by
      have e' : cc1_transform_0 (F := F) k1_off1_inb numel1_S1x1 pfT (grid1.coords t)
        = cc1_transform_0 (F := F) k1_off1_inb numel1_S1x1 pfT (grid1.coords ⟨t.val - 1, Nat.lt_of_le_of_lt (Nat.sub_le _ _) t.isLt⟩) := e
      rw [tr0_eq, tr0_eq, coords_val, coords_val] at e'
      have e0 : (40 + t.val) / 24 = (40 + (t.val - 1)) / 24 := congrFun e' 0
      have e1 : (40 + t.val) % 24 = (40 + (t.val - 1)) % 24 := congrFun e' 1
      omega
    rw [decide_eq_true (p := ∃ _, _) ⟨Nat.pos_of_ne_zero h0, hne⟩]
    rw [Bool.or_true, Bool.and_true]; rfl

/-- Every point writes its result block back. -/
theorem flush_true (t : Fin (cfgT (F := F)).N) : ((cfgT (F := F)).win 1).flush t = true := by
  have h56 : t.val < 56 := t.isLt
  unfold Pipeline.Window.flush
  by_cases h0 : t.val + 1 = grid1.N
  · rw [decide_eq_true (p := t.val + 1 = _) h0]; rfl
  · have hlt : t.val + 1 < grid1.N := by have := N_1; omega
    have hne : ((cfgT (F := F)).win 1).index ⟨t.val + 1, hlt⟩ ≠ ((cfgT (F := F)).win 1).index t := fun e => by
      have e' : cc1_transform_1 (grid1.coords ⟨t.val + 1, hlt⟩) = cc1_transform_1 (grid1.coords t) := e
      rw [tr1_eq, tr1_eq, coords_val, coords_val] at e'
      have e0 : 40 + (t.val + 1) = 40 + t.val := congrFun e' 0
      omega
    rw [decide_eq_true (p := ∃ _, _) ⟨hlt, hne⟩]
    rw [Bool.or_true, Bool.and_true]; rfl

end Cert.Proof

end
-- ==== Proof.TcBody.lean ====
/-
  The pipelined kernel's body: from its input block and any result block it runs to the channels' maximum in the result
  block, the input block kept.
-/
module

public import proofs.«01_k».proof.Proof.Table

@[expose] public section

noncomputable section

namespace Cert.Proof

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- What the body computes of its input block. -/
def tcMax (v : S1x8x224x224.Idx → F .f32) : S1x224x224.Idx → F .f32 :=
  multiReduction .maximumf [1] S1x224x224 v 0xFF800000#32 reduces_S1x8x224x224_S1x224x224 (.inl rfl) rfl

section Full

variable {κ : Kind} {sp : Space} {S : Shape} {e : EltTy} (v : View sig κ sp S e) {off : Fin S.rank → ℕ}

/-- A load of all of a view reads what the view reads, -/
theorem readAt_zero (h : off = fun _ => 0) (inb : ∀ a, off a + S.size a ≤ S.size a) (f : v.ty.Contents (Elt F)) :
    v.readAt (Elt F) (Rect.unit off S.size inb).toLoadRect f = v.read (Elt F) f := by
  subst h; funext x
  exact congrArg (v.read (Elt F) f) (Rect.emb_whole_apply S x)

/-- and after a store of all of it reads the value stored. -/
theorem read_writes_zero (h : off = fun _ => 0) (inb : ∀ a, off a + S.size a ≤ S.size a) (f : v.ty.Contents (Elt F)) (w : S.Idx → Elt F e) :
    v.read (Elt F) (v.writes (Elt F) f [(⟨Rect.unit off S.size inb, w⟩ : View.Piece (Elt F) S e)]) = w := by
  subst h; funext y
  have h := View.read_writes_cons_emb v f (Rect.whole S) w [] y
  rw [Rect.emb_whole_apply] at h
  exact h

end Full

/-- Four zero offsets, spelt out. -/
theorem zero4 : (![0, 0, 0, 0] : Fin 4 → ℕ) = fun _ => 0 := by decide
/-- Three zero offsets, spelt out. -/
theorem zero3 : (![0, 0, 0] : Fin 3 → ℕ) = fun _ => 0 := by decide

/-- The body, its two blocks any whole staging buffers. -/
theorem tc_body (c : Dev nD) (i : grid1.Coords) (M0 : Memref sig .tc .vmem S1x8x224x224 .f32) (h0 : M0.IsWhole)
    (M1 : Memref sig .tc .vmem S1x224x224 .f32) (h1 : M1.IsWhole) (v : S1x8x224x224.Idx → F .f32) (w : S1x224x224.Idx → F .f32)
    (E : Set ℕ) (Q : PUnit → sProp 𝕄) :
    iprop(owns (c : Thread nD τ) M0 fullShare v ∗ owns (c : Thread nD τ) M1 fullShare w
        ∗ (iprop(owns (c : Thread nD τ) M0 fullShare v ∗ owns (c : Thread nD τ) M1 fullShare (tcMax v)) -∗ Q ⟨⟩))
      ⊢ wp frame (wpE (defs₀ (F := F)) Variants.none c none) E
          (cc1__tc_body i (Memref.whole main_arg1) (Memref.isWhole_whole _) M0 h0 M1 h1) Q := by
  unfold owns
  rw [h0.set_eq_univ, h1.set_eq_univ]
  iintro ⟨⟨%f0, %e0, H0⟩, ⟨%f1, -, H1⟩, Hk⟩
  subst e0
  sl_exec!
  sl_step
  iapply Hk
  isplitl [H0]
  · iexists f0; isplitr; · ipureintro; rfl
    iexact H0
  iexists _; isplitr; swap; (· iexact H1)
  ipureintro
  unfold tc_body.sl.H1_1
  refine (read_writes_zero M1.view (S := S1x224x224) zero3 inb_S1x224x224_S1x224x224_0_0_0 _ _).trans ?_
  exact congrArg tcMax (readAt_zero M0.view (S := S1x8x224x224) zero4 inb_S1x8x224x224_S1x8x224x224_0_0_0_0 f0)

end Cert.Proof

end
-- ==== Proof.Dat.lean ====
/-
  The pipelined part's proof data: what its staging buffers hold at each grid point, what its result holds at the end.
-/
module

public import proofs.«01_k».proof.Proof.TcBody
public import Idealize.ShloMosaic.Lib.Pipeline.Value
public import Idealize.ShloMosaic.Lib.Pipeline.ValueKit.Geometry

@[expose] public section

noncomputable section

namespace Cert.Proof

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig (HIx 1) (Elt F) ℕ UU ℕ

/-- The input block of pair `p`: its eight channels. -/
def blkP (x : S4x192x224x224.Idx → F .f32) (p : ℕ) : S1x8x224x224.Idx → F .f32 :=
  fun j => x (xIx (p / 24) (p % 24 * 8 + (j 1).val) (j 2).val (j 3).val)

/-- Row and column `(h, w)` of a result block. -/
def rowIx (h w : ℕ) : S1x224x224.Idx
  | 0 => ⟨0, Nat.one_pos⟩
  | 1 => ⟨h % 224, Nat.mod_lt _ (by decide)⟩
  | 2 => ⟨w % 224, Nat.mod_lt _ (by decide)⟩

/-- What the pipelined part computes at an index of its result. -/
def tcRow (x : S4x192x224x224.Idx → F .f32) (i : S96x224x224.Idx) : F .f32 :=
  tcMax (blkP x (i 0).val) (rowIx (i 1).val (i 2).val)

/-- Its result at the end, entered at `g`: the pairs from 40 on computed, those before as they were. -/
def tcOut (x : S4x192x224x224.Idx → F .f32) (g : S96x224x224.Idx → F .f32) : S96x224x224.Idx → F .f32 :=
  fun i => if 40 ≤ (i 0).val then tcRow x i else g i

/-- The pairs a core's waits may have recorded: those up to level `b`. -/
def recB (c : Dev nD) (b : ℕ) : Set (SemLoc sig × HIx 1) := {p | (K (F := F)).lev ((c : Thread nD τ), p.1) p.2 ≤ b}

/-- The proof data: the arrays as entered; the input's buffer at the pair's block, the result's at its maximum; the
    table kept; nothing owed. -/
def dat (x : S4x192x224x224.Idx → F .f32) (g : S96x224x224.Idx → F .f32) (b : ℕ) (c : Dev nD) : Dat τ (Elt F) (HIx 1) ℕ UU ℕ (cfgT (F := F)) c where
  A w := match w with
    | ⟨0, _⟩ => x
    | ⟨1, _⟩ => g
  after w t := match w with
    | ⟨0, _⟩ => blkP x (40 + t.val)
    | ⟨1, _⟩ => tcMax (blkP x (40 + t.val))
  Φ _ := Pipeline.prefHeld pre1 c (fun _ => fullShare) (pfT (F := F))
  q _ := fullShare
  owed _ := 0
  recorded _ := recB (F := F) c b

section Values

attribute [local irreducible] tcMax tcRow

variable (x : S4x192x224x224.Idx → F .f32) (g : S96x224x224.Idx → F .f32) (b : ℕ) (c : Dev nD)

/-- At point `t` the input's window is at the image and the set of pair `40 + t`. -/
theorem ix0_eq (t : Fin (cfgT (F := F)).N) : ((cfgT (F := F)).win 0).index t = ![(40 + t.val) / 24, (40 + t.val) % 24, 0, 0] := by
  have h := tr0_eq (F := F) (grid1.coords t)
  rw [coords_val] at h
  exact h
/-- At point `t` the result's window is at plane `40 + t`. -/
theorem ix1_eq (t : Fin (cfgT (F := F)).N) : ((cfgT (F := F)).win 1).index t = ![40 + t.val, 0, 0] := by
  have h := tr1_eq (grid1.coords t)
  rw [coords_val] at h
  exact h

/-- The block a point fetches is its pair's. -/
theorem blockOf_eq (t : Fin (cfgT (F := F)).N) (j : S1x8x224x224.Idx) : (dat x g b c).blockOf 0 t j = blkP x (40 + t.val) j := by
  have h56 : t.val < 56 := t.isLt
  have hj0 : (j 0).val < 1 := (j 0).isLt
  have hj1 : (j 1).val < 8 := (j 1).isLt
  have hj2 : (j 2).val < 224 := (j 2).isLt
  have hj3 : (j 3).val < 224 := (j 3).isLt
  show x ((((cfgT (F := F)).win 0).rect t).emb j) = x _
  congr 1
  funext a; apply Fin.ext
  refine (Window.rect_emb_val ((cfgT (F := F)).win 0) t j a rfl).trans ?_
  rw [ix0_eq]
  fin_cases a
  · show (40 + t.val) / 24 * 1 + (j 0).val = (40 + t.val) / 24 % 4; omega
  · show (40 + t.val) % 24 * 8 + (j 1).val = ((40 + t.val) % 24 * 8 + (j 1).val) % 192; omega
  · show 0 * 224 + (j 2).val = (j 2).val % 224; omega
  · show 0 * 224 + (j 3).val = (j 3).val % 224; omega

/-- The input's buffer holds it when the body runs. -/
theorem before_in (t : Fin (cfgT (F := F)).N) (d : ((cfgT (F := F)).win 0).block.Idx → Elt F ((cfgT (F := F)).win 0).elt) :
    (dat x g b c).before 0 t d = blkP x (40 + t.val) := by
  unfold Dat.before
  rw [if_pos (fetch_true t)]
  funext j
  exact blockOf_eq x g b c t j

/-- An index lies in point `t`'s result block when its first coordinate is `40 + t`. -/
theorem mem_out (t : Fin (cfgT (F := F)).N) (i : S96x224x224.Idx) :
    i ∈ (((cfgT (F := F)).win 1).blk t).view.set ↔ (i 0).val = 40 + t.val := by
  have h1 : (i 1).val < 224 := (i 1).isLt
  have h2 : (i 2).val < 224 := (i 2).isLt
  have h := Window.emb_mem_blk_iff ((cfgT (F := F)).win 1) t i rfl
  refine (show _ ↔ _ from h).trans ?_
  rw [ix1_eq]
  constructor
  · intro h; have h0 := h (0 : Fin 3)
    change (40 + t.val) * 1 ≤ (i 0).val ∧ (i 0).val < (40 + t.val) * 1 + 1 at h0
    omega
  · intro h a; fin_cases a
    · change (40 + t.val) * 1 ≤ (i 0).val ∧ (i 0).val < (40 + t.val) * 1 + 1; omega
    · change 0 * 224 ≤ (i 1).val ∧ (i 1).val < 0 * 224 + 224; omega
    · change 0 * 224 ≤ (i 2).val ∧ (i 2).val < 0 * 224 + 224; omega

set_option backward.isDefEq.respectTransparency.types false in
/-- What a point computes is its row of the computed values. -/
theorem row_eq (t : Fin (cfgT (F := F)).N) (j : S1x224x224.Idx) :
    tcMax (blkP x (40 + t.val)) j = (((cfgT (F := F)).win 1).blk t).view.read (Elt F) (tcRow x) j := by
  have hj0 : (j 0).val < 1 := (j 0).isLt
  have hj1 : (j 1).val < 224 := (j 1).isLt
  have hj2 : (j 2).val < 224 := (j 2).isLt
  have key : ∀ a, ((((cfgT (F := F)).win 1).rect t).emb j a : ℕ) = ![40 + t.val, (j 1).val, (j 2).val] a := fun a => by
    refine (Window.rect_emb_val ((cfgT (F := F)).win 1) t j a rfl).trans ?_
    rw [ix1_eq]
    fin_cases a
    · show (40 + t.val) * 1 + (j 0).val = 40 + t.val; omega
    · show 0 * 224 + (j 1).val = (j 1).val; omega
    · show 0 * 224 + (j 2).val = (j 2).val; omega
  have row : ∀ i : S96x224x224.Idx, (i 0).val = 40 + t.val → (i 1).val = (j 1).val → (i 2).val = (j 2).val →
      tcRow x i = tcMax (blkP x (40 + t.val)) j := fun i e0 e1 e2 => by
    unfold tcRow
    rw [e0, e1, e2]
    congr 1
    funext a; apply Fin.ext; fin_cases a
    · show 0 = (j 0).val; omega
    · show (j 1).val % 224 = (j 1).val; omega
    · show (j 2).val % 224 = (j 2).val; omega
  let i : S96x224x224.Idx := (((cfgT (F := F)).win 1).rect t).emb j
  have k0 : (i 0).val = 40 + t.val := key (0 : Fin 3)
  have k1 : (i 1).val = (j 1).val := key (1 : Fin 3)
  have k2 : (i 2).val = (j 2).val := key (2 : Fin 3)
  show tcMax (blkP x (40 + t.val)) j = tcRow x i
  exact (row i k0 k1 k2).symm

set_option backward.isDefEq.respectTransparency.types false in
/-- What a point writes back is its row. -/
theorem flushed_eq (t : Fin (cfgT (F := F)).N) :
    (dat x g b c).flushed 1 t = (((cfgT (F := F)).win 1).blk t).view.read (Elt F) (tcRow x) :=
  funext fun j => row_eq x t j

/-- The result at the end. -/
theorem arr_out : (dat x g b c).arrAt 1 (cfgT (F := F)).N = tcOut x g := by
  refine funext fun (i : S96x224x224.Idx) => ?_
  refine ((dat x g b c).arrAt_eq_piecewise 1 (tcRow x) (fun t _ => flushed_eq x g b c t) i).trans ?_
  have hi : (i 0).val < 96 := (i 0).isLt
  unfold tcOut
  by_cases h : 40 ≤ (i 0).val
  · have ht : (i 0).val - 40 < grid1.N := by have := N_1; omega
    exact (if_pos ⟨⟨(i 0).val - 40, ht⟩, flush_true _, (mem_out _ i).mpr (by show _ = 40 + ((i 0).val - 40); omega)⟩).trans (if_pos h).symm
  · exact (if_neg fun ⟨t, _, ht⟩ => h (by have := (mem_out t i).mp ht; omega)).trans (if_neg h).symm

set_option backward.isDefEq.respectTransparency.types false in
/-- The body's obligation. -/
theorem body_obligation : BodyObligation (dat x g b c) (defs₀ (F := F)) Variants.none (none : HIx 1) Set.univ := fun t => by
  rw [bigSep_W1, bigSep_W1]
  simp only [before_in]
  rw [show (dat x g b c).Φ t.castSucc = Pipeline.prefHeld pre1 c (fun _ => fullShare) (pfT (F := F)) from rfl,
    show (dat x g b c).Φ t.succ = Pipeline.prefHeld pre1 c (fun _ => fullShare) (pfT (F := F)) from rfl,
    show (dat x g b c).owesAt (none : HIx 1) t.succ = (dat x g b c).owesAt (none : HIx 1) t.castSucc from rfl]
  iintro ⟨HΦ, Howes, ⟨%d0, H0⟩, ⟨%d1, H1⟩⟩
  iapply (tc_body c (grid1.coords t) _ (hstage1_0 _) _ (hstage1_1 _) (blkP x (40 + t.val)) _ Set.univ _)
  isplitl [H0]; · iexact H0
  isplitl [H1]; · iexact H1
  iintro ⟨H0, H1⟩
  isplitl [HΦ]; · iexact HΦ
  isplitl [Howes]; · iexact Howes
  isplitl [H0]; · iexact H0
  iexact H1

end Values

end Cert.Proof

end
-- ==== Proof.Reg.lean ====
/-
  The pipelined part as a region of the program: from the input, the table and any contents of its result, to the same
  with the result's pairs from 40 on computed.
-/
module

public import proofs.«01_k».proof.Proof.Dat
public import Idealize.ShloMosaic.Lib.Pipeline.Regions

@[expose] public section

noncomputable section

namespace Cert.Proof

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig (HIx 1) (Elt F) ℕ UU ℕ

variable (x : Dev nD → S4x192x224x224.Idx → F .f32) (g : Dev nD → S96x224x224.Idx → F .f32) (b : ℕ)

/-- The proof data of the program's one pipeline. -/
def pdats : (p : Fin 1) → (c : Dev nD) → Dat τ (Elt F) (HIx 1) ℕ UU ℕ (Pipeline.pin (pcfgs (F := F)) adm p) c :=
  fun _ c => dat (x c) (g c) b c

/-- The table's buffer held at the table. -/
theorem prefHeld_eq (c : Dev nD) :
    (Pipeline.prefHeld pre1 c (fun _ => fullShare) (pfT (F := F)) : sProp 𝕄) = ((c : Thread nD τ).loc main_arg1 ↦{fullShare} tabW) := by
  unfold Pipeline.prefHeld
  rw [show (Finset.univ : Finset (Fin pre1.K)) = {0} from rfl, bigSep_singleton]
  rfl

/-- What a core holds into the region and out of it: input, result, table, and what it owes, its waits recorded up to
    level `b`. -/
def regSt (h : Dev nD → S96x224x224.Idx → F .f32) (c : Dev nD) : sProp 𝕄 :=
  iprop(((c : Thread nD τ).loc main_arg0 ↦{fullShare} x c) ∗ ((c : Thread nD τ).loc main_v1 ↦{fullShare} h c)
    ∗ ((c : Thread nD τ).loc main_arg1 ↦{fullShare} tabW)
    ∗ ∃ W, ⌜(K (F := F)).WBelow (c : Thread nD τ) W b⌝ ∗ owes (c : Thread nD τ) (0 : CellTallies nD τ sig (HIx 1)) W)

set_option backward.isDefEq.respectTransparency.types false in
/-- The pipeline's two arrays, one by one. -/
theorem arrays_two (c : Dev nD) (f : (w : Fin 2) → Buf (Elt F) (((Pipeline.pin (pcfgs (F := F)) adm 0).win w).arr.view.loc (c : Thread nD τ))) :
    ((pdats x g b 0 c).arrays f : sProp 𝕄)
      = iprop(((c : Thread nD τ).loc main_arg0 ↦{fullShare} f 0) ∗ ((c : Thread nD τ).loc main_v1 ↦{fullShare} f 1)) := by
  rw [Pipeline.arrays_eq (p := 0) (Pipeline.pin (pcfgs (F := F)) adm) (pdats x g b) c arr_whole1 ((pdats x g b 0 c).share_full fun _ => rfl), bigSep_W1]

/-- The input is never written. -/
theorem arr_in (c : Dev nD) (n : ℕ) : (pdats x g b 0 c).arrAt 0 n = x c := (pdats x g b 0 c).arrAt_in 0 rfl n

/-- The waits recorded at the end are the earlier ones and the pipeline's own, which are at the bottom level. -/
theorem wbelow_of_bound (c : Dev nD) {W : Waits sig (HIx 1)} {t : Fin ((Pipeline.pin (pcfgs (F := F)) adm 0).N + 1)}
    (hW : (↑W : Set (SemLoc sig × HIx 1)) ⊆ (pdats (F := F) x g b 0 c).bound none t) : (K (F := F)).WBelow (c : Thread nD τ) W b := fun p hp => by
  rcases hW hp with h | h
  · exact h
  · obtain ⟨w, s, h⟩ := h
    rw [h]; exact ((K (F := F)).lev_none _).le.trans (Nat.zero_le b)

set_option backward.isDefEq.respectTransparency.types false in
/-- The region. -/
def reg : Pipeline.RegionSeg (pcfgs (F := F)) adm (pdats x g b) (none : HIx 1) defs₀ 𝒱₀ (K (F := F)).L (K (F := F)).lev 0 where
  win := (launch1 (F := F)).win.to₀
  block_pos := (launch1 (F := F)).block_pos
  stage_whole := (launch1 (F := F)).stage_whole
  K := PEmpty
  osem k := k.elim
  ho := Pipeline.OwnSemFacts.none _
  hbody c := (body_obligation (x c) (g c) b c).loose
  hwaits := Pipeline.hwaits_of_owed_zero _ _ _ _ (K (F := F)).L (K (F := F)).lev 0 fun _ _ => rfl
  pre := regSt x b g
  post := regSt x b fun c => tcOut (x c) (g c)
  X _ := BI.emp
  Y c := Pipeline.prefHeld pre1 c (fun _ => fullShare) (pfT (F := F))
  Z _ := BI.emp
  hentry c := by
    rw [Pipeline.ownSems0_none, arrays_two, show Pipeline.prefHeld (pcfgs (F := F) 0).pre c (fun _ => fullShare) (adm (F := F) 0).val = _ from prefHeld_eq c]
    unfold regSt Pipeline.Dat.owesAt Pipeline.owesWithin
    iintro ⟨⟨Hx, Hg, Ht, %W, %hW, HO⟩, -, -⟩
    imodintro
    isplitl [Hx Hg]
    · isplitl [Hx]; · iexact Hx
      iexact Hg
    isplitl [Ht]; · iexact Ht
    isplitl [HO]
    · iexists W
      isplitr; · ipureintro; exact fun p hp => Or.inl (hW p hp)
      iexact HO
    isplitr <;> iempintro
  hin c := by
    rw [show (pdats x g b 0 c).Φ 0 = Pipeline.prefHeld pre1 c (fun _ => fullShare) (pfT (F := F)) from rfl]
    iintro ⟨-, H, -⟩; iexact H
  hout c := by
    rw [Pipeline.ownSems0_none, show (pdats x g b 0 c).Φ (Fin.last _) = Pipeline.prefHeld pre1 c (fun _ => fullShare) (pfT (F := F)) from rfl]
    iintro H
    isplitl [H]; · iexact H
    isplitr; · iempintro
    rw [scopedRest1_eq]
    iempintro
  hexit c := by
    rw [arrays_two, prefHeld_eq, arr_in, show (pdats x g b 0 c).arrAt 1 (Pipeline.pin (pcfgs (F := F)) adm 0).N = tcOut (x c) (g c) from arr_out (x c) (g c) b c]
    unfold regSt Pipeline.Dat.owesAt Pipeline.owesWithin
    iintro ⟨⟨Hx, Hg⟩, ⟨%W, %hW, HO⟩, Ht, -⟩
    imodintro
    isplitl [Hx]; · iexact Hx
    isplitl [Hg]; · iexact Hg
    isplitl [Ht]; · iexact Ht
    iexists W
    isplitr; · ipureintro; exact wbelow_of_bound x g b c hW
    iexact HO

end Cert.Proof

end
-- ==== Proof.Row.lean ====
/-
  One row of one unit: the kernel's inner loop. Each trip reads, for each of 14 groups of 16 columns, the eight
  channels' words of one row from a slot of the input ring and stores their maximum into a slot of the output ring.
-/
module

public import proofs.«01_k».proof.Proof.Base
public import Idealize.ShloMosaic.Lib.Pipeline.Value

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "xW" => (Memref.whole Cert.KernelIdeal.main_arg0_scv : Memref Cert.KernelIdeal.sig Kind.scVector Space.hbm Cert.KernelIdeal.S4x192x224x224 EltTy.f32)
local notation "oW" => (Memref.whole Cert.KernelIdeal.main_v0_scv : Memref Cert.KernelIdeal.sig Kind.scVector Space.hbm Cert.KernelIdeal.S40x224x224 EltTy.f32)
local notation "iW" => (Memref.whole Cert.KernelIdeal.cc0_scratch0 : Memref Cert.KernelIdeal.sig Kind.scVector Space.vmem Cert.KernelIdeal.S3x8x16x224 EltTy.f32)
local notation "uW" => (Memref.whole Cert.KernelIdeal.cc0_scratch1 : Memref Cert.KernelIdeal.sig Kind.scVector Space.vmem Cert.KernelIdeal.S2x16x224 EltTy.f32)

/-! ## Sixteen columns of one row -/

/-- Channel `j`'s 16 columns from `w` of the unit's row `r`, as the load reads them and as a vector; their maximum. -/
def ch4 (x : S4x192x224x224.Idx → F .f32) (u j r w : ℕ) : Vec F S1x1x1x16 .f32 :=
  fun i => x (xIx (u / 14 / 24) (u / 14 % 24 * 8 + j) (u % 14 * 16 + r) (w + (i 3).val))
def ch1 (x : S4x192x224x224.Idx → F .f32) (u j r w : ℕ) : FVec F S16 .f32 :=
  fun i => x (xIx (u / 14 / 24) (u / 14 % 24 * 8 + j) (u % 14 * 16 + r) (w + (i 0).val))
def mx3 (x : S4x192x224x224.Idx → F .f32) (u r w : ℕ) : FVec F S1x1x16 .f32 :=
  fun i => plane x (u / 14) (u % 14 * 16 + r) (w + (i 2).val)

/-- The 16 words loaded, taken as a vector, are the channel's 16 columns. -/
theorem cast_ch4 (x : S4x192x224x224.Idx → F .f32) (u j r w : ℕ) (h : S1x1x1x16.ShapeCasts S16) :
    shapeCast S16 (ch4 x u j r w) h = ch1 x u j r w := by
  funext i
  have hi : (i 0).val < 16 := (i 0).isLt
  refine (shapeCast_apply (ch4 x u j r w) h i (fun | 0 => ⟨0, by decide⟩ | 1 => ⟨0, by decide⟩ | 2 => ⟨0, by decide⟩ | 3 => ⟨(i 0).val, hi⟩) ?_).trans ?_
  · rw [Shape.rowMajor_val_four, Shape.rowMajor_val_one]
    show ((0 * _ + 0) * _ + 0) * _ + (i 0).val = (i 0).val
    omega
  · rfl

/-- The vector of maxima, taken in the shape that is stored, is the plane's 16 columns. -/
theorem cast_mx (x : S4x192x224x224.Idx → F .f32) (u r w : ℕ) (v : FVec F S16 .f32) (h : S16.ShapeCasts S1x1x16)
    (hv : v = fun i => plane x (u / 14) (u % 14 * 16 + r) (w + (i 0).val)) : shapeCast S1x1x16 v h = mx3 x u r w := by
  subst hv
  funext i
  have h0 : (i 0).val < 1 := (i 0).isLt
  have h1 : (i 1).val < 1 := (i 1).isLt
  have hi : (i 2).val < 16 := (i 2).isLt
  refine (shapeCast_apply _ h i (fun | 0 => ⟨(i 2).val, hi⟩) ?_).trans ?_
  · rw [Shape.rowMajor_val_three, Shape.rowMajor_val_one]
    show (i 2).val = ((i 0).val * _ + (i 1).val) * _ + (i 2).val
    have e0 : (i 0).val = 0 := by omega
    have e1 : (i 1).val = 0 := by omega
    rw [e0, e1]; omega
  · rfl

/-- The eight channels' maximum, as the kernel takes it. -/
theorem max_ch (x : S4x192x224x224.Idx → F .f32) (u r w : ℕ) (h : S1x1x1x16.ShapeCasts S16) :
    maximumf (maximumf (maximumf (maximumf (maximumf (maximumf (maximumf (shapeCast S16 (ch4 x u 0 r w) h : FVec F S16 .f32)
        (shapeCast S16 (ch4 x u 1 r w) h)) (shapeCast S16 (ch4 x u 2 r w) h)) (shapeCast S16 (ch4 x u 3 r w) h))
        (shapeCast S16 (ch4 x u 4 r w) h)) (shapeCast S16 (ch4 x u 5 r w) h)) (shapeCast S16 (ch4 x u 6 r w) h))
        (shapeCast S16 (ch4 x u 7 r w) h)
      = fun i => plane x (u / 14) (u % 14 * 16 + r) (w + (i 0).val) := by
  have e := fun j => cast_ch4 x u j r w h
  rw [e 0, e 1, e 2, e 3, e 4, e 5, e 6, e 7]
  rfl

section Steps

variable (d : Dev nD) (L : grid0.Coords)

/-- Slot `j` of a ring held by its own elements, as the body spells it; -/
abbrev inP (j : Fin 3) (f : S3x8x16x224.Idx → F .f32) : sProp 𝕄 :=
  (inB j).view.loc (VT d L) ↦[(inB j).view.set]{fullShare} (f : Buf (Elt F) ((inB j).view.loc (VT d L)))
abbrev outP (j : Fin 2) (f : S2x16x224.Idx → F .f32) : sProp 𝕄 :=
  (outB j).view.loc (VT d L) ↦[(outB j).view.set]{fullShare} (f : Buf (Elt F) ((outB j).view.loc (VT d L)))
/-- by its set of indices. -/
def inQ (j : Fin 3) (f : S3x8x16x224.Idx → F .f32) : sProp 𝕄 := (VT d L).loc cc0_scratch0 ↦[inSet j]{fullShare} f
def outQ (j : Fin 2) (f : S2x16x224.Idx → F .f32) : sProp 𝕄 := (VT d L).loc cc0_scratch1 ↦[outSet j]{fullShare} f
/-- The two ways to hold an input slot are one. -/
theorem inP_eq (j : Fin 3) (f : S3x8x16x224.Idx → F .f32) : inP d L j f = inQ d L j f := by
  unfold inP; rw [set_inB]; rfl
/-- The two ways to hold an output slot are one. -/
theorem outP_eq (j : Fin 2) (f : S2x16x224.Idx → F .f32) : outP d L j f = outQ d L j f := by
  unfold outP; rw [set_outB]; rfl

/-- A load of 16 words of channel `c` from a slot of the input ring holding unit `u`. -/
theorem wp_ld {α : Type} {x : S4x192x224x224.Idx → F .f32} {u : ℕ} {off : Fin 4 → ℕ}
    {inb : ∀ a, off a + S1x1x1x16.size a ≤ S3x8x16x224.size a}
    {hl : (iW).view.LoadsAt (Rect.unit (s := S3x8x16x224) off S1x1x1x16.size inb).toLoadRect}
    {k : Vec F S1x1x1x16 .f32 → Prog (TpuEff nD τ sig (Elt F) Λ₀ (VT d L).2) α} {Q : α → sProp 𝕄} (j : Fin 3) (c r w : ℕ)
    (ho : off = ![j.val, c, r, w]) :
    inQ d L j (inVal x u)
      ⊢ iprop((inQ d L j (inVal x u) -∗ wp frame (wpE (defs₀ (F := F)) 𝒱₀ (VT d L) none) Set.univ (k (ch4 x u c r w)) Q)
        -∗ wp frame (wpE (defs₀ (F := F)) 𝒱₀ (VT d L) none) Set.univ
            (.op (.load iW (Rect.unit (s := S3x8x16x224) off S1x1x1x16.size inb).toLoadRect hl) k) Q) := by
  have hS : (iW).view.setOn (Rect.unit (s := S3x8x16x224) off S1x1x1x16.size inb).toLoadRect.set ⊆ inSet j := by
    intro i hi
    obtain ⟨y, hy, rfl⟩ := Finset.mem_map.mp hi
    rw [mem_inSet]
    have := ((LoadRect.mem_set _).mp hy) 0
    obtain ⟨z, hz, e⟩ := this
    subst ho
    change z < 1 at hz
    change (y 0).val = j.val + 1 * z at e
    change (y 0).val = j.val
    omega
  have := wp_load (defs := defs₀ (F := F)) (Γ := .empty) (Q := Q) 𝒱₀ (VT d L) none Set.univ (m := iW) (hl := hl) (k := k) (q := fullShare) (f := (inVal x u : Buf (Elt F) ((iW).view.loc (VT d L)))) hS
  have e : (iW).view.readAt (Elt F) (Rect.unit (s := S3x8x16x224) off S1x1x1x16.size inb).toLoadRect (inVal x u) = ch4 x u c r w := by
    subst ho
    funext i
    have h1 : (i 1).val < 1 := (i 1).isLt
    have h2 : (i 2).val < 1 := (i 2).isLt
    change x (xIx (u / 14 / 24) (u / 14 % 24 * 8 + (c + 1 * (i 1).val)) (u % 14 * 16 + (r + 1 * (i 2).val)) (w + 1 * (i 3).val)) = x (xIx _ _ _ _)
    congr 2 <;> omega
  rw [e] at this
  exact this

/-- The kernel's load of the place it is about to store to: what it reads isn't used. -/
theorem wp_ldOut {α : Type} {f : S2x16x224.Idx → F .f32} {off : Fin 3 → ℕ}
    {inb : ∀ a, off a + S1x1x16.size a ≤ S2x16x224.size a}
    {hl : (uW).view.LoadsAt (Rect.unit (s := S2x16x224) off S1x1x16.size inb).toLoadRect}
    {k : Vec F S1x1x16 .f32 → Prog (TpuEff nD τ sig (Elt F) Λ₀ (VT d L).2) α} {Q : α → sProp 𝕄} (j : Fin 2) (r w : ℕ)
    (ho : off = ![j.val, r, w]) :
    outQ d L j f
      ⊢ iprop((∀ v, outQ d L j f -∗ wp frame (wpE (defs₀ (F := F)) 𝒱₀ (VT d L) none) Set.univ (k v) Q)
        -∗ wp frame (wpE (defs₀ (F := F)) 𝒱₀ (VT d L) none) Set.univ
            (.op (.load uW (Rect.unit (s := S2x16x224) off S1x1x16.size inb).toLoadRect hl) k) Q) := by
  have hS : (uW).view.setOn (Rect.unit (s := S2x16x224) off S1x1x16.size inb).toLoadRect.set ⊆ outSet j := by
    intro i hi
    obtain ⟨y, hy, rfl⟩ := Finset.mem_map.mp hi
    rw [mem_outSet]
    obtain ⟨z, hz, e⟩ := ((LoadRect.mem_set _).mp hy) 0
    subst ho
    change z < 1 at hz
    change (y 0).val = j.val + 1 * z at e
    change (y 0).val = j.val
    omega
  have : outQ d L j f ⊢ iprop((outQ d L j f -∗ wp frame (wpE (defs₀ (F := F)) 𝒱₀ (VT d L) none) Set.univ
        (k ((uW).view.readAt (Elt F) (Rect.unit (s := S2x16x224) off S1x1x16.size inb).toLoadRect f)) Q)
      -∗ wp frame (wpE (defs₀ (F := F)) 𝒱₀ (VT d L) none) Set.univ
            (.op (.load uW (Rect.unit (s := S2x16x224) off S1x1x16.size inb).toLoadRect hl) k) Q) :=
    wp_load (defs := defs₀ (F := F)) (Γ := .empty) (Q := Q) 𝒱₀ (VT d L) none Set.univ (m := uW) (hl := hl) (k := k) (q := fullShare) (f := (f : Buf (Elt F) ((uW).view.loc (VT d L)))) hS
  iintro H Hk
  iapply this $$ H
  iintro H
  ispecialize Hk $$ %((uW).view.readAt (Elt F) (Rect.unit (s := S2x16x224) off S1x1x16.size inb).toLoadRect f)
  iapply Hk $$ H

/-- The indices of 16 columns of one row of a slot. -/
theorem mem_row16 (j : Fin 2) (r w : ℕ) (inb : ∀ a, (![j.val, r, w] : Fin 3 → ℕ) a + S1x1x16.size a ≤ S2x16x224.size a) (i : S2x16x224.Idx) :
    i ∈ (Rect.unit (s := S2x16x224) ![j.val, r, w] S1x1x16.size inb).set
      ↔ ((i 0).val = j.val ∧ (i 1).val = r ∧ w ≤ (i 2).val ∧ (i 2).val < w + 16) := by
  rw [Rect.mem_set_unit]
  constructor
  · intro h; have h0 := h 0; have h1 := h 1; have h2 := h 2
    change j.val ≤ (i 0).val ∧ (i 0).val < j.val + 1 at h0
    change r ≤ (i 1).val ∧ (i 1).val < r + 1 at h1
    change w ≤ (i 2).val ∧ (i 2).val < w + 16 at h2
    omega
  · intro h a; fin_cases a
    · change j.val ≤ (i 0).val ∧ (i 0).val < j.val + 1; omega
    · change r ≤ (i 1).val ∧ (i 1).val < r + 1; omega
    · change w ≤ (i 2).val ∧ (i 2).val < w + 16; omega

/-- Sixteen finished words written into the slot part way: the slot 16 columns further. -/
theorem write_part (x : S4x192x224x224.Idx → F .f32) (u : ℕ) (f : S2x16x224.Idx → F .f32) (j : Fin 2) (r w : ℕ)
    (inb : ∀ a, (![j.val, r, w] : Fin 3 → ℕ) a + S1x1x16.size a ≤ S2x16x224.size a) (i : S2x16x224.Idx) (hi : (i 0).val = j.val) :
    ((View.whole cc0_scratch1).slice (Rect.unit (s := S2x16x224) ![j.val, r, w] S1x1x16.size inb)).write (Elt F) (part x u r w f) (mx3 x u r w) Finset.univ i
      = part x u r (w + 16) f i := by
  have hset := mem_row16 j r w inb i
  by_cases hm : i ∈ (Rect.unit (s := S2x16x224) ![j.val, r, w] S1x1x16.size inb).set
  · have hh := hset.mp hm
    obtain ⟨y, -, e⟩ := Finset.mem_map.mp ((Finset.ext_iff.mp (View.set_slice_whole cc0_scratch1 (Rect.unit (s := S2x16x224) ![j.val, r, w] S1x1x16.size inb)) i).mpr hm)
    have e2 : (i 2).val = w + 1 * (y 2).val := by rw [← e]; rfl
    have hw : ((View.whole cc0_scratch1).slice (Rect.unit (s := S2x16x224) ![j.val, r, w] S1x1x16.size inb)).write (Elt F) (part x u r w f) (mx3 x u r w) Finset.univ i = mx3 x u r w y := by
      rw [← e]; exact View.write_emb_of_mem _ _ (Finset.mem_univ y)
    rw [hw]
    unfold part
    rw [if_pos (Or.inr ⟨hh.2.1, hh.2.2.2⟩)]
    unfold outVal mx3
    rw [hh.2.1, e2, Nat.one_mul]
  · have hm' : i ∉ ((View.whole cc0_scratch1).slice (Rect.unit (s := S2x16x224) ![j.val, r, w] S1x1x16.size inb)).setOn Finset.univ := by
      intro h
      exact hm ((Finset.ext_iff.mp (View.set_slice_whole cc0_scratch1 (Rect.unit (s := S2x16x224) ![j.val, r, w] S1x1x16.size inb)) i).mp h)
    rw [View.write_of_not_mem _ _ _ hm']
    rw [hset] at hm
    unfold part
    by_cases h1 : (i 1).val < r ∨ ((i 1).val = r ∧ (i 2).val < w)
    · rw [if_pos h1, if_pos (by omega)]
    · rw [if_neg h1, if_neg (by omega)]

/-- The store of 16 finished words. -/
theorem wp_st {α : Type} {x : S4x192x224x224.Idx → F .f32} {u : ℕ} {f : S2x16x224.Idx → F .f32} {off : Fin 3 → ℕ}
    {inb : ∀ a, off a + S1x1x16.size a ≤ S2x16x224.size a} {v : Vec F S1x1x16 .f32}
    {hx : ((uW).access (Rect.unit (s := S2x16x224) off S1x1x16.size inb)).Stores Finset.univ}
    {hm : (Finset.univ : Finset (Rect.unit (s := S2x16x224) off S1x1x16.size inb).shape.Idx) = Finset.univ ∨ ∀ a, (Rect.unit (s := S2x16x224) off S1x1x16.size inb).stride a = 1}
    {k : PUnit → Prog (TpuEff nD τ sig (Elt F) Λ₀ (VT d L).2) α} {Q : α → sProp 𝕄} (j : Fin 2) (r w : ℕ)
    (ho : off = ![j.val, r, w]) (hv : v = mx3 x u r w) :
    outQ d L j (part x u r w f)
      ⊢ iprop((outQ d L j (part x u r (w + 16) f) -∗ wp frame (wpE (defs₀ (F := F)) 𝒱₀ (VT d L) none) Set.univ (k ⟨⟩) Q)
        -∗ wp frame (wpE (defs₀ (F := F)) 𝒱₀ (VT d L) none) Set.univ
            (.op (.store uW (Rect.unit (s := S2x16x224) off S1x1x16.size inb) v Finset.univ hx hm) k) Q) := by
  subst ho hv
  have hS : ((uW).access (Rect.unit (s := S2x16x224) ![j.val, r, w] S1x1x16.size inb)).setOn Finset.univ ⊆ outSet j := by
    intro i hi
    rw [mem_outSet]
    exact ((mem_row16 j r w inb i).mp ((Finset.ext_iff.mp (View.set_slice_whole cc0_scratch1 (Rect.unit (s := S2x16x224) ![j.val, r, w] S1x1x16.size inb)) i).mp hi)).1
  have e : outQ d L j (((View.whole cc0_scratch1).slice (Rect.unit (s := S2x16x224) ![j.val, r, w] S1x1x16.size inb)).write (Elt F) (part x u r w f) (mx3 x u r w) Finset.univ)
      = outQ d L j (part x u r (w + 16) f) := by
    unfold outQ
    exact pointsTo_congr fun i hi => write_part x u f j r w inb i ((mem_outSet j i).mp hi)
  have h := wp_store (defs := defs₀ (F := F)) (Γ := .empty) (Q := Q) 𝒱₀ (VT d L) none Set.univ (m := uW) (w := mx3 x u r w) (hx := hx) (hm := hm) (k := k) (f := (part x u r w f : Buf (Elt F) ((uW).view.loc (VT d L)))) hS
  have e1 : (((uW).access (Rect.unit (s := S2x16x224) ![j.val, r, w] S1x1x16.size inb)).loc (VT d L) ↦[outSet j]{fullShare} (part x u r w f : Buf (Elt F) ((uW).view.loc (VT d L))) : sProp 𝕄) = outQ d L j (part x u r w f) := rfl
  have e2 : (((uW).access (Rect.unit (s := S2x16x224) ![j.val, r, w] S1x1x16.size inb)).loc (VT d L) ↦[outSet j]{fullShare} ((uW).access (Rect.unit (s := S2x16x224) ![j.val, r, w] S1x1x16.size inb)).write (Elt F) (part x u r w f) (mx3 x u r w) Finset.univ : sProp 𝕄) = outQ d L j (part x u r (w + 16) f) := e
  rw [e2] at h
  exact h

/-! ## One row -/

variable {x : S4x192x224x224.Idx → F .f32} {u : ℕ} {f : S2x16x224.Idx → F .f32}

/-- The three steps as rules on what is held: both slots. -/
theorem step_ld {α : Type} {off : Fin 4 → ℕ} [ho : ClosedOff off]
    {inb : ∀ a, off a + S1x1x1x16.size a ≤ S3x8x16x224.size a}
    {hl : (iW).view.LoadsAt (Rect.unit (s := S3x8x16x224) off S1x1x1x16.size inb).toLoadRect}
    {k : Vec F S1x1x1x16 .f32 → Prog (TpuEff nD τ sig (Elt F) Λ₀ (VT d L).2) α} {Q : α → sProp 𝕄} {R : sProp 𝕄} {j : Fin 3} {c r w : ℕ}
    (hf : ho.form = ![j.val, c, r, w])
    (h : iprop(inQ d L j (inVal x u) ∗ R) ⊢ wp frame (wpE (defs₀ (F := F)) 𝒱₀ (VT d L) none) Set.univ (k (ch4 x u c r w)) Q) :
    iprop(inQ d L j (inVal x u) ∗ R) ⊢ wp frame (wpE (defs₀ (F := F)) 𝒱₀ (VT d L) none) Set.univ
            (.op (.load iW (Rect.unit (s := S3x8x16x224) off S1x1x1x16.size inb).toLoadRect hl) k) Q := by
  iintro ⟨H, HR⟩
  iapply (wp_ld d L j c r w (ho.eq.trans hf)) $$ H
  iintro H
  iapply h
  isplitl [H]; · iexact H
  iexact HR

/-- The load of the output slot before a store: whatever it reads is not used. -/
theorem step_dead {α : Type} {off : Fin 3 → ℕ} [ho : ClosedOff off]
    {inb : ∀ a, off a + S1x1x16.size a ≤ S2x16x224.size a}
    {hl : (uW).view.LoadsAt (Rect.unit (s := S2x16x224) off S1x1x16.size inb).toLoadRect}
    {k : Vec F S1x1x16 .f32 → Prog (TpuEff nD τ sig (Elt F) Λ₀ (VT d L).2) α} {Q : α → sProp 𝕄} {R : sProp 𝕄} {g : S2x16x224.Idx → F .f32} {j : Fin 2} {r w : ℕ}
    (hf : ho.form = ![j.val, r, w])
    (h : ∀ v, iprop(R ∗ outQ d L j g) ⊢ wp frame (wpE (defs₀ (F := F)) 𝒱₀ (VT d L) none) Set.univ (k v) Q) :
    iprop(R ∗ outQ d L j g) ⊢ wp frame (wpE (defs₀ (F := F)) 𝒱₀ (VT d L) none) Set.univ
            (.op (.load uW (Rect.unit (s := S2x16x224) off S1x1x16.size inb).toLoadRect hl) k) Q := by
  iintro ⟨HR, H⟩
  iapply (wp_ldOut d L j r w (ho.eq.trans hf)) $$ H
  iintro %v H
  iapply (h v)
  isplitl [HR]; · iexact HR
  iexact H

/-- The store of 16 maxima: 16 more columns of row `r` are done. -/
theorem step_st {α : Type} {off : Fin 3 → ℕ} [ho : ClosedOff off]
    {inb : ∀ a, off a + S1x1x16.size a ≤ S2x16x224.size a} {v : Vec F S1x1x16 .f32}
    {hx : ((uW).access (Rect.unit (s := S2x16x224) off S1x1x16.size inb)).Stores Finset.univ}
    {hm : (Finset.univ : Finset (Rect.unit (s := S2x16x224) off S1x1x16.size inb).shape.Idx) = Finset.univ ∨ ∀ a, (Rect.unit (s := S2x16x224) off S1x1x16.size inb).stride a = 1}
    {k : PUnit → Prog (TpuEff nD τ sig (Elt F) Λ₀ (VT d L).2) α} {Q : α → sProp 𝕄} {R : sProp 𝕄} {j : Fin 2} {r w : ℕ}
    (hf : ho.form = ![j.val, r, w]) (hv : v = mx3 x u r w)
    (h : iprop(R ∗ outQ d L j (part x u r (w + 16) f)) ⊢ wp frame (wpE (defs₀ (F := F)) 𝒱₀ (VT d L) none) Set.univ (k ⟨⟩) Q) :
    iprop(R ∗ outQ d L j (part x u r w f)) ⊢ wp frame (wpE (defs₀ (F := F)) 𝒱₀ (VT d L) none) Set.univ
            (.op (.store uW (Rect.unit (s := S2x16x224) off S1x1x16.size inb) v Finset.univ hx hm) k) Q := by
  iintro ⟨HR, H⟩
  iapply (wp_st d L j r w (ho.eq.trans hf) hv) $$ H
  iintro H
  iapply h
  isplitl [HR]; · iexact HR
  iexact H

end Steps

end Cert.Proof
-- ==== Proof.Words.lean ====
/-
  The word arithmetic of the tile program, in closed form: which unit each transfer serves, how many units a tile has,
  when the two conditionals hold.
-/
module

public import proofs.«01_k».proof.Proof.Base

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "xW" => (Memref.whole Cert.KernelIdeal.main_arg0_scv : Memref Cert.KernelIdeal.sig Kind.scVector Space.hbm Cert.KernelIdeal.S4x192x224x224 EltTy.f32)
local notation "oW" => (Memref.whole Cert.KernelIdeal.main_v0_scv : Memref Cert.KernelIdeal.sig Kind.scVector Space.hbm Cert.KernelIdeal.S40x224x224 EltTy.f32)
local notation "iW" => (Memref.whole Cert.KernelIdeal.cc0_scratch0 : Memref Cert.KernelIdeal.sig Kind.scVector Space.vmem Cert.KernelIdeal.S3x8x16x224 EltTy.f32)
local notation "uW" => (Memref.whole Cert.KernelIdeal.cc0_scratch1 : Memref Cert.KernelIdeal.sig Kind.scVector Space.vmem Cert.KernelIdeal.S2x16x224 EltTy.f32)

/-! ## Trips and conditions -/

/-- The main loop makes as many trips as the tile has units. -/
theorem trips_eq : ∀ L : grid0.Coords, (k0_t1_loop L).trips = cnt L := by decide +kernel
/-- The remainder loop makes none. -/
theorem trips3_eq : ∀ L : grid0.Coords, (k0_t3_loop L).trips = 0 := by decide +kernel
/-- The inner loop makes sixteen. -/
theorem trips2_eq : k0_t2_loop.trips = 16 := by decide +kernel
/-- A trip sends for a unit when there is one two ahead. -/
theorem cond1_iff : ∀ (L : grid0.Coords) (k : Fin (k0_t1_loop L).trips), k0_cond1 L k = 1#1 ↔ k.val + 2 < cnt L := by decide +kernel
/-- A trip waits for a copy out from the third on. -/
theorem cond2_iff : ∀ (L : grid0.Coords) (k : Fin (k0_t1_loop L).trips), k0_cond2 L k = 1#1 ↔ 2 ≤ k.val := by decide +kernel

/-- A tile has at least 17 units. -/
theorem cnt_ge (L : grid0.Coords) : 17 ≤ cnt L := by unfold cnt; omega
/-- A tile's units are among the 560. -/
theorem bas_lt : ∀ L : grid0.Coords, bas L + cnt L ≤ 560 := by decide +kernel

/-! ## The units' offsets -/

/-- Trip `k` waits for the `k`-th unit's rows. -/
theorem off6_eq : ∀ (L : grid0.Coords) (k : Fin (k0_t1_loop L).trips), k0_off6 L k = xOff (bas L + k.val) := by decide +kernel
/-- Trip `k` sends for the rows of the unit two ahead. -/
theorem off3_eq : ∀ (L : grid0.Coords) (k : Fin (k0_t1_loop L).trips), k0_cond1 L k = 1#1 → k0_off3 L k = xOff (bas L + k.val + 2) := by decide +kernel
/-- Trip `k` waits for the copy out of the unit two behind. -/
theorem off9_eq : ∀ (L : grid0.Coords) (k : Fin (k0_t1_loop L).trips), k0_cond2 L k = 1#1 → k0_off9 L k = oOff (bas L + k.val - 2) := by decide +kernel
/-- Trip `k` copies out to the `k`-th unit's place. -/
theorem off138_eq : ∀ (L : grid0.Coords) (k : Fin (k0_t1_loop L).trips), k0_off138 L k = oOff (bas L + k.val) := by decide +kernel
/-- The first copy in, before the loop, is of the first unit, -/
theorem off1_eq0 : ∀ L : grid0.Coords, k0_off1 L 0#32 = xOff (bas L) := by decide +kernel
/-- the second of the second. -/
theorem off1_eq1 : ∀ L : grid0.Coords, k0_off1 L 1#32 = xOff (bas L + 1) := by decide +kernel
/-- The first wait after the loop is for the last unit but one, -/
theorem off279_eq2 : ∀ L : grid0.Coords, k0_off279 L 2#32 = oOff (bas L + cnt L - 2) := by decide +kernel
/-- the second for the last. -/
theorem off279_eq1 : ∀ L : grid0.Coords, k0_off279 L 1#32 = oOff (bas L + cnt L - 1) := by decide +kernel
/-- The first wait after the loop is on the slot with the parity of the number of units, -/
theorem off278_eq2 : ∀ L : grid0.Coords, k0_off278 L 2#32 = ![cnt L % 2, 0, 0] := by decide +kernel
/-- the second on the other slot. -/
theorem off278_eq1 : ∀ L : grid0.Coords, k0_off278 L 1#32 = ![(cnt L + 1) % 2, 0, 0] := by decide +kernel
/-- The first wait's cell is that slot's, -/
theorem off280_eq2 : ∀ L : grid0.Coords, k0_off280 L 2#32 = ![cnt L % 2] := by decide +kernel
/-- the second's the other slot's. -/
theorem off280_eq1 : ∀ L : grid0.Coords, k0_off280 L 1#32 = ![(cnt L + 1) % 2] := by decide +kernel

end Cert.Proof
-- ==== Proof.Trip.lean ====
/-
  The inner loop: sixteen rows, each by the three steps of a group of 16 columns, fourteen times.
-/
module

public import proofs.«01_k».proof.Proof.Row
public import proofs.«01_k».proof.Proof.Words

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "xW" => (Memref.whole Cert.KernelIdeal.main_arg0_scv : Memref Cert.KernelIdeal.sig Kind.scVector Space.hbm Cert.KernelIdeal.S4x192x224x224 EltTy.f32)
local notation "oW" => (Memref.whole Cert.KernelIdeal.main_v0_scv : Memref Cert.KernelIdeal.sig Kind.scVector Space.hbm Cert.KernelIdeal.S40x224x224 EltTy.f32)
local notation "iW" => (Memref.whole Cert.KernelIdeal.cc0_scratch0 : Memref Cert.KernelIdeal.sig Kind.scVector Space.vmem Cert.KernelIdeal.S3x8x16x224 EltTy.f32)
local notation "uW" => (Memref.whole Cert.KernelIdeal.cc0_scratch1 : Memref Cert.KernelIdeal.sig Kind.scVector Space.vmem Cert.KernelIdeal.S2x16x224 EltTy.f32)

variable (d : Dev nD) (L : grid0.Coords) {x : S4x192x224x224.Idx → F .f32} {u : ℕ}

/-- Row `r`'s trip: the slot's rows before `r` done, then the rows up to `r`. -/
theorem trip (k : Fin (k0_t1_loop L).trips) (r : Fin k0_t2_loop.trips) (f : S2x16x224.Idx → F .f32)
    (v6 arg8 v233 v234 arg11 : BitVec 32) (v307 : BitVec 1) :
    iprop(inQ d L (Ring.sl 3 k.val) (inVal x u) ∗ outQ d L (Ring.sl 2 k.val) (part x u r.val 0 f))
      ⊢ wp frame (wpE (defs₀ (F := F)) 𝒱₀ (VT d L) none) Set.univ
          (k0_t2_body L xW (Memref.isWhole_whole _) oW (Memref.isWhole_whole _) iW (Memref.isWhole_whole _) uW (Memref.isWhole_whole _)
            cc0_scratch2 cc0_scratch3 v6 k arg8 v233 v234 v307 r arg11)
          fun _ => iprop(inQ d L (Ring.sl 3 k.val) (inVal x u) ∗ outQ d L (Ring.sl 2 k.val) (part x u r.val 224 f)) := by
  unfold k0_t2_body
  rw [k0_part3_eq_skeleton, k0_part4_eq_skeleton, k0_part5_eq_skeleton, k0_part6_eq_skeleton,
    k0_part7_eq_skeleton, k0_part8_eq_skeleton, k0_part9_eq_skeleton, k0_part10_eq_skeleton,
    k0_part11_eq_skeleton, k0_part12_eq_skeleton, k0_part13_eq_skeleton, k0_part14_eq_skeleton,
    k0_part15_eq_skeleton, k0_part16_eq_skeleton, k0_part17_eq_skeleton, k0_part18_eq_skeleton]
  iterate 14
    iterate 8 refine step_ld d L rfl ?_
    refine step_dead d L rfl fun _ => ?_
    refine step_st d L rfl (cast_mx _ _ _ _ _ _ ?_) ?_
    · exact max_ch x u _ _ _
  change _ ⊢ wp _ _ _ (Prog.ret (0#32)) _
  iintro H
  sl_step
  iexact H

/-- Before the first row nothing is done. -/
theorem part_zero (f : S2x16x224.Idx → F .f32) : part x u 0 0 f = f := by
  funext i; unfold part; rw [if_neg (by omega)]
/-- A row whose 224 columns are done is done. -/
theorem part_row (r : ℕ) (f : S2x16x224.Idx → F .f32) : part x u r 224 f = part x u (r + 1) 0 f := by
  funext i
  have h2 : (i 2).val < 224 := (i 2).isLt
  unfold part
  by_cases h : (i 1).val < r + 1
  · rw [if_pos (by omega), if_pos (by omega)]
  · rw [if_neg (by omega), if_neg (by omega)]
/-- Sixteen rows done are the unit's maxima. -/
theorem part_all (f : S2x16x224.Idx → F .f32) : part x u 16 0 f = outVal x u := by
  funext i
  have h1 : (i 1).val < 16 := (i 1).isLt
  unfold part
  rw [if_pos (by omega)]

end Cert.Proof
-- ==== Proof.Moves.lean ====
/-
  The kernel's transfers, one rule each: a unit's rows come into a slot of the input ring, a finished slot of the output
  ring goes out to the unit's rows of the result; what is under way, held as a flight that delivers both ends at their
  final contents.
-/
module

public import proofs.«01_k».proof.Proof.Row
public import proofs.«01_k».proof.Proof.Words

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "xW" => (Memref.whole Cert.KernelIdeal.main_arg0_scv : Memref Cert.KernelIdeal.sig Kind.scVector Space.hbm Cert.KernelIdeal.S4x192x224x224 EltTy.f32)
local notation "oW" => (Memref.whole Cert.KernelIdeal.main_v0_scv : Memref Cert.KernelIdeal.sig Kind.scVector Space.hbm Cert.KernelIdeal.S40x224x224 EltTy.f32)
local notation "iW" => (Memref.whole Cert.KernelIdeal.cc0_scratch0 : Memref Cert.KernelIdeal.sig Kind.scVector Space.vmem Cert.KernelIdeal.S3x8x16x224 EltTy.f32)
local notation "uW" => (Memref.whole Cert.KernelIdeal.cc0_scratch1 : Memref Cert.KernelIdeal.sig Kind.scVector Space.vmem Cert.KernelIdeal.S2x16x224 EltTy.f32)

/-! ## Contents -/

/-- What a unit's transfer leaves in its slot of the input ring. -/
theorem landed_in (x : S4x192x224x224.Idx → F .f32) (u : Fin 560) (j : Fin 3) (f : S3x8x16x224.Idx → F .f32) (i : S3x8x16x224.Idx) (hi : i ∈ inSet j) :
    (inB j).view.write (Elt F) f (ReadAs.same.apply ((xU u).view.read (Elt F) x)) Finset.univ i = inVal x u.val i := by
  obtain ⟨y, -, e⟩ := Finset.mem_map.mp ((Finset.ext_iff.mp (set_inB j) i).mpr hi)
  have hw : (inB j).view.write (Elt F) f (ReadAs.same.apply ((xU u).view.read (Elt F) x)) Finset.univ i = x ((xU u).view.emb y) := by
    rw [← e]; exact View.write_emb_of_mem _ _ (Finset.mem_univ y)
  rw [hw, ← e]
  unfold inVal
  congr 1
  let z : S1x8x16x224.Idx := Shape.reshapeEquiv squeezes_S1x8x16x224_S8x16x224.numel_eq y
  have z0 : (z 0).val < 1 := (z 0).isLt
  have z1 : (z 1).val < 8 := (z 1).isLt
  have z2 : (z 2).val < 16 := (z 2).isLt
  have z3 : (z 3).val < 224 := (z 3).isLt
  have hu := u.isLt
  funext a
  apply Fin.ext
  fin_cases a
  · change u.val / 14 / 24 + 1 * (z 0).val = (u.val / 14 / 24) % 4
    omega
  · change u.val / 14 % 24 * 8 + 1 * (z 1).val = (u.val / 14 % 24 * 8 + (0 + 1 * (z 1).val)) % 192
    omega
  · change u.val % 14 * 16 + 1 * (z 2).val = (u.val % 14 * 16 + (0 + 1 * (z 2).val)) % 224
    omega
  · change 0 + 1 * (z 3).val = (0 + 1 * (z 3).val) % 224
    omega

/-- What a finished slot's transfer leaves in the result. -/
theorem landed_out (x : S4x192x224x224.Idx → F .f32) (u : Fin 560) (j : Fin 2) (f : S40x224x224.Idx → F .f32) (i : S40x224x224.Idx) (hi : i ∈ oSet u) :
    (oU u).view.write (Elt F) f (ReadAs.same.apply ((outB j).view.read (Elt F) (outVal x u.val))) Finset.univ i = oVal x i := by
  obtain ⟨y, -, e⟩ := Finset.mem_map.mp ((Finset.ext_iff.mp (set_oU u) i).mpr hi)
  have hw : (oU u).view.write (Elt F) f (ReadAs.same.apply ((outB j).view.read (Elt F) (outVal x u.val))) Finset.univ i = outVal x u.val ((outB j).view.emb y) := by
    rw [← e]; exact View.write_emb_of_mem _ _ (Finset.mem_univ y)
  rw [hw, ← e]
  let z : S1x16x224.Idx := Shape.reshapeEquiv squeezes_S1x16x224_S16x224.numel_eq y
  have z0 : (z 0).val < 1 := (z 0).isLt
  unfold outVal oVal
  congr 1
  · change u.val / 14 = u.val / 14 + 1 * (z 0).val
    omega
  · change u.val % 14 * 16 + (0 + 1 * (z 1).val) = u.val % 14 * 16 + 1 * (z 1).val
    omega

/-! ## What is held -/

section Held

variable (d : Dev nD) (L : grid0.Coords)

/-- A unit's rows of the input, of the result. -/
def xQ (x : S4x192x224x224.Idx → F .f32) (u : Fin 560) : sProp 𝕄 := xLoc d ↦[xSet u]{fullShare} x
def oQ (u : Fin 560) (f : S40x224x224.Idx → F .f32) : sProp 𝕄 := oLoc d ↦[oSet u]{fullShare} f
/-- A free slot of either ring, with its cell at zero. -/
def inFree (j : Fin 3) : sProp 𝕄 := iprop((∃ f, inQ d L j f) ∗ semVal (VT d L, SemLoc.dma (inS j).sem) 0)
def outFree (j : Fin 2) : sProp 𝕄 := iprop((∃ f, outQ d L j f) ∗ semVal (VT d L, SemLoc.dma (outS j).sem) 0)
/-- A unit on its way in, on its way out. -/
def FIn (x : S4x192x224x224.Idx → F .f32) (j : Fin 3) (u : Fin 560) : sProp 𝕄 :=
  Transfers.Flight countersEmb (VT d L) (SemLoc.dma (inS j).sem) (none : HIx 1) ((inB j).view.dmaCredit) iprop(inQ d L j (inVal x u.val) ∗ xQ d x u)
def FOut (x : S4x192x224x224.Idx → F .f32) (j : Fin 2) (u : Fin 560) : sProp 𝕄 :=
  Transfers.Flight countersEmb (VT d L) (SemLoc.dma (outS j).sem) (none : HIx 1) ((oU u).view.dmaCredit) iprop(oQ d u (oVal x) ∗ outQ d L j (outVal x u.val))

/-- A unit's rows of the input, as the copy spells them, are those held by their set of indices. -/
theorem xP_eq (x : S4x192x224x224.Idx → F .f32) (u : Fin 560) :
    ((xU u).view.loc (VT d L) ↦[(xU u).view.set]{fullShare} (x : Buf (Elt F) ((xU u).view.loc (VT d L))) : sProp 𝕄) = xQ d x u := by
  rw [set_xU]; rfl
/-- A unit's rows of the result, as the copy spells them, are those held by their set of indices. -/
theorem oP_eq (u : Fin 560) (f : S40x224x224.Idx → F .f32) :
    ((oU u).view.loc (VT d L) ↦[(oU u).view.set]{fullShare} (f : Buf (Elt F) ((oU u).view.loc (VT d L))) : sProp 𝕄) = oQ d u f := by
  rw [set_oU]; rfl

/-- A flight as the issuing rule leaves it is such a unit. -/
theorem FIn_intro (x : S4x192x224x224.Idx → F .f32) (j : Fin 3) (u : Fin 560) (f : S3x8x16x224.Idx → F .f32) :
    (Transfers.Flight countersEmb (VT d L) (SemLoc.dma (inS j).sem) (none : HIx 1) ((inB j).view.dmaCredit)
      iprop(inP d L j ((inB j).view.write (Elt F) f (ReadAs.same.apply ((xU u).view.read (Elt F) x)) Finset.univ)
        ∗ ((xU u).view.loc (VT d L) ↦[(xU u).view.set]{fullShare} (x : Buf (Elt F) ((xU u).view.loc (VT d L))))) : sProp 𝕄) ⊢ FIn d L x j u := by
  have e : inQ d L j ((inB j).view.write (Elt F) f (ReadAs.same.apply ((xU u).view.read (Elt F) x)) Finset.univ) = inQ d L j (inVal x u.val) := by
    unfold inQ; exact pointsTo_congr fun i hi => landed_in x u j f i hi
  unfold FIn
  exact Transfers.Flight_mono countersEmb (VT d L) (BI.sep_mono (Entails.of_eq ((inP_eq d L j _).trans e)) (Entails.of_eq (xP_eq d L x u)))
/-- The same for a unit on its way out: what lands are the maxima. -/
theorem FOut_intro (x : S4x192x224x224.Idx → F .f32) (j : Fin 2) (u : Fin 560) (f : S40x224x224.Idx → F .f32) :
    (Transfers.Flight countersEmb (VT d L) (SemLoc.dma (outS j).sem) (none : HIx 1) ((oU u).view.dmaCredit)
      iprop(((oU u).view.loc (VT d L) ↦[(oU u).view.set]{fullShare} ((oU u).view.write (Elt F) f (ReadAs.same.apply ((outB j).view.read (Elt F) (outVal x u.val))) Finset.univ : Buf (Elt F) ((oU u).view.loc (VT d L))))
        ∗ outP d L j (outVal x u.val)) : sProp 𝕄) ⊢ FOut d L x j u := by
  have e : oQ d u ((oU u).view.write (Elt F) f (ReadAs.same.apply ((outB j).view.read (Elt F) (outVal x u.val))) Finset.univ) = oQ d u (oVal x) := by
    unfold oQ; exact pointsTo_congr fun i hi => landed_out x u j f i hi
  unfold FOut
  exact Transfers.Flight_mono countersEmb (VT d L) (BI.sep_mono (Entails.of_eq ((oP_eq d L u _).trans e)) (Entails.of_eq (outP_eq d L j (outVal x u.val))))

/-! ## The rules -/

variable {x : S4x192x224x224.Idx → F .f32}

/-- A unit's transfer in is issued; -/
theorem issue_in {α : Type} {src : Memref sig .scVector .hbm S8x16x224 .f32} {dst : Memref sig .scVector .vmem S8x16x224 .f32} {s : DmaSems sig S_}
    {h1 : src.view.WordExact} {h2 : dst.view.WordExact} {h3 : DmaTarget.Typed (nD := nD) (p := (VT d L).2) .hbm (.dma s.sem) (.here dst)}
    {k : PUnit → Prog (TpuEff nD τ sig (Elt F) Λ₀ (VT d L).2) α} {Q : α → sProp 𝕄} {R : sProp 𝕄} (u : Fin 560) (j : Fin 3)
    (hs : src = xU u) (hd : dst = inB j) (hm : s = inS j)
    (h : iprop(FIn d L x j u ∗ R) ⊢ wp frame (wpE (defs₀ (F := F)) 𝒱₀ (VT d L) none) Set.univ (k ⟨⟩) Q) :
    iprop((xQ d x u ∗ inFree d L j) ∗ R)
      ⊢ wp frame (wpE (defs₀ (F := F)) 𝒱₀ (VT d L) none) Set.univ (.op (.enqueueDmaAs src (.here dst) .same (.dma s.sem) h1 h2 h3) k) Q := by
  subst hs hd hm
  unfold inFree
  iintro ⟨⟨Hx, ⟨⟨%f, Hs⟩, Hv⟩⟩, HR⟩
  ihave Hx' := (Entails.of_eq (xP_eq d L x u).symm) $$ Hx
  ihave Hs' := (Entails.of_eq (inP_eq d L j f).symm) $$ Hs
  iapply (Transfers.wp_dmaLocal countersEmb 𝒱₀ (VT d L) none (src := xU u) (dst := inB j) (sm := .dma (inS j).sem) (hsem := h3) (Sd := (inB j).view.set) (none : HIx 1) ((inB j).view.dmaCredit) rfl
    (View.amount_pos (inB j).view (.dma (inS j).sem) (show 0 < S8x16x224.numel by decide)) (Finset.Subset.refl _)) $$ [Hx' Hs' Hv]
  · isplitl [Hx']; · iexact Hx'
    isplitl [Hs']; · iexact Hs'
    iexact Hv
  iintro HF
  iapply h
  isplitl [HF]
  · iapply (FIn_intro d L x j u f) $$ HF
  iexact HR

/-- a finished slot's transfer out likewise. -/
theorem issue_out {α : Type} {src : Memref sig .scVector .vmem S16x224 .f32} {dst : Memref sig .scVector .hbm S16x224 .f32} {s : DmaSems sig S_}
    {h1 : src.view.WordExact} {h2 : dst.view.WordExact} {h3 : DmaTarget.Typed (nD := nD) (p := (VT d L).2) .vmem (.dma s.sem) (.here dst)}
    {k : PUnit → Prog (TpuEff nD τ sig (Elt F) Λ₀ (VT d L).2) α} {Q : α → sProp 𝕄} {R : sProp 𝕄} {f : S40x224x224.Idx → F .f32} (u : Fin 560) (j : Fin 2)
    (hs : src = outB j) (hd : dst = oU u) (hm : s = outS j)
    (h : iprop(FOut d L x j u ∗ R) ⊢ wp frame (wpE (defs₀ (F := F)) 𝒱₀ (VT d L) none) Set.univ (k ⟨⟩) Q) :
    iprop((oQ d u f ∗ outQ d L j (outVal x u.val) ∗ semVal (VT d L, SemLoc.dma (outS j).sem) 0) ∗ R)
      ⊢ wp frame (wpE (defs₀ (F := F)) 𝒱₀ (VT d L) none) Set.univ (.op (.enqueueDmaAs src (.here dst) .same (.dma s.sem) h1 h2 h3) k) Q := by
  subst hs hd hm
  iintro ⟨⟨Ho, Hs, Hv⟩, HR⟩
  ihave Ho' := (Entails.of_eq (oP_eq d L u f).symm) $$ Ho
  ihave Hs' := (Entails.of_eq (outP_eq d L j (outVal x u.val)).symm) $$ Hs
  iapply (Transfers.wp_dmaLocal countersEmb 𝒱₀ (VT d L) none (src := outB j) (dst := oU u) (sm := .dma (outS j).sem) (hsem := h3) (Sd := (oU u).view.set) (none : HIx 1) ((oU u).view.dmaCredit) rfl
    (View.amount_pos (oU u).view (.dma (outS j).sem) (show 0 < S16x224.numel by decide)) (Finset.Subset.refl _)) $$ [Ho' Hs' Hv]
  · isplitl [Hs']; · iexact Hs'
    isplitl [Ho']; · iexact Ho'
    iexact Hv
  iintro HF
  iapply h
  isplitl [HF]
  · iapply (FOut_intro d L x j u f) $$ HF
  iexact HR

variable {O : CellTallies nD τ sig (HIx 1)}

/-- The wait for a unit on its way in; -/
theorem wait_in {α : Type} {src : Memref sig .scVector .hbm S8x16x224 .f32} {dst : Memref sig .scVector .vmem S8x16x224 .f32} {s : DmaSems sig S_}
    {h1 : src.view.WordExact} {h2 : dst.view.WordExact}
    {k : PUnit → Prog (TpuEff nD τ sig (Elt F) Λ₀ (VT d L).2) α} {Q : α → sProp 𝕄} {R : sProp 𝕄} (u : Fin 560) (j : Fin 3)
    (hd : dst = inB j) (hm : s = inS j)
    (h : iprop((inQ d L j (inVal x u.val) ∗ semVal (VT d L, SemLoc.dma (inS j).sem) 0 ∗ xQ d x u ∗ ∃ W, owes (VT d L) O W) ∗ R)
      ⊢ wp frame (wpE (defs₀ (F := F)) 𝒱₀ (VT d L) none) Set.univ (k ⟨⟩) Q) :
    iprop((FIn d L x j u ∗ Transfers.MayWaits (VT d L) (none : HIx 1) O ∗ ∃ W, owes (VT d L) O W) ∗ R)
      ⊢ wp frame (wpE (defs₀ (F := F)) 𝒱₀ (VT d L) none) Set.univ (.op (.waitDma2 s.sem src dst h1 h2) k) Q := by
  subst hd hm
  iintro ⟨⟨HF, Hmw, %W, HO⟩, HR⟩
  unfold FIn
  iapply (Transfers.wp_waitLocalO countersEmb 𝒱₀ (VT d L) none (none : HIx 1) (sem := (inS j).sem) (srcw := src) (dstw := inB j) rfl) $$ [HF Hmw HO]
  · isplitl [HF]; · iexact HF
    isplitl [HO]; · iexact HO
    iapply (Transfers.MayWaits.elim (SemLoc.dma (inS j).sem)) $$ Hmw
  iintro ⟨⟨Hs, Hx⟩, Hv, HO⟩
  iapply h
  isplitr [HR]
  · isplitl [Hs]; · iexact Hs
    isplitl [Hv]; · iexact Hv
    isplitl [Hx]; · iexact Hx
    iexists _; iexact HO
  iexact HR

/-- for one on its way out. -/
theorem wait_out {α : Type} {src : Memref sig .scVector .vmem S16x224 .f32} {dst : Memref sig .scVector .hbm S16x224 .f32} {s : DmaSems sig S_}
    {h1 : src.view.WordExact} {h2 : dst.view.WordExact}
    {k : PUnit → Prog (TpuEff nD τ sig (Elt F) Λ₀ (VT d L).2) α} {Q : α → sProp 𝕄} {R : sProp 𝕄} (u : Fin 560) (j : Fin 2)
    (hd : dst = oU u) (hm : s = outS j)
    (h : iprop((oQ d u (oVal x) ∗ outFree d L j ∗ ∃ W, owes (VT d L) O W) ∗ R)
      ⊢ wp frame (wpE (defs₀ (F := F)) 𝒱₀ (VT d L) none) Set.univ (k ⟨⟩) Q) :
    iprop((FOut d L x j u ∗ Transfers.MayWaits (VT d L) (none : HIx 1) O ∗ ∃ W, owes (VT d L) O W) ∗ R)
      ⊢ wp frame (wpE (defs₀ (F := F)) 𝒱₀ (VT d L) none) Set.univ (.op (.waitDma2 s.sem src dst h1 h2) k) Q := by
  subst hd hm
  iintro ⟨⟨HF, Hmw, %W, HO⟩, HR⟩
  unfold FOut
  iapply (Transfers.wp_waitLocalO countersEmb 𝒱₀ (VT d L) none (none : HIx 1) (sem := (outS j).sem) (srcw := src) (dstw := oU u) rfl) $$ [HF Hmw HO]
  · isplitl [HF]; · iexact HF
    isplitl [HO]; · iexact HO
    iapply (Transfers.MayWaits.elim (SemLoc.dma (outS j).sem)) $$ Hmw
  iintro ⟨⟨Ho, Hs⟩, Hv, HO⟩
  iapply h
  isplitr [HR]
  · isplitl [Ho]; · iexact Ho
    isplitl [Hs Hv]
    · unfold outFree
      isplitl [Hs]; · iexists _; iexact Hs
      iexact Hv
    iexists _; iexact HO
  iexact HR

end Held

end Cert.Proof
-- ==== Proof.Tile.lean ====
/-
  One trip of the kernel's main loop: the unit two ahead is sent for, this trip's unit waited for, the unit two behind
  waited for on its way out, the 16 rows computed, the finished slot sent out.
-/
module

public import proofs.«01_k».proof.Proof.Trip
public import proofs.«01_k».proof.Proof.Moves

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "xW" => (Memref.whole Cert.KernelIdeal.main_arg0_scv : Memref Cert.KernelIdeal.sig Kind.scVector Space.hbm Cert.KernelIdeal.S4x192x224x224 EltTy.f32)
local notation "oW" => (Memref.whole Cert.KernelIdeal.main_v0_scv : Memref Cert.KernelIdeal.sig Kind.scVector Space.hbm Cert.KernelIdeal.S40x224x224 EltTy.f32)
local notation "iW" => (Memref.whole Cert.KernelIdeal.cc0_scratch0 : Memref Cert.KernelIdeal.sig Kind.scVector Space.vmem Cert.KernelIdeal.S3x8x16x224 EltTy.f32)
local notation "uW" => (Memref.whole Cert.KernelIdeal.cc0_scratch1 : Memref Cert.KernelIdeal.sig Kind.scVector Space.vmem Cert.KernelIdeal.S2x16x224 EltTy.f32)

/-! ## The program's names for slots, cells and units -/

/-- A slice of the input ring at offset `j` is slot `j`. -/
theorem name_in {off : Fin 4 → ℕ} {p : ∀ a, off a + S1x8x16x224.size a ≤ S3x8x16x224.size a} (j : Fin 3) (h : off = ![j.val, 0, 0, 0]) :
    ((iW).slice (Rect.unit (s := S3x8x16x224) off S1x8x16x224.size p) (fun _ => rfl)).squeeze S8x16x224 squeezes_S1x8x16x224_S8x16x224 = inB j := by
  subst h; rfl
/-- A slice of the output ring at offset `j` is slot `j`. -/
theorem name_out {off : Fin 3 → ℕ} {p : ∀ a, off a + S1x16x224.size a ≤ S2x16x224.size a} (j : Fin 2) (h : off = ![j.val, 0, 0]) :
    ((uW).slice (Rect.unit (s := S2x16x224) off S1x16x224.size p) (fun _ => rfl)).squeeze S16x224 squeezes_S1x16x224_S16x224 = outB j := by
  subst h; rfl
/-- A slice of the input ring's cells at offset `j` is cell `j`. -/
theorem name_inS {off : Fin 1 → ℕ} {p : ∀ a, off a + S1.size a ≤ S3.size a} (j : Fin 3) (h : off = ![j.val]) :
    (cc0_scratch2.slice (Rect.unit (s := S3) off S1.size p)).squeeze S_ squeezes_S1_S_ = inS j := by
  subst h; rfl
/-- A slice of the output ring's cells at offset `j` is cell `j`. -/
theorem name_outS {off : Fin 1 → ℕ} {p : ∀ a, off a + S1.size a ≤ S2.size a} (j : Fin 2) (h : off = ![j.val]) :
    (cc0_scratch3.slice (Rect.unit (s := S2) off S1.size p)).squeeze S_ squeezes_S1_S_ = outS j := by
  subst h; rfl
/-- A slice of the input at a unit's offset is the unit's rows. -/
theorem name_x {off : Fin 4 → ℕ} {p : ∀ a, off a + S1x8x16x224.size a ≤ S4x192x224x224.size a} (u : Fin 560) (h : off = xOff u.val) :
    ((xW).slice (Rect.unit (s := S4x192x224x224) off S1x8x16x224.size p) (fun _ => rfl)).squeeze S8x16x224 squeezes_S1x8x16x224_S8x16x224 = xU u := by
  subst h; rfl
/-- A slice of the result at a unit's offset is the unit's rows. -/
theorem name_o {off : Fin 3 → ℕ} {p : ∀ a, off a + S1x16x224.size a ≤ S40x224x224.size a} (u : Fin 560) (h : off = oOff u.val) :
    ((oW).slice (Rect.unit (s := S40x224x224) off S1x16x224.size p) (fun _ => rfl)).squeeze S16x224 squeezes_S1x16x224_S16x224 = oU u := by
  subst h; rfl

/-! ## What the tile holds before trip `k` -/

/-- The tile's `k`-th unit. -/
def un (L : grid0.Coords) (k : ℕ) : Fin 560 := ⟨(bas L + k) % 560, Nat.mod_lt _ (by decide)⟩
/-- The `k`-th unit's number is the first one's and `k`. -/
theorem un_val (L : grid0.Coords) {k : ℕ} (h : k < cnt L) : (un L k).val = bas L + k := by
  have := bas_lt L
  exact Nat.mod_eq_of_lt (by omega)

/-- Units of the input at home before trip `k` (all but `k` and `k + 1`), and once trip `k`'s is sent for (all but `k` to `k + 2`);
    units of the result not yet begun, units of the result done. -/
def sX (n k : ℕ) : Finset ℕ := (Finset.range n).filter fun i => i < k ∨ k + 2 ≤ i
def sM (n k : ℕ) : Finset ℕ := (Finset.range n).filter fun i => i < k ∨ k + 3 ≤ i
def sN (n k : ℕ) : Finset ℕ := (Finset.range n).filter fun i => k ≤ i
def sD (n k : ℕ) : Finset ℕ := (Finset.range n).filter fun i => i + 2 < k

/-- While unit `k + 2` exists, it is at home before trip `k` and is then sent for. -/
theorem sX_take {n k : ℕ} (h : k + 2 < n) : sX n k = insert (k + 2) (sM n k) := by
  ext i; simp only [sX, sM, Finset.mem_insert, Finset.mem_filter, Finset.mem_range]; omega
/-- When there is no unit `k + 2`, none is sent for. -/
theorem sX_keep {n k : ℕ} (h : ¬ k + 2 < n) : sX n k = sM n k := by
  ext i; simp only [sX, sM, Finset.mem_filter, Finset.mem_range]; omega
/-- Before trip `k + 1` unit `k` is at home again. -/
theorem sX_put {n k : ℕ} (h : k < n) : sX n (k + 1) = insert k (sM n k) := by
  ext i; simp only [sX, sM, Finset.mem_insert, Finset.mem_filter, Finset.mem_range]; omega
/-- Unit `k + 2` is not at home once it is sent for. -/
theorem not_sM₂ {n k : ℕ} : k + 2 ∉ sM n k := by simp only [sM, Finset.mem_filter, Finset.mem_range]; omega
/-- Unit `k` is not at home during trip `k`. -/
theorem not_sM {n k : ℕ} : k ∉ sM n k := by simp only [sM, Finset.mem_filter, Finset.mem_range]; omega
/-- Trip `k` begins unit `k`. -/
theorem sN_take {n k : ℕ} (h : k < n) : sN n k = insert k (sN n (k + 1)) := by
  ext i; simp only [sN, Finset.mem_insert, Finset.mem_filter, Finset.mem_range]; omega
/-- Once begun, unit `k` is no longer among those not yet begun. -/
theorem not_sN {n k : ℕ} : k ∉ sN n (k + 1) := by simp only [sN, Finset.mem_filter, Finset.mem_range]; omega
/-- From the third trip on, trip `k` finishes unit `k - 2`. -/
theorem sD_put {n k : ℕ} (h : 2 ≤ k) (hn : k - 2 < n) : sD n (k + 1) = insert (k - 2) (sD n k) := by
  ext i; simp only [sD, Finset.mem_insert, Finset.mem_filter, Finset.mem_range]; omega
/-- The first two trips finish no unit. -/
theorem sD_keep {n k : ℕ} (h : ¬ 2 ≤ k) : sD n (k + 1) = sD n k := by
  ext i; simp only [sD, Finset.mem_filter, Finset.mem_range]; omega
/-- Unit `k - 2` is not done before trip `k`. -/
theorem not_sD {n k : ℕ} (h : 2 ≤ k) : k - 2 ∉ sD n k := by simp only [sD, Finset.mem_filter, Finset.mem_range]; omega

section Tile

variable (d : Dev nD) (L : grid0.Coords) (x : S4x192x224x224.Idx → F .f32)

def xs (S : Finset ℕ) : sProp 𝕄 := bigSep S fun i => xQ d x (un L i)
def os (f : S40x224x224.Idx → F .f32) (S : Finset ℕ) : sProp 𝕄 := bigSep S fun i => oQ d (un L i) f
/-- One unit of the input more. -/
theorem xs_insert {S : Finset ℕ} {i : ℕ} (h : i ∉ S) : xs d L x (insert i S) = iprop(xQ d x (un L i) ∗ xs d L x S) := bigSep_insert h
/-- One unit of the result more. -/
theorem os_insert (f : S40x224x224.Idx → F .f32) {S : Finset ℕ} {i : ℕ} (h : i ∉ S) : os d L f (insert i S) = iprop(oQ d (un L i) f ∗ os d L f S) := bigSep_insert h

/-- Unit `k` on its way in, if there is one; unit `k - 2` on its way out, if there is one. -/
def inSt (k : ℕ) : sProp 𝕄 := if k < cnt L then FIn d L x (Ring.sl 3 k) (un L k) else inFree d L (Ring.sl 3 k)
def outSt (k : ℕ) : sProp 𝕄 := if 2 ≤ k then FOut d L x (Ring.sl 2 k) (un L (k - 2)) else outFree d L (Ring.sl 2 k)

variable (O : CellTallies nD τ sig (HIx 1))

def waits : sProp 𝕄 := iprop(∃ W, owes (VT d L) O W)

def inv (f : S40x224x224.Idx → F .f32) (k : ℕ) : sProp 𝕄 :=
  iprop(Transfers.MayWaits (VT d L) (none : HIx 1) O ∗ waits d L O
    ∗ (inSt d L x k ∗ inSt d L x (k + 1) ∗ inFree d L (Ring.sl 3 (k + 2)))
    ∗ (outSt d L x k ∗ outSt d L x (k + 1))
    ∗ xs d L x (sX (cnt L) k) ∗ os d L f (sN (cnt L) k) ∗ os d L (oVal x) (sD (cnt L) k))

/-- A program that is over. -/
theorem over {α : Type} {P : sProp 𝕄} {Q : α → sProp 𝕄} {v : α} (h : P ⊢ Q v) :
    P ⊢ wp frame (wpE (defs₀ (F := F)) 𝒱₀ (VT d L) none) Set.univ (Prog.ret v : Prog (TpuEff nD τ sig (Elt F) Λ₀ (VT d L).2) α) Q := by
  iintro H
  sl_step
  iapply h
  iexact H

/-! ## The trip's parts -/

variable (k : Fin (k0_t1_loop L).trips)

/-- Part 19: unit `k + 2`, if there is one, is sent for into the free slot. -/
theorem part19 (v6 v7 c0 c1 : BitVec 32) :
    iprop(xs d L x (sX (cnt L) k.val) ∗ inFree d L (Ring.sl 3 (k.val + 2)))
      ⊢ wp frame (wpE (defs₀ (F := F)) 𝒱₀ (VT d L) none) Set.univ (k0_part19 L xW (Memref.isWhole_whole _) oW (Memref.isWhole_whole _) iW (Memref.isWhole_whole _) uW (Memref.isWhole_whole _) cc0_scratch2 cc0_scratch3 v6 v7 c0 c1 k)
          fun _ => iprop(inSt d L x (k.val + 2) ∗ xs d L x (sM (cnt L) k.val)) := by
  rw [k0_part19_eq_skeleton]; unfold k0_part19_skel
  rcases Classical.em (k0_cond1 L k = 1#1) with hc | hc
  · have hk := (cond1_iff L k).mp hc
    have hu := un_val L hk
    rw [sX_take hk, xs_insert d L x not_sM₂]
    simp only [dif_pos hc]
    rw [k0_part1_eq_skeleton]; unfold k0_part1_skel
    refine BIBase.Entails.trans (Q := iprop((xQ d x (un L (k.val + 2)) ∗ inFree d L (Ring.sl 3 (k.val + 2))) ∗ xs d L x (sM (cnt L) k.val))) ?_ ?_
    · iintro ⟨⟨H1, H2⟩, H3⟩
      isplitl [H1 H3]
      · isplitl [H1] <;> iassumption
      iassumption
    refine issue_in d L (un L (k.val + 2)) (Ring.sl 3 (k.val + 2)) (name_x _ ((off3_eq L k hc).trans (by rw [hu]; rfl))) (name_in _ (k0_off2_eq L k)) (name_inS _ (k0_off4_eq L k)) ?_
    unfold inSt
    rw [if_pos hk]
    exact over d L (BIBase.Entails.rfl)
  · have hk : ¬ k.val + 2 < cnt L := fun h => hc ((cond1_iff L k).mpr h)
    rw [sX_keep hk]
    simp only [dif_neg hc]
    unfold inSt
    rw [if_neg hk]
    iintro ⟨H1, H2⟩
    sl_step
    isplitl [H2] <;> iassumption

/-- Part 20: unit `k` is waited for, and its slot holds its rows. -/
theorem part20 (hk : k.val < cnt L) (arg8 v240 v257 v258 : BitVec 32) (v272 : BitVec 1) :
    iprop((FIn d L x (Ring.sl 3 k.val) (un L k.val) ∗ Transfers.MayWaits (VT d L) (none : HIx 1) O ∗ waits d L O) ∗ emp)
      ⊢ wp frame (wpE (defs₀ (F := F)) 𝒱₀ (VT d L) none) Set.univ (k0_part20 L xW (Memref.isWhole_whole _) oW (Memref.isWhole_whole _) iW (Memref.isWhole_whole _) uW (Memref.isWhole_whole _) cc0_scratch2 cc0_scratch3 k arg8 v240 v257 v258 v272)
          fun _ => iprop((inQ d L (Ring.sl 3 k.val) (inVal x (un L k.val).val) ∗ semVal (VT d L, SemLoc.dma (inS (Ring.sl 3 k.val)).sem) 0 ∗ xQ d x (un L k.val) ∗ waits d L O) ∗ emp) := by
  rw [k0_part20_eq_skeleton]; unfold k0_part20_skel
  unfold waits
  refine wait_in d L (un L k.val) (Ring.sl 3 k.val) (name_in _ (k0_off5_eq L k)) (name_inS _ (k0_off7_eq L k)) ?_
  exact over d L (BIBase.Entails.rfl)

/-- The inner loop: from an input slot with a unit's rows, the output slot gets the unit's maxima. -/
theorem rows (v6 arg8 v233 v234 : BitVec 32) (v307 : BitVec 1) (u : ℕ) (f : S2x16x224.Idx → F .f32) :
    iprop(inQ d L (Ring.sl 3 k.val) (inVal x u) ∗ outQ d L (Ring.sl 2 k.val) f)
      ⊢ wp frame (wpE (defs₀ (F := F)) 𝒱₀ (VT d L) none) Set.univ (Scf.Loop.for k0_t2_loop k0_t2_ok 0#32 (k0_t2_body (F := F) L xW (Memref.isWhole_whole _) oW (Memref.isWhole_whole _) iW (Memref.isWhole_whole _) uW (Memref.isWhole_whole _) cc0_scratch2 cc0_scratch3 v6 k arg8 v233 v234 v307))
          fun _ => iprop(inQ d L (Ring.sl 3 k.val) (inVal x u) ∗ outQ d L (Ring.sl 2 k.val) (outVal x u)) := by
  iintro ⟨H1, H2⟩
  sl_for (fun (r : ℕ) (_ : BitVec 32) => iprop(inQ d L (Ring.sl 3 k.val) (inVal x u) ∗ outQ d L (Ring.sl 2 k.val) (part x u r 0 f))) $$ [H1 H2]
  case region =>
    intro r acc
    rw [← part_row]
    exact trip d L k r f v6 arg8 v233 v234 acc v307
  rw [part_zero, show Scf.trips k0_t2_loop.lb k0_t2_loop.ub k0_t2_loop.st = 16 from trips2_eq, part_all]
  isplitl [H1 H2]; · isplitl [H1] <;> iassumption
  iintro %_ H
  iexact H

/-- Part 21: the unit two behind waited for, then the rows. -/
theorem part21 (hk : k.val < cnt L) (v6 arg8 v233 v234 : BitVec 32) (v307 : BitVec 1) (u : ℕ) :
    iprop((outSt d L x k.val ∗ Transfers.MayWaits (VT d L) (none : HIx 1) O ∗ waits d L O) ∗ (inQ d L (Ring.sl 3 k.val) (inVal x u) ∗ os d L (oVal x) (sD (cnt L) k.val)))
      ⊢ wp frame (wpE (defs₀ (F := F)) 𝒱₀ (VT d L) none) Set.univ (k0_part21 L xW (Memref.isWhole_whole _) oW (Memref.isWhole_whole _) iW (Memref.isWhole_whole _) uW (Memref.isWhole_whole _) cc0_scratch2 cc0_scratch3 v6 k arg8 v233 v234 v307)
          fun _ => iprop((outQ d L (Ring.sl 2 k.val) (outVal x u) ∗ semVal (VT d L, SemLoc.dma (outS (Ring.sl 2 k.val)).sem) 0 ∗ waits d L O)
            ∗ inQ d L (Ring.sl 3 k.val) (inVal x u) ∗ os d L (oVal x) (sD (cnt L) (k.val + 1))) := by
  rw [k0_part21_eq_skeleton]; unfold k0_part21_skel
  have tail : iprop((outFree d L (Ring.sl 2 k.val) ∗ waits d L O) ∗ inQ d L (Ring.sl 3 k.val) (inVal x u) ∗ os d L (oVal x) (sD (cnt L) (k.val + 1)))
      ⊢ wp frame (wpE (defs₀ (F := F)) 𝒱₀ (VT d L) none) Set.univ (Scf.Loop.for k0_t2_loop k0_t2_ok 0#32 (k0_t2_body (F := F) L xW (Memref.isWhole_whole _) oW (Memref.isWhole_whole _) iW (Memref.isWhole_whole _) uW (Memref.isWhole_whole _) cc0_scratch2 cc0_scratch3 v6 k arg8 v233 v234 v307) >>= fun _ => (pure ⟨⟩ : Prog (TpuEff nD τ sig (Elt F) Λ₀ (VT d L).2) PUnit))
          fun _ => iprop((outQ d L (Ring.sl 2 k.val) (outVal x u) ∗ semVal (VT d L, SemLoc.dma (outS (Ring.sl 2 k.val)).sem) 0 ∗ waits d L O)
            ∗ inQ d L (Ring.sl 3 k.val) (inVal x u) ∗ os d L (oVal x) (sD (cnt L) (k.val + 1))) := by
    unfold outFree
    rw [wp_bind]
    iintro ⟨⟨⟨⟨%f, Hs⟩, Hv⟩, HO⟩, Hi, Ho⟩
    iapply (wp_wand_r Idealize.ShloMosaic.frame (wpE (defs₀ (F := F)) 𝒱₀ (VT d L) none) Set.univ)
    isplitl [Hs Hi]
    · iapply (rows d L x k v6 arg8 v233 v234 v307 u f)
      isplitl [Hi] <;> iassumption
    iintro %_ ⟨Hi, Hs⟩
    sl_step
    isplitl [Hs Hv HO]
    · isplitl [Hs]; · iexact Hs
      isplitl [Hv] <;> iassumption
    isplitl [Hi] <;> iassumption
  rcases Classical.em (k0_cond2 L k = 1#1) with hc | hc
  · have hk2 := (cond2_iff L k).mp hc
    have hu := un_val L (show k.val - 2 < cnt L by omega)
    rw [sD_put hk2 (by omega), os_insert d L (oVal x) (not_sD hk2)] at tail ⊢
    simp only [dif_pos hc]
    rw [k0_part2_eq_skeleton]; unfold k0_part2_skel
    unfold outSt
    rw [if_pos hk2]
    unfold waits at tail ⊢
    refine wait_out d L (un L (k.val - 2)) (Ring.sl 2 k.val) (name_o _ ((off9_eq L k hc).trans (by rw [hu]; congr 1; omega))) (name_outS _ (k0_off10_eq L k)) ?_
    refine BIBase.Entails.trans ?_ tail
    iintro ⟨⟨H1, H2, H3⟩, H4, H5⟩
    isplitl [H2 H3]; · isplitl [H2] <;> iassumption
    isplitl [H4]; · iassumption
    isplitl [H1] <;> iassumption
  · have hk2 : ¬ 2 ≤ k.val := fun h => hc ((cond2_iff L k).mpr h)
    rw [sD_keep hk2] at tail ⊢
    simp only [dif_neg hc]
    unfold outSt
    rw [if_neg hk2]
    refine BIBase.Entails.trans ?_ tail
    iintro ⟨⟨H1, -, H2⟩, H3, H4⟩
    isplitl [H1 H2]; · isplitl [H1] <;> iassumption
    isplitl [H3] <;> iassumption

/-- The trip's end: the finished slot sent out. -/
theorem out_last {src : Memref sig .scVector .vmem S16x224 .f32} {dst : Memref sig .scVector .hbm S16x224 .f32} {s : DmaSems sig S_}
    {h1 : src.view.WordExact} {h2 : dst.view.WordExact} {h3 : DmaTarget.Typed (nD := nD) (p := (VT d L).2) .vmem (.dma s.sem) (.here dst)}
    {v : BitVec 32} {f : S40x224x224.Idx → F .f32} (u : Fin 560) (j : Fin 2) (hs : src = outB j) (hd : dst = oU u) (hm : s = outS j) :
    iprop(oQ d u f ∗ outQ d L j (outVal x u.val) ∗ semVal (VT d L, SemLoc.dma (outS j).sem) 0)
      ⊢ wp frame (wpE (defs₀ (F := F)) 𝒱₀ (VT d L) none) Set.univ (Prog.lift (.enqueueDma src (.here dst) (.dma s.sem) h1 h2 h3) >>= fun _ => (pure v : Prog (TpuEff nD τ sig (Elt F) Λ₀ (VT d L).2) (BitVec 32)))
        fun _ => FOut d L x j u := by
  refine BIBase.Entails.trans (Q := iprop((oQ d u f ∗ outQ d L j (outVal x u.val) ∗ semVal (VT d L, SemLoc.dma (outS j).sem) 0) ∗ emp)) ?_ ?_
  · iintro H
    isplitl [H]
    · iexact H
    · iempintro
  refine issue_out d L u j hs hd hm ?_
  refine over d L ?_
  iintro ⟨H, -⟩
  iexact H

/-- One trip: from what is held before it to what is held before the next. -/
theorem trip1 (f : S40x224x224.Idx → F .f32) (v6 v7 c0 c0' v146 c1 acc : BitVec 32) :
    inv d L x O f k.val
      ⊢ wp frame (wpE (defs₀ (F := F)) 𝒱₀ (VT d L) none) Set.univ (k0_t1_body L xW (Memref.isWhole_whole _) oW (Memref.isWhole_whole _) iW (Memref.isWhole_whole _) uW (Memref.isWhole_whole _) cc0_scratch2 cc0_scratch3 v6 v7 c0 c0' v146 c1 k acc) fun _ => inv d L x O f (k.val + 1) := by
  have hk : k.val < cnt L := trips_eq L ▸ k.isLt
  have hu := un_val L hk
  unfold k0_t1_body inv
  rw [sN_take hk, os_insert d L f not_sN, sX_put hk, xs_insert d L x not_sM, show Ring.sl 3 (k.val + 1 + 2) = Ring.sl 3 k.val from Ring.sl_add 3 k.val,
    show outSt d L x (k.val + 1 + 1) = FOut d L x (Ring.sl 2 k.val) (un L k.val) by
      unfold outSt; rw [if_pos (by omega), show k.val + 1 + 1 - 2 = k.val by omega, show Ring.sl 2 (k.val + 1 + 1) = Ring.sl 2 k.val from Ring.sl_add 2 k.val]]
  iintro ⟨#Hmw, HO, ⟨Hi0, Hi1, Hi2⟩, ⟨Ho0, Ho1⟩, Hx, ⟨Hok, Hn⟩, Hd⟩
  rw [wp_bind]
  iapply (wp_wand_r Idealize.ShloMosaic.frame (wpE (defs₀ (F := F)) 𝒱₀ (VT d L) none) Set.univ)
  isplitl [Hx Hi2]
  · iapply (part19 d L x k v6 v7 c0 c1)
    isplitl [Hx] <;> iassumption
  iintro %a ⟨Hi2, Hx⟩
  obtain ⟨arg8, v233, v234, v240, v257, v258, v272⟩ := a
  dsimp only
  rw [wp_bind]
  iapply (wp_wand_r Idealize.ShloMosaic.frame (wpE (defs₀ (F := F)) 𝒱₀ (VT d L) none) Set.univ)
  isplitl [Hi0 HO]
  · iapply (part20 d L x O k hk arg8 v240 v257 v258 v272)
    isplitl [Hi0 HO]
    · isplitl [Hi0]
      · ihave Hi0' := (Entails.of_eq (show inSt d L x k.val = FIn d L x (Ring.sl 3 k.val) (un L k.val) from if_pos hk)) $$ Hi0
        iexact Hi0'
      isplitr; · iexact Hmw
      iexact HO
    iempintro
  iintro %v307 ⟨⟨Hi, Hiv, Hxk, HO⟩, -⟩
  rw [wp_bind]
  iapply (wp_wand_r Idealize.ShloMosaic.frame (wpE (defs₀ (F := F)) 𝒱₀ (VT d L) none) Set.univ)
  isplitl [Ho0 HO Hi Hd]
  · iapply (part21 d L x O k hk v6 arg8 v233 v234 v307 (un L k.val).val)
    isplitl [Ho0 HO]
    · isplitl [Ho0]; · iexact Ho0
      isplitr; · iexact Hmw
      iexact HO
    isplitl [Hi] <;> iassumption
  iintro %_ ⟨⟨Hs, Hsv, HO⟩, Hi, Hd⟩
  iapply (wp_wand_r Idealize.ShloMosaic.frame (wpE (defs₀ (F := F)) 𝒱₀ (VT d L) none) Set.univ)
  isplitl [Hok Hs Hsv]
  · iapply (out_last d L x (f := f) (un L k.val) (Ring.sl 2 k.val) (name_out _ (k0_off137_eq L k)) (name_o _ ((off138_eq L k).trans (by rw [hu]))) (name_outS _ (k0_off139_eq L k)))
    isplitl [Hok]; · iexact Hok
    isplitl [Hs] <;> iassumption
  iintro %_ HF
  isplitr; · iexact Hmw
  isplitl [HO]; · iexact HO
  isplitl [Hi1 Hi2 Hi Hiv]
  · isplitl [Hi1]; · iexact Hi1
    isplitl [Hi2]; · iexact Hi2
    unfold inFree
    isplitl [Hi]; · iexists _; iexact Hi
    iexact Hiv
  isplitl [Ho1 HF]
  · isplitl [Ho1] <;> iassumption
  isplitl [Hxk Hx]
  · isplitl [Hxk] <;> iassumption
  isplitl [Hn] <;> iassumption

end Tile

end Cert.Proof
-- ==== Proof.Whole.lean ====
/-
  The vector kernel on one tile: the first two units sent for, the main loop, the last two units waited for on their
  way out.
-/
module

public import proofs.«01_k».proof.Proof.Tile

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "xW" => (Memref.whole Cert.KernelIdeal.main_arg0_scv : Memref Cert.KernelIdeal.sig Kind.scVector Space.hbm Cert.KernelIdeal.S4x192x224x224 EltTy.f32)
local notation "oW" => (Memref.whole Cert.KernelIdeal.main_v0_scv : Memref Cert.KernelIdeal.sig Kind.scVector Space.hbm Cert.KernelIdeal.S40x224x224 EltTy.f32)
local notation "iW" => (Memref.whole Cert.KernelIdeal.cc0_scratch0 : Memref Cert.KernelIdeal.sig Kind.scVector Space.vmem Cert.KernelIdeal.S3x8x16x224 EltTy.f32)
local notation "uW" => (Memref.whole Cert.KernelIdeal.cc0_scratch1 : Memref Cert.KernelIdeal.sig Kind.scVector Space.vmem Cert.KernelIdeal.S2x16x224 EltTy.f32)

section Whole

variable (d : Dev nD) (L : grid0.Coords) (x : S4x192x224x224.Idx → F .f32)

/-! ## The units at the two ends -/

/-- All the units are the first two and those at home before the first trip. -/
theorem range_first {n : ℕ} (h : 17 ≤ n) : Finset.range n = insert 0 (insert 1 (sX n 0)) := by
  ext i; simp only [sX, Finset.mem_insert, Finset.mem_filter, Finset.mem_range]; omega
/-- Unit 0 is not among the rest. -/
theorem not_first₀ {n : ℕ} : 0 ∉ insert 1 (sX n 0) := by simp only [sX, Finset.mem_insert, Finset.mem_filter, Finset.mem_range]; omega
/-- Unit 1 is not at home before the first trip. -/
theorem not_first₁ {n : ℕ} : 1 ∉ sX n 0 := by simp only [sX, Finset.mem_filter, Finset.mem_range]; omega
/-- After the last trip every unit of the input is at home. -/
theorem sX_last {n : ℕ} : sX n n = Finset.range n := by
  ext i; simp only [sX, Finset.mem_filter, Finset.mem_range]; omega
/-- Before the first trip no unit is begun. -/
theorem sN_first {n : ℕ} : sN n 0 = Finset.range n := by
  ext i; simp only [sN, Finset.mem_filter, Finset.mem_range]; omega
/-- After the last trip every unit is begun. -/
theorem sN_last {n : ℕ} : sN n n = ∅ := by
  ext i; simp only [sN, Finset.mem_filter, Finset.mem_range, Finset.notMem_empty, iff_false]; omega
/-- Before the first trip no unit is done. -/
theorem sD_first {n : ℕ} : sD n 0 = ∅ := by
  ext i; simp only [sD, Finset.mem_filter, Finset.mem_range, Finset.notMem_empty, iff_false]; omega
/-- All the units are the last two and those done after the last trip. -/
theorem range_last {n : ℕ} (h : 17 ≤ n) : Finset.range n = insert (n - 2) (insert (n - 1) (sD n n)) := by
  ext i; simp only [sD, Finset.mem_insert, Finset.mem_filter, Finset.mem_range]; omega
/-- The last unit but one is not among the rest. -/
theorem not_last₂ {n : ℕ} (h : 17 ≤ n) : n - 2 ∉ insert (n - 1) (sD n n) := by
  simp only [sD, Finset.mem_insert, Finset.mem_filter, Finset.mem_range]; omega
/-- The last unit is not done after the last trip. -/
theorem not_last₁ {n : ℕ} (h : 17 ≤ n) : n - 1 ∉ sD n n := by simp only [sD, Finset.mem_filter, Finset.mem_range]; omega

/-- No units of the result are nothing. -/
theorem os_empty (f : S40x224x224.Idx → F .f32) : os d L f ∅ = (iprop(emp) : sProp 𝕄) := bigSep_empty

/-- A tile has 17 units or 18. -/
theorem cnt_cases : cnt L = 17 ∨ cnt L = 18 := by unfold cnt; split_ifs <;> simp

/-- The slots in the order in which the last trip leaves them are the slots. -/
theorem slots_in {n : ℕ} (h : n = 17 ∨ n = 18) :
    iprop(inFree d L (Ring.sl 3 n) ∗ inFree d L (Ring.sl 3 (n + 1)) ∗ inFree d L (Ring.sl 3 (n + 2)))
      ⊢ (iprop(inFree d L 0 ∗ inFree d L 1 ∗ inFree d L 2) : sProp 𝕄) := by
  rcases h with rfl | rfl
  · rw [show Ring.sl 3 17 = 2 from rfl, show Ring.sl 3 (17 + 1) = 0 from rfl, show Ring.sl 3 (17 + 2) = 1 from rfl]
    iintro ⟨H2, H0, H1⟩
    isplitl [H0]; · iexact H0
    isplitl [H1] <;> iassumption
  · exact BIBase.Entails.rfl
/-- The same for the two output slots. -/
theorem slots_out {n : ℕ} (h : n = 17 ∨ n = 18) :
    iprop(outFree d L (Ring.sl 2 n) ∗ outFree d L (Ring.sl 2 (n + 1))) ⊢ (iprop(outFree d L 0 ∗ outFree d L 1) : sProp 𝕄) := by
  rcases h with rfl | rfl
  · rw [show Ring.sl 2 17 = 1 from rfl, show Ring.sl 2 (17 + 1) = 0 from rfl]
    iintro ⟨H1, H0⟩
    isplitl [H0] <;> iassumption
  · exact BIBase.Entails.rfl

variable (O : CellTallies nD τ sig (HIx 1))

/-! ## The parts -/

/-- Part 43 only computes words. -/
theorem part43 {P : sProp 𝕄} : P ⊢ wp frame (wpE (defs₀ (F := F)) 𝒱₀ (VT d L) none) Set.univ (k0_part43 L xW (Memref.isWhole_whole _) oW (Memref.isWhole_whole _) iW (Memref.isWhole_whole _) uW (Memref.isWhole_whole _) cc0_scratch2 cc0_scratch3) fun _ => P := by
  rw [k0_part43_eq_skeleton]; unfold k0_part43_skel
  exact over d L BIBase.Entails.rfl

/-- Part 44 only computes words. -/
theorem part44 {P : sProp 𝕄} (v8 v25 c24 v26 : BitVec 32) (v37 : BitVec 1) : P ⊢ wp frame (wpE (defs₀ (F := F)) 𝒱₀ (VT d L) none) Set.univ (k0_part44 L xW (Memref.isWhole_whole _) oW (Memref.isWhole_whole _) iW (Memref.isWhole_whole _) uW (Memref.isWhole_whole _) cc0_scratch2 cc0_scratch3 v8 v25 c24 v26 v37) fun _ => P := by
  rw [k0_part44_eq_skeleton]; unfold k0_part44_skel
  exact over d L BIBase.Entails.rfl

/-- Part 45: the first unit is sent for. -/
theorem part45 (v6 : BitVec 32) {R : sProp 𝕄} :
    iprop((xQ d x (un L 0) ∗ inFree d L 0) ∗ R) ⊢ wp frame (wpE (defs₀ (F := F)) 𝒱₀ (VT d L) none) Set.univ (k0_part45 L xW (Memref.isWhole_whole _) oW (Memref.isWhole_whole _) iW (Memref.isWhole_whole _) uW (Memref.isWhole_whole _) cc0_scratch2 cc0_scratch3 v6) fun _ => iprop(FIn d L x 0 (un L 0) ∗ R) := by
  have hu := un_val L (show 0 < cnt L by have := cnt_ge L; omega)
  rw [k0_part45_eq_skeleton]; unfold k0_part45_skel
  refine issue_in d L (un L 0) 0 (name_x _ ((off1_eq0 L).trans (by rw [hu]; rfl))) (name_in 0 rfl) (name_inS 0 rfl) ?_
  exact over d L BIBase.Entails.rfl

/-- Part 46: the second unit is sent for. -/
theorem part46 (v7 v75 v111 v112 : BitVec 32) {R : sProp 𝕄} :
    iprop((xQ d x (un L 1) ∗ inFree d L 1) ∗ R) ⊢ wp frame (wpE (defs₀ (F := F)) 𝒱₀ (VT d L) none) Set.univ (k0_part46 L xW (Memref.isWhole_whole _) oW (Memref.isWhole_whole _) iW (Memref.isWhole_whole _) uW (Memref.isWhole_whole _) cc0_scratch2 cc0_scratch3 v7 v75 v111 v112) fun _ => iprop(FIn d L x 1 (un L 1) ∗ R) := by
  have hu := un_val L (show 1 < cnt L by have := cnt_ge L; omega)
  rw [k0_part46_eq_skeleton]; unfold k0_part46_skel
  refine issue_in d L (un L 1) 1 (name_x _ ((off1_eq1 L).trans (by rw [hu]))) (name_in 1 rfl) (name_inS 1 rfl) ?_
  exact over d L BIBase.Entails.rfl

/-- The main loop's shape: any invariant its step keeps is carried over all the tile's trips. -/
theorem loop1_rule {I : ℕ → sProp 𝕄} {c0 : BitVec 32} {body : Fin (k0_t1_loop L).trips → BitVec 32 → Prog (TpuEff nD τ sig (Elt F) Λ₀ (VT d L).2) (BitVec 32)}
    (hb : ∀ (k : Fin (k0_t1_loop L).trips) (acc : BitVec 32), I k.val ⊢ wp frame (wpE (defs₀ (F := F)) 𝒱₀ (VT d L) none) Set.univ (body k acc) fun _ => I (k.val + 1)) :
    I 0 ⊢ wp frame (wpE (defs₀ (F := F)) 𝒱₀ (VT d L) none) Set.univ (Scf.Loop.for (k0_t1_loop L) (k0_t1_ok L) c0 body) fun _ => I (cnt L) := by
  refine BIBase.Entails.trans ?_ (Scf.wp_for Idealize.ShloMosaic.frame (wpE (defs₀ (F := F)) 𝒱₀ (VT d L) none) Set.univ (k0_t1_loop L).lb (k0_t1_loop L).ub (k0_t1_loop L).st
    (k0_t1_ok L) c0 body (fun (k : ℕ) (_ : BitVec 32) => I k) hb)
  rw [show Scf.trips (k0_t1_loop L).lb (k0_t1_loop L).ub (k0_t1_loop L).st = cnt L from trips_eq L]
  iintro H
  isplitl [H]; · iexact H
  iintro %_ H
  iexact H

set_option maxHeartbeats 4000000 in
/-- The main loop. -/
theorem loop1 (f : S40x224x224.Idx → F .f32) (v6 v7 c0 c0' v146 c1 : BitVec 32) :
    inv d L x O f 0 ⊢ wp frame (wpE (defs₀ (F := F)) 𝒱₀ (VT d L) none) Set.univ (Scf.Loop.for (k0_t1_loop L) (k0_t1_ok L) c0' (k0_t1_body (F := F) L xW (Memref.isWhole_whole _) oW (Memref.isWhole_whole _) iW (Memref.isWhole_whole _) uW (Memref.isWhole_whole _) cc0_scratch2 cc0_scratch3 v6 v7 c0 c0' v146 c1)) fun _ => inv d L x O f (cnt L) := by
  have hb : ∀ (k : Fin (k0_t1_loop L).trips) (acc : BitVec 32), inv d L x O f k.val
      ⊢ wp frame (wpE (defs₀ (F := F)) 𝒱₀ (VT d L) none) Set.univ (k0_t1_body (F := F) L xW (Memref.isWhole_whole _) oW (Memref.isWhole_whole _) iW (Memref.isWhole_whole _) uW (Memref.isWhole_whole _) cc0_scratch2 cc0_scratch3 v6 v7 c0 c0' v146 c1 k acc) fun _ => inv d L x O f (k.val + 1) := by
    intro k acc
    have h := @trip1 F _ d L x O k f v6 v7 c0 c0' v146 c1 acc
    with_reducible exact h
  have hl := @loop1_rule F _ d L (inv d L x O f) c0' _ hb
  with_reducible exact hl

/-- The remainder loop makes no trip. -/
theorem loop3 {P : sProp 𝕄} (v6 v7 c0 c0' v146 c1 v147 : BitVec 32) :
    P ⊢ wp frame (wpE (defs₀ (F := F)) 𝒱₀ (VT d L) none) Set.univ (Scf.Loop.for (k0_t3_loop L) (k0_t3_ok L) v147 (k0_t3_body (F := F) L xW (Memref.isWhole_whole _) oW (Memref.isWhole_whole _) iW (Memref.isWhole_whole _) uW (Memref.isWhole_whole _) cc0_scratch2 cc0_scratch3 v6 v7 c0 c0' v146 c1)) fun _ => P := by
  refine BIBase.Entails.trans ?_ (Scf.wp_for Idealize.ShloMosaic.frame (wpE (defs₀ (F := F)) 𝒱₀ (VT d L) none) Set.univ (k0_t3_loop L).lb (k0_t3_loop L).ub (k0_t3_loop L).st
    (k0_t3_ok L) v147 _ (fun (_ : ℕ) (_ : BitVec 32) => P) (fun k _ => absurd (lt_of_lt_of_eq k.isLt (trips3_eq L)) (Nat.not_lt_zero _)))
  iintro H
  isplitl [H]; · iexact H
  iintro %_ H
  iexact H

/-- Part 47: the main loop and the remainder loop, which makes no trip. -/
theorem part47 (f : S40x224x224.Idx → F .f32) (v6 v7 c0 c0' v146 c1 : BitVec 32) :
    inv d L x O f 0 ⊢ wp frame (wpE (defs₀ (F := F)) 𝒱₀ (VT d L) none) Set.univ (k0_part47 L xW (Memref.isWhole_whole _) oW (Memref.isWhole_whole _) iW (Memref.isWhole_whole _) uW (Memref.isWhole_whole _) cc0_scratch2 cc0_scratch3 v6 v7 c0 c0' v146 c1) fun _ => inv d L x O f (cnt L) := by
  rw [k0_part47_eq_skeleton]; unfold k0_part47_skel
  iintro H
  rw [wp_bind]
  iapply (wp_wand_r Idealize.ShloMosaic.frame (wpE (defs₀ (F := F)) 𝒱₀ (VT d L) none) Set.univ)
  isplitl [H]; · iapply (loop1 d L x O f v6 v7 c0 c0' v146 c1) $$ H
  iintro %v147 H
  rw [wp_bind]
  iapply (wp_wand_r Idealize.ShloMosaic.frame (wpE (defs₀ (F := F)) 𝒱₀ (VT d L) none) Set.univ)
  isplitl [H]; · iapply (loop3 d L v6 v7 c0 c0' v146 c1 v147) $$ H
  iintro %_ H
  sl_step
  iexact H

/-- Part 48: the last unit but one is waited for. -/
theorem part48 (v6 v7 : BitVec 32) {R : sProp 𝕄} :
    iprop((FOut d L x (Ring.sl 2 (cnt L)) (un L (cnt L - 2)) ∗ Transfers.MayWaits (VT d L) (none : HIx 1) O ∗ waits d L O) ∗ R)
      ⊢ wp frame (wpE (defs₀ (F := F)) 𝒱₀ (VT d L) none) Set.univ (k0_part48 L xW (Memref.isWhole_whole _) oW (Memref.isWhole_whole _) iW (Memref.isWhole_whole _) uW (Memref.isWhole_whole _) cc0_scratch2 cc0_scratch3 v6 v7) fun _ => iprop((oQ d (un L (cnt L - 2)) (oVal x) ∗ outFree d L (Ring.sl 2 (cnt L)) ∗ waits d L O) ∗ R) := by
  have hn := cnt_ge L
  have hu := un_val L (show cnt L - 2 < cnt L by omega)
  rw [k0_part48_eq_skeleton]; unfold k0_part48_skel waits
  refine wait_out d L (un L (cnt L - 2)) (Ring.sl 2 (cnt L)) (name_o _ ((off279_eq2 L).trans (by rw [hu, Nat.add_sub_assoc (by omega)]))) (name_outS _ (off280_eq2 L)) ?_
  exact over d L BIBase.Entails.rfl

/-- The last wait. -/
theorem wait_last {src : Memref sig .scVector .vmem S16x224 .f32} {dst : Memref sig .scVector .hbm S16x224 .f32} {s : DmaSems sig S_}
    {h1 : src.view.WordExact} {h2 : dst.view.WordExact} (u : Fin 560) (j : Fin 2) (hd : dst = oU u) (hm : s = outS j) {R : sProp 𝕄} :
    iprop((FOut d L x j u ∗ Transfers.MayWaits (VT d L) (none : HIx 1) O ∗ waits d L O) ∗ R)
      ⊢ wp frame (wpE (defs₀ (F := F)) 𝒱₀ (VT d L) none) Set.univ (Prog.lift (.waitDma2 s.sem src dst h1 h2) >>= fun _ => (pure ⟨⟩ : Prog (TpuEff nD τ sig (Elt F) Λ₀ (VT d L).2) PUnit))
        fun _ => iprop((oQ d u (oVal x) ∗ outFree d L j ∗ waits d L O) ∗ R) := by
  unfold waits
  refine wait_out d L u j hd hm ?_
  exact over d L BIBase.Entails.rfl

/-! ## The whole -/

/-- What a tile has before the kernel, and has again after it, its units of the result apart. -/
def slots : sProp 𝕄 := iprop((inFree d L 0 ∗ inFree d L 1 ∗ inFree d L 2) ∗ outFree d L 0 ∗ outFree d L 1)

/-- A tile's run: from its units of the input and of the result to the same, the result's at the maxima. -/
theorem tile_run (f : S40x224x224.Idx → F .f32) :
    iprop(Transfers.MayWaits (VT d L) (none : HIx 1) O ∗ waits d L O ∗ slots d L
        ∗ xs d L x (Finset.range (cnt L)) ∗ os d L f (Finset.range (cnt L)))
      ⊢ wp frame (wpE (defs₀ (F := F)) 𝒱₀ (VT d L) none) Set.univ (cc0__sc_pool (F := F) L xW (Memref.isWhole_whole _) oW (Memref.isWhole_whole _) iW (Memref.isWhole_whole _) uW (Memref.isWhole_whole _) cc0_scratch2 cc0_scratch3)
          fun _ => iprop(waits d L O ∗ slots d L ∗ xs d L x (Finset.range (cnt L)) ∗ os d L (oVal x) (Finset.range (cnt L))) := by
  have hn := cnt_ge L
  have hu₁ := un_val L (show cnt L - 1 < cnt L by omega)
  have first : iprop(Transfers.MayWaits (VT d L) (none : HIx 1) O ∗ waits d L O
        ∗ (FIn d L x 0 (un L 0) ∗ FIn d L x 1 (un L 1) ∗ inFree d L 2) ∗ (outFree d L 0 ∗ outFree d L 1)
        ∗ xs d L x (sX (cnt L) 0) ∗ os d L f (Finset.range (cnt L))) ⊢ inv d L x O f 0 := by
    unfold inv
    rw [sN_first, sD_first, os_empty,
      show inSt d L x 0 = FIn d L x 0 (un L 0) from if_pos (by omega),
      show inSt d L x (0 + 1) = FIn d L x 1 (un L 1) from if_pos (by omega),
      show outSt d L x 0 = outFree d L 0 from if_neg (by omega),
      show outSt d L x (0 + 1) = outFree d L 1 from if_neg (by omega),
      show Ring.sl 3 (0 + 2) = 2 from rfl]
    iintro ⟨H1, H2, H3, H4, H5, H6⟩
    isplitl [H1]; · iexact H1
    isplitl [H2]; · iexact H2
    isplitl [H3]; · iexact H3
    isplitl [H4]; · iexact H4
    isplitl [H5]; · iexact H5
    isplitl [H6]; · iexact H6
    iempintro
  have last : inv d L x O f (cnt L) ⊢ iprop(Transfers.MayWaits (VT d L) (none : HIx 1) O ∗ waits d L O
        ∗ (inFree d L 0 ∗ inFree d L 1 ∗ inFree d L 2)
        ∗ (FOut d L x (Ring.sl 2 (cnt L)) (un L (cnt L - 2)) ∗ FOut d L x (Ring.sl 2 (cnt L + 1)) (un L (cnt L - 1)))
        ∗ xs d L x (Finset.range (cnt L)) ∗ os d L (oVal x) (sD (cnt L) (cnt L))) := by
    unfold inv
    rw [sX_last, sN_last, os_empty,
      show inSt d L x (cnt L) = inFree d L (Ring.sl 3 (cnt L)) from if_neg (by omega),
      show inSt d L x (cnt L + 1) = inFree d L (Ring.sl 3 (cnt L + 1)) from if_neg (by omega),
      show outSt d L x (cnt L) = FOut d L x (Ring.sl 2 (cnt L)) (un L (cnt L - 2)) from if_pos (by omega),
      show outSt d L x (cnt L + 1) = FOut d L x (Ring.sl 2 (cnt L + 1)) (un L (cnt L + 1 - 2)) from if_pos (by omega),
      show cnt L + 1 - 2 = cnt L - 1 by omega]
    iintro ⟨H1, H2, H3, H4, H5, -, H6⟩
    isplitl [H1]; · iexact H1
    isplitl [H2]; · iexact H2
    isplitl [H3]; · iapply (slots_in d L (cnt_cases L)) $$ H3
    isplitl [H4]; · iexact H4
    isplitl [H5] <;> iassumption
  have e₁ : xs d L x (Finset.range (cnt L)) = iprop(xQ d x (un L 0) ∗ xQ d x (un L 1) ∗ xs d L x (sX (cnt L) 0)) := by
    rw [range_first hn, xs_insert d L x not_first₀, xs_insert d L x not_first₁]
  have e₂ : os d L (oVal x) (Finset.range (cnt L))
      = iprop(oQ d (un L (cnt L - 2)) (oVal x) ∗ oQ d (un L (cnt L - 1)) (oVal x) ∗ os d L (oVal x) (sD (cnt L) (cnt L))) := by
    conv_lhs => rw [range_last hn, os_insert d L (oVal x) (not_last₂ hn), os_insert d L (oVal x) (not_last₁ hn)]
  rw [cc0__sc_pool_eq_skeleton]; unfold cc0__sc_pool_skel slots
  iintro ⟨#Hmw, HO, ⟨⟨Hi0, Hi1, Hi2⟩, Ho0, Ho1⟩, Hx, Hn⟩
  ihave Hx' := (Entails.of_eq e₁) $$ Hx
  icases Hx' with ⟨Hx0, Hx1, Hx⟩
  rw [wp_bind]
  iapply (wp_wand_r Idealize.ShloMosaic.frame (wpE (defs₀ (F := F)) 𝒱₀ (VT d L) none) Set.univ)
  isplitl [Hx0]; · iapply (part43 d L) $$ Hx0
  iintro %a Hx0
  obtain ⟨v6, v7, v8, v25, c24, v26, v37⟩ := a
  dsimp only
  rw [wp_bind]
  iapply (wp_wand_r Idealize.ShloMosaic.frame (wpE (defs₀ (F := F)) 𝒱₀ (VT d L) none) Set.univ)
  isplitl [Hx0]; · iapply (part44 d L v8 v25 c24 v26 v37) $$ Hx0
  iintro %_ Hx0
  rw [wp_bind]
  iapply (wp_wand_r Idealize.ShloMosaic.frame (wpE (defs₀ (F := F)) 𝒱₀ (VT d L) none) Set.univ)
  isplitl [Hx0 Hi0 Hx1]
  · iapply (part45 d L x v6 (R := xQ d x (un L 1)))
    isplitl [Hx0 Hi0]
    · isplitl [Hx0] <;> iassumption
    iexact Hx1
  iintro %a ⟨Hf0, Hx1⟩
  obtain ⟨v75, v111, v112⟩ := a
  dsimp only
  rw [wp_bind]
  iapply (wp_wand_r Idealize.ShloMosaic.frame (wpE (defs₀ (F := F)) 𝒱₀ (VT d L) none) Set.univ)
  isplitl [Hx1 Hi1 Hx]
  · iapply (part46 d L x v7 v75 v111 v112 (R := xs d L x (sX (cnt L) 0)))
    isplitl [Hx1 Hi1]
    · isplitl [Hx1] <;> iassumption
    iexact Hx
  iintro %a ⟨Hf1, Hx⟩
  obtain ⟨c0, c0', v146, c1⟩ := a
  dsimp only
  rw [wp_bind]
  iapply (wp_wand_r Idealize.ShloMosaic.frame (wpE (defs₀ (F := F)) 𝒱₀ (VT d L) none) Set.univ)
  isplitl [HO Hf0 Hf1 Hi2 Ho0 Ho1 Hx Hn]
  · iapply (part47 d L x O f v6 v7 c0 c0' v146 c1)
    iapply first
    isplitr; · iexact Hmw
    isplitl [HO]; · iexact HO
    isplitl [Hf0 Hf1 Hi2]
    · isplitl [Hf0]; · iexact Hf0
      isplitl [Hf1] <;> iassumption
    isplitl [Ho0 Ho1]
    · isplitl [Ho0] <;> iassumption
    isplitl [Hx] <;> iassumption
  iintro %_ H
  ihave H' := last $$ H
  icases H' with ⟨-, HO, Hi, ⟨Hg0, Hg1⟩, Hx, Hd⟩
  rw [wp_bind]
  iapply (wp_wand_r Idealize.ShloMosaic.frame (wpE (defs₀ (F := F)) 𝒱₀ (VT d L) none) Set.univ)
  isplitl [HO Hg0 Hg1]
  · iapply (part48 d L x O v6 v7 (R := FOut d L x (Ring.sl 2 (cnt L + 1)) (un L (cnt L - 1))))
    isplitl [HO Hg0]
    · isplitl [Hg0]; · iexact Hg0
      isplitr; · iexact Hmw
      iexact HO
    iexact Hg1
  iintro %_ ⟨⟨Hq2, Ho0, HO⟩, Hg1⟩
  iapply (wp_wand_r Idealize.ShloMosaic.frame (wpE (defs₀ (F := F)) 𝒱₀ (VT d L) none) Set.univ)
  isplitl [HO Hg1 Hd]
  · iapply (wait_last d L x O (un L (cnt L - 1)) (Ring.sl 2 (cnt L + 1)) (name_o _ ((off279_eq1 L).trans (by rw [hu₁, Nat.add_sub_assoc (by omega)]))) (name_outS _ (off280_eq1 L))
      (R := os d L (oVal x) (sD (cnt L) (cnt L))))
    isplitl [HO Hg1]
    · isplitl [Hg1]; · iexact Hg1
      isplitr; · iexact Hmw
      iexact HO
    iexact Hd
  iintro %_ ⟨⟨Hq1, Ho1, HO⟩, Hd⟩
  irw [e₂]
  isplitl [HO]; · iexact HO
  isplitl [Hi Ho0 Ho1]
  · isplitl [Hi]; · iexact Hi
    iapply (slots_out d L (cnt_cases L))
    isplitl [Ho0] <;> iassumption
  isplitl [Hx]; · iexact Hx
  isplitl [Hq2]; · iexact Hq2
  isplitl [Hq1] <;> iassumption

end Whole

end Cert.Proof
-- ==== Proof.Body.lean ====
/-
  The vector kernel's task as the launch deals it: a tile's own buffers cut into ring slots, its own cells named, and
  the obligation of the call.
-/
module

public import proofs.«01_k».proof.Proof.Whole

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "xW" => (Memref.whole Cert.KernelIdeal.main_arg0_scv : Memref Cert.KernelIdeal.sig Kind.scVector Space.hbm Cert.KernelIdeal.S4x192x224x224 EltTy.f32)
local notation "oW" => (Memref.whole Cert.KernelIdeal.main_v0_scv : Memref Cert.KernelIdeal.sig Kind.scVector Space.hbm Cert.KernelIdeal.S40x224x224 EltTy.f32)
local notation "iW" => (Memref.whole Cert.KernelIdeal.cc0_scratch0 : Memref Cert.KernelIdeal.sig Kind.scVector Space.vmem Cert.KernelIdeal.S3x8x16x224 EltTy.f32)
local notation "uW" => (Memref.whole Cert.KernelIdeal.cc0_scratch1 : Memref Cert.KernelIdeal.sig Kind.scVector Space.vmem Cert.KernelIdeal.S2x16x224 EltTy.f32)

section Task

variable (d : Dev nD) (L : grid0.Coords) (x : S4x192x224x224.Idx → F .f32)

/-! ## A tile's own buffers and cells -/

/-- Two input slots share no element. -/
theorem inSet_disj (j j' : Fin 3) (h : j ≠ j') : Disjoint (inSet j) (inSet j') :=
  Finset.disjoint_left.mpr fun i a b => h (Fin.ext (((mem_inSet j i).mp a).symm.trans ((mem_inSet j' i).mp b)))
/-- Two output slots share no element. -/
theorem outSet_disj (j j' : Fin 2) (h : j ≠ j') : Disjoint (outSet j) (outSet j') :=
  Finset.disjoint_left.mpr fun i a b => h (Fin.ext (((mem_outSet j i).mp a).symm.trans ((mem_outSet j' i).mp b)))
/-- The three input slots are the whole ring. -/
theorem inSet_cover : Finset.univ.biUnion inSet = Finset.univ :=
  Finset.eq_univ_of_forall fun i => Finset.mem_biUnion.mpr ⟨⟨(i 0).val, (i 0).isLt⟩, Finset.mem_univ _, (mem_inSet _ i).mpr rfl⟩
/-- The two output slots are the whole ring. -/
theorem outSet_cover : Finset.univ.biUnion outSet = Finset.univ :=
  Finset.eq_univ_of_forall fun i => Finset.mem_biUnion.mpr ⟨⟨(i 0).val, (i 0).isLt⟩, Finset.mem_univ _, (mem_outSet _ i).mpr rfl⟩

/-- The input ring's buffer is its three slots, -/
theorem in_split : iprop(∃ f, (VT d L).loc cc0_scratch0 ↦{fullShare} f) ⊢ (iprop((∃ f, inQ d L 0 f) ∗ (∃ f, inQ d L 1 f) ∗ ∃ f, inQ d L 2 f) : sProp 𝕄) :=
  Ring.slots3_split (Ix := HIx 1) (Val := Elt F) (Name := ℕ) (U := UU) (Lvl := ℕ) (q := fullShare) (ℓ := (VT d L).loc cc0_scratch0) inSet inSet_disj inSet_cover (inQ d L 0) (inQ d L 1) (inQ d L 2) (fun _ => rfl) (fun _ => rfl) (fun _ => rfl)
/-- The three input slots together are the ring's buffer. -/
theorem in_join : iprop((∃ f, inQ d L 0 f) ∗ (∃ f, inQ d L 1 f) ∗ ∃ f, inQ d L 2 f) ⊢ (iprop(∃ f, (VT d L).loc cc0_scratch0 ↦{fullShare} f) : sProp 𝕄) :=
  Ring.slots3_join (Ix := HIx 1) (Val := Elt F) (Name := ℕ) (U := UU) (Lvl := ℕ) (q := fullShare) (ℓ := (VT d L).loc cc0_scratch0) inSet inSet_disj inSet_cover (inQ d L 0) (inQ d L 1) (inQ d L 2) (fun _ => rfl) (fun _ => rfl) (fun _ => rfl)
/-- the output ring's its two. -/
theorem out_split : iprop(∃ f, (VT d L).loc cc0_scratch1 ↦{fullShare} f) ⊢ (iprop((∃ f, outQ d L 0 f) ∗ ∃ f, outQ d L 1 f) : sProp 𝕄) :=
  Ring.slots2_split (Ix := HIx 1) (Val := Elt F) (Name := ℕ) (U := UU) (Lvl := ℕ) (q := fullShare) (ℓ := (VT d L).loc cc0_scratch1) outSet outSet_disj outSet_cover (outQ d L 0) (outQ d L 1) (fun _ => rfl) (fun _ => rfl)
/-- The two output slots together are the ring's buffer. -/
theorem out_join : iprop((∃ f, outQ d L 0 f) ∗ ∃ f, outQ d L 1 f) ⊢ (iprop(∃ f, (VT d L).loc cc0_scratch1 ↦{fullShare} f) : sProp 𝕄) :=
  Ring.slots2_join (Ix := HIx 1) (Val := Elt F) (Name := ℕ) (U := UU) (Lvl := ℕ) (q := fullShare) (ℓ := (VT d L).loc cc0_scratch1) outSet outSet_disj outSet_cover (outQ d L 0) (outQ d L 1) (fun _ => rfl) (fun _ => rfl)

/-- The rings' five cells, in a row. -/
def ringCell (k : Fin 5) : GSem nD τ sig := (VT d L, .dma ⟨k.val, Nat.lt_trans k.isLt (by decide)⟩)
/-- The rings' cells are among the tile's own. -/
theorem ringCell_own : Finset.univ.image (ringCell d L) ⊆ ownCells (VT d L) :=
  Finset.image_subset_iff.mpr fun _ _ => mem_ownCells.mpr ⟨rfl, (show ∀ s : DmaSem sig, (SemLoc.dma s : SemLoc sig).isScoped .scVector = true by decide) _⟩
/-- The rings' five cells are different cells. -/
theorem ringCell_inj : Function.Injective (ringCell d L) := fun a b h => by
  have := congrArg (fun g : GSem nD τ sig => g.2) h
  simp only [ringCell, SemLoc.dma.injEq, Fin.mk.injEq] at this
  exact Fin.ext this

/-- The tile's cells beside the rings'; its buffers beside the rings'. -/
def otherCells : sProp 𝕄 := bigSep (ownCells (VT d L) \ Finset.univ.image (ringCell d L)) fun g => semVal g 0
def otherBufs : sProp 𝕄 :=
  bigSep (((ownRefs (τ := τ) (.scVector (cV L) (jV L))).erase ((Proc.scVector (cV L) (jV L)).devRef cc0_scratch0)).erase ((Proc.scVector (cV L) (jV L)).devRef cc0_scratch1))
    fun b => iprop(∃ f, ((d, b) : Loc nD τ sig) ↦{fullShare} f)

/-- The tile's cells at zero: the rings' five, and the rest. -/
theorem cells_eq : (ownSems0 (VT d L) : sProp 𝕄)
    = iprop((semVal (VT d L, SemLoc.dma (inS 0).sem) 0 ∗ semVal (VT d L, SemLoc.dma (inS 1).sem) 0 ∗ semVal (VT d L, SemLoc.dma (inS 2).sem) 0
        ∗ semVal (VT d L, SemLoc.dma (outS 0).sem) 0 ∗ semVal (VT d L, SemLoc.dma (outS 1).sem) 0) ∗ otherCells d L) := by
  unfold SparseCore.Cfg.ownSems0 otherCells
  rw [SparseCore.bigSep_sdiff_split' (ringCell_own d L), SparseCore.bigSep_image_of_injOn (ringCell_inj d L).injOn,
    show (Finset.univ : Finset (Fin 5)) = {0, 1, 2, 3, 4} by decide,
    SparseCore.bigSep_insert' (by decide), SparseCore.bigSep_insert' (by decide), SparseCore.bigSep_insert' (by decide),
    SparseCore.bigSep_insert' (by decide), bigSep_singleton]
  rfl

/-- The tile's buffers: the two rings', and the rest. -/
theorem bufs_eq : (ownBufs (VT d L) : sProp 𝕄)
    = iprop((∃ f, (VT d L).loc cc0_scratch0 ↦{fullShare} f) ∗ (∃ f, (VT d L).loc cc0_scratch1 ↦{fullShare} f) ∗ otherBufs d L) := by
  have hne : (Proc.scVector (cV L) (jV L)).devRef cc0_scratch1 ≠ (Proc.scVector (cV L) (jV L)).devRef (τ := τ) cc0_scratch0 := fun e =>
    absurd (Proc.devRef_injective _ e) (show (cc0_scratch1 : Ref sig .scVector) ≠ cc0_scratch0 by decide)
  have h1 : (Proc.scVector (cV L) (jV L)).devRef cc0_scratch1
      ∈ (ownRefs (τ := τ) (.scVector (cV L) (jV L))).erase ((Proc.scVector (cV L) (jV L)).devRef cc0_scratch0) :=
    Finset.mem_erase.mpr ⟨hne, SparseCore.Cfg.mem_ownRefs_of_owner rfl⟩
  unfold SparseCore.Cfg.ownBufs otherBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' h1]

/-! ## The task -/

/-- What a task is dealt, what it hands back: its units of the input and of the result, the result's at the maxima. -/
def goQ (f : S40x224x224.Idx → F .f32) : sProp 𝕄 := iprop(xs d L x (Finset.range (cnt L)) ∗ os d L f (Finset.range (cnt L)))

/-- A tile's whole task: given its units of the input and of the result, it hands them back with the maxima in the
    result's, and its buffers and cells as it found them. -/
theorem tile_body (hF : (K (F := F)).Facts) (f : S40x224x224.Idx → F .f32) (O : CellTallies nD τ sig (HIx 1)) (W : Waits sig (HIx 1)) (hO : ∀ g, O g none = 0) :
    iprop(levAts (K (F := F)).L (K (F := F)).lev ∗ emp ∗ goQ d L x f ∗ scopedBufs (VT d L) ∗ scopedSems0 (VT d L) ∗ owes (VT d L) O W)
      ⊢ wp frame (wpE (defs₀ (F := F)) 𝒱₀ (VT d L) none) Set.univ (cc0__sc_pool (F := F) L xW (Memref.isWhole_whole _) oW (Memref.isWhole_whole _) iW (Memref.isWhole_whole _) uW (Memref.isWhole_whole _) cc0_scratch2 cc0_scratch3)
          fun _ => iprop(goQ d L x (oVal x) ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V hF d (cV L) (jV L), SparseCore.Cfg.scopedSems0_V (Val := Elt F) d (cV L) (jV L), cells_eq, bufs_eq]
  unfold goQ
  iintro ⟨#Hlv, -, ⟨Hx, Ho⟩, ⟨HI, HU, Hbufs⟩, ⟨⟨Hc0, Hc1, Hc2, Hc3, Hc4⟩, Hsems⟩, HO⟩
  ihave Hmw := (show levAts (K (F := F)).L (K (F := F)).lev ⊢ Transfers.MayWaits (VT d L) (none : HIx 1) O from
    (K (F := F)).mayWaits_none (thr := VT d L) hO) $$ Hlv
  ihave HI' := (in_split d L) $$ HI
  icases HI' with ⟨Hi0, Hi1, Hi2⟩
  ihave HU' := (out_split d L) $$ HU
  icases HU' with ⟨Hu0, Hu1⟩
  iapply (wp_wand_r Idealize.ShloMosaic.frame (wpE (defs₀ (F := F)) 𝒱₀ (VT d L) none) Set.univ)
  isplitl [Hx Ho Hi0 Hi1 Hi2 Hu0 Hu1 Hc0 Hc1 Hc2 Hc3 Hc4 HO Hmw]
  · iapply (tile_run d L x O f)
    isplitl [Hmw]; · iexact Hmw
    isplitl [HO]; · unfold waits; iexists W; iexact HO
    isplitl [Hi0 Hi1 Hi2 Hu0 Hu1 Hc0 Hc1 Hc2 Hc3 Hc4]
    · unfold slots inFree outFree
      isplitl [Hi0 Hi1 Hi2 Hc0 Hc1 Hc2]
      · isplitl [Hi0 Hc0]
        · isplitl [Hi0] <;> iassumption
        isplitl [Hi1 Hc1]
        · isplitl [Hi1] <;> iassumption
        isplitl [Hi2] <;> iassumption
      isplitl [Hu0 Hc3]
      · isplitl [Hu0] <;> iassumption
      isplitl [Hu1] <;> iassumption
    isplitl [Hx] <;> iassumption
  unfold waits slots inFree outFree
  iintro %_ ⟨⟨%W', HO⟩, ⟨⟨⟨Hi0, Hc0⟩, ⟨Hi1, Hc1⟩, ⟨Hi2, Hc2⟩⟩, ⟨Hu0, Hc3⟩, ⟨Hu1, Hc4⟩⟩, Hx, Ho⟩
  isplitl [Hx Ho]; · isplitl [Hx] <;> iassumption
  isplitl [Hi0 Hi1 Hi2 Hu0 Hu1 Hbufs]
  · isplitl [Hi0 Hi1 Hi2]
    · iapply (in_join d L)
      isplitl [Hi0]; · iexact Hi0
      isplitl [Hi1] <;> iassumption
    isplitl [Hu0 Hu1]
    · iapply (out_join d L)
      isplitl [Hu0] <;> iassumption
    iexact Hbufs
  isplitl [Hc0 Hc1 Hc2 Hc3 Hc4 Hsems]
  · isplitl [Hc0 Hc1 Hc2 Hc3 Hc4]
    · isplitl [Hc0]; · iexact Hc0
      isplitl [Hc1]; · iexact Hc1
      isplitl [Hc2]; · iexact Hc2
      isplitl [Hc3] <;> iassumption
    iexact Hsems
  iexists W'; isplitr
  · ipureintro; intro p _
    rcases p.2 with _ | q
    · exact .inr (.inl rfl)
    · exact .inr (.inr (congrArg some (Subsingleton.elim q 0)))
  · iexact HO

end Task

/-! ## The launch's set-up -/

/-- The launch's cells and buffers are as the launch theorem wants them: different, and not scoped. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

/-- A task's place on the grid from its core's and its subcore's number. -/
def coordsV (c : Fin (grid0.bound 0)) (s : Fin (grid0.bound 1)) : grid0.Coords :=
  fun | 0 => c | 1 => s | ⟨_ + 2, h⟩ => absurd h (Nat.not_lt.2 (Nat.le_add_left _ _))

section Launch

variable (m : (ℓ : Loc nD τ sig) → Buf (Elt F) ℓ)

abbrev xM (d : Dev nD) : S4x192x224x224.Idx → F .f32 := m (xLoc d)
abbrev oM (d : Dev nD) : S40x224x224.Idx → F .f32 := m (oLoc d)

def goP (d : Dev nD) (c : Fin ((K (F := F)).nCore 0)) (i : Fin ((K (F := F)).nSub 0)) : sProp 𝕄 := goQ d (coordsV c i) (xM m d) (oM m d)
def tdP (d : Dev nD) (c : Fin ((K (F := F)).nCore 0)) (i : Fin ((K (F := F)).nSub 0)) : sProp 𝕄 := goQ d (coordsV c i) (xM m d) (oVal (xM m d))

/-- What the handshakes carry: to a core its tasks' units, to a task its own, and the same back. -/
def P : (K (F := F)).Pay (nD := nD) (Val := Elt F) (Name := ℕ) (U := UU) where
  st q d c := match q with | 0 => bigSep Finset.univ fun i => goP m d c i
  dn q d c := match q with | 0 => bigSep Finset.univ fun i => tdP m d c i
  go q d c i := match q with | 0 => goP m d c i
  td q d c i := match q with | 0 => tdP m d c i
  x q _ := match q with | 0 => iprop(emp)

instance goP_storable (d) (c) (i) : BI.Storable (upEmb : UEmb _ 𝕄) (goP m d c i) := by unfold goP goQ xs os xQ oQ; infer_instance
instance tdP_storable (d) (c) (i) : BI.Storable (upEmb : UEmb _ 𝕄) (tdP m d c i) := by unfold tdP goQ xs os xQ oQ; infer_instance

instance P_storable : (P m).IsStorable where
  st q d c := match q with | 0 => by show BI.Storable _ (bigSep Finset.univ fun i => goP m d c i); infer_instance
  dn q d c := match q with | 0 => by show BI.Storable _ (bigSep Finset.univ fun i => tdP m d c i); infer_instance
  go q d c i := match q with | 0 => goP_storable m d c i
  td q d c i := match q with | 0 => tdP_storable m d c i

/-- The body that a vector subcore runs is the kernel's, at its place on the grid. -/
theorem defs₀_vector (c : Fin τ.nSC) (s : Fin τ.nSub) :
    defs₀ (F := F) (.scVector c s) 0 ()
      = SparseCore.onTile hcore0 hsub0 (fun c s => cc0__sc_pool (coordsV c s) xW (Memref.isWhole_whole _) oW (Memref.isWhole_whole _)
          iW (Memref.isWhole_whole _) uW (Memref.isWhole_whole _) cc0_scratch2 cc0_scratch3) ⟨⟩ c s := rfl

/-- The call's obligation on a tile. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) (xM m d) hF (oM m d) O W hO

/-- A core's units are its tasks'. -/
theorem vecSplit : (K (F := F)).VecSplit' (P m) 0 := by
  intro d c
  show (bigSep Finset.univ fun i => goP m d c i) ⊢ |={Set.univ}=> iprop((bigSep Finset.univ fun i => goP m d c i)
      ∗ ((bigSep Finset.univ fun i => tdP m d c i) -∗ bigSep Finset.univ fun i => tdP m d c i))
  iintro H; imodintro
  isplitl [H]; · iexact H
  iintro H; iexact H

end Launch

end Cert.Proof
-- ==== Proof.Split.lean ====
/-
  How the call's operands are dealt: the units of the 32 tiles are pairwise disjoint pieces of the input and of the
  result, and cover the result.
-/
module

public import proofs.«01_k».proof.Proof.Body

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The units of a tile, of a core's tiles and of all of them, as pieces of a buffer cut by `A`. -/
def tileI {I : Type} [DecidableEq I] (A : Fin 560 → Finset I) (L : grid0.Coords) : Finset I := (Finset.range (cnt L)).biUnion fun k => A (un L k)
def coreI {I : Type} [DecidableEq I] (A : Fin 560 → Finset I) (c : Fin (grid0.bound 0)) : Finset I := Finset.univ.biUnion fun i => tileI A (coordsV c i)
def allI {I : Type} [DecidableEq I] (A : Fin 560 → Finset I) : Finset I := Finset.univ.biUnion fun c => coreI A c

/-- A tile's number from its core's and its subcore's. -/
theorem wid_coordsV (c : Fin (grid0.bound 0)) (i : Fin (grid0.bound 1)) : wid (coordsV c i) = 2 * i.val + c.val := rfl

/-- Two tiles that do the same unit are one tile. -/
theorem un_inj {L L' : grid0.Coords} {k k' : ℕ} (hk : k < cnt L) (hk' : k' < cnt L') (e : un L k = un L' k') : wid L = wid L' ∧ k = k' := by
  have h := congrArg Fin.val e
  rw [un_val L hk, un_val L' hk'] at h
  unfold bas at h; unfold cnt at hk hk'
  split at hk <;> split at hk' <;> omega

/-- Every unit is some tile's. -/
theorem un_cover (u : Fin 560) : ∃ (c : Fin (grid0.bound 0)) (i : Fin (grid0.bound 1)) (k : ℕ), k < cnt (coordsV c i) ∧ un (coordsV c i) k = u := by
  have key : ∃ w k : ℕ, w < 32 ∧ k < (if w < 16 then 1 else 0) + 17 ∧ 17 * w + min w 16 + k = u.val := by
    have := u.isLt
    by_cases h : u.val < 288
    · exact ⟨u.val / 18, u.val % 18, by omega, by rw [if_pos (by omega)]; omega, by omega⟩
    · exact ⟨16 + (u.val - 288) / 17, (u.val - 288) % 17, by omega, by rw [if_neg (by omega)]; omega, by omega⟩
  obtain ⟨w, k, hw, hk, e⟩ := key
  have hwd : wid (coordsV ⟨w % 2, Nat.mod_lt _ (by decide)⟩ ⟨w / 2, show w / 2 < 16 by omega⟩) = w := by
    rw [wid_coordsV]; show 2 * (w / 2) + w % 2 = w; omega
  refine ⟨⟨w % 2, Nat.mod_lt _ (by decide)⟩, ⟨w / 2, show w / 2 < 16 by omega⟩, k, by unfold cnt; rw [hwd]; exact hk, Fin.ext ?_⟩
  rw [un_val _ (by unfold cnt; rw [hwd]; exact hk)]
  unfold bas; rw [hwd]; exact e

section Deal

variable {ℓ : Loc nD τ sig} (A : Fin 560 → Finset (Idx ℓ)) (hA : ∀ u u', u ≠ u' → Disjoint (A u) (A u'))

include hA in
/-- Pieces of two tiles are disjoint; so are those of two cores. -/
theorem tileI_disj {L L' : grid0.Coords} (h : wid L ≠ wid L') : Disjoint (tileI A L) (tileI A L') := by
  unfold tileI
  refine (Finset.disjoint_biUnion_left _ _ _).mpr fun k hk => (Finset.disjoint_biUnion_right _ _ _).mpr fun k' hk' => hA _ _ fun e => h ?_
  exact (un_inj (Finset.mem_range.mp hk) (Finset.mem_range.mp hk') e).1
include hA in
/-- Pieces of two cores are disjoint. -/
theorem coreI_disj {c c' : Fin (grid0.bound 0)} (h : c ≠ c') : Disjoint (coreI A c) (coreI A c') := by
  unfold coreI
  refine (Finset.disjoint_biUnion_left _ _ _).mpr fun i _ => (Finset.disjoint_biUnion_right _ _ _).mpr fun i' _ => tileI_disj A hA fun e => h (Fin.ext ?_)
  rw [wid_coordsV, wid_coordsV] at e
  have h1 : c.val < 2 := c.isLt
  have h2 : c'.val < 2 := c'.isLt
  omega

include hA in
/-- A buffer held on all the tiles' units is held unit by unit, tile by tile, core by core. -/
theorem deal (f : Buf (Elt F) ℓ) :
    (ℓ ↦[allI A]{fullShare} f : sProp 𝕄)
      = bigSep Finset.univ fun c : Fin (grid0.bound 0) => bigSep Finset.univ fun i : Fin (grid0.bound 1) =>
          bigSep (Finset.range (cnt (coordsV c i))) fun k => ℓ ↦[A (un (coordsV c i) k)]{fullShare} f := by
  unfold allI
  rw [pointsTo_biUnion _ _ fun c _ c' _ h => coreI_disj A hA h]
  congr 1; funext c
  unfold coreI
  rw [pointsTo_biUnion _ _ fun i _ i' _ h => tileI_disj A hA fun e => h (Fin.ext (by rw [wid_coordsV, wid_coordsV] at e; omega))]
  congr 1; funext i
  unfold tileI
  exact pointsTo_biUnion _ _ fun k hk k' hk' h => hA _ _ fun e => h (un_inj (Finset.mem_range.mp hk) (Finset.mem_range.mp hk') e).2

end Deal

/-- Two units read different elements of the input. -/
theorem xSet_disj (u u' : Fin 560) (h : u ≠ u') : Disjoint (xSet u) (xSet u') :=
  Finset.disjoint_left.mpr fun i a b => h (Fin.ext (by
    have h1 := (mem_xSet u i).mp a; have h2 := (mem_xSet u' i).mp b; have := u.isLt; have := u'.isLt; omega))
/-- Two units write different elements of the result. -/
theorem oSet_disj (u u' : Fin 560) (h : u ≠ u') : Disjoint (oSet u) (oSet u') :=
  Finset.disjoint_left.mpr fun i a b => h (Fin.ext (by
    have h1 := (mem_oSet u i).mp a; have h2 := (mem_oSet u' i).mp b; have := u.isLt; have := u'.isLt; omega))

/-- The units cover the result. -/
theorem oSet_all : allI oSet = Finset.univ := by
  refine Finset.eq_univ_of_forall fun i => ?_
  have h0 : (i 0).val < 40 := (i 0).isLt
  have h1 : (i 1).val < 224 := (i 1).isLt
  obtain ⟨c, j, k, hk, e⟩ := un_cover ⟨(i 0).val * 14 + (i 1).val / 16, by omega⟩
  refine Finset.mem_biUnion.mpr ⟨c, Finset.mem_univ _, Finset.mem_biUnion.mpr ⟨j, Finset.mem_univ _, Finset.mem_biUnion.mpr ⟨k, Finset.mem_range.mpr hk, ?_⟩⟩⟩
  rw [e, mem_oSet]
  constructor
  · show (i 0).val = ((i 0).val * 14 + (i 1).val / 16) / 14; omega
  · show (i 1).val / 16 = ((i 0).val * 14 + (i 1).val / 16) % 14; omega

/-- What the call takes of the input and the result is what its handshakes carry, -/
theorem deal_go (d : Dev nD) (x : S4x192x224x224.Idx → F .f32) (f : S40x224x224.Idx → F .f32) :
    (iprop((xLoc d ↦[allI xSet]{fullShare} x) ∗ oLoc d ↦{fullShare} f) : sProp 𝕄)
      = bigSep Finset.univ fun c : Fin (grid0.bound 0) => bigSep Finset.univ fun i : Fin (grid0.bound 1) => goQ d (coordsV c i) x f := by
  have ho : (oLoc d ↦{fullShare} f : sProp 𝕄) = oLoc d ↦[allI (I := Idx (oLoc d)) oSet]{fullShare} f := by rw [oSet_all]
  rw [ho, deal (ℓ := oLoc d) oSet oSet_disj f, deal (ℓ := xLoc d) xSet xSet_disj x]
  unfold goQ
  simp only [bigSep_sep']
  rfl

/-- and the whole input is that and the rest of it. -/
theorem x_split (d : Dev nD) (x : S4x192x224x224.Idx → F .f32) :
    (xLoc d ↦{fullShare} x : sProp 𝕄) = iprop((xLoc d ↦[allI xSet]{fullShare} x) ∗ xLoc d ↦[Finset.univ \ allI xSet]{fullShare} x) :=
  BI.equiv_iff.mp ⟨(pointsTo_split_subset (Finset.subset_univ _)).1, (pointsTo_split_subset (Finset.subset_univ _)).2⟩

end Cert.Proof

end
-- ==== Proof.HostOps.lean ====
/-
  The host's operations after the two calls: the update that joins the two results, and the reshape.
-/
module

public import proofs.«01_k».proof.Proof.Reg
public import proofs.«01_k».proof.Proof.Split

@[expose] public section

noncomputable section

namespace Cert.Proof

open Cert.KernelIdeal Cert.KernelIdeal.Gen

open Idealize.ShloMosaic
open Idealize.ShloMosaic.TcCoe Idealize.ShloMosaic.Tactic
open Idealize.ShloMosaic.StableHlo
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## The operations on the host after the two calls -/

abbrev opC : HloOp τ sig (Elt F) := StableHlo.nullary main_c (constantI S_ 32 0#32)
abbrev opC0 : HloOp τ sig (Elt F) := StableHlo.nullary main_c_0 (constantI S_ 32 0#32)
abbrev opC1 : HloOp τ sig (Elt F) := StableHlo.nullary main_c_1 (constantI S_ 32 0#32)
abbrev opU : HloOp τ sig (Elt F) :=
  StableHlo.binaryIndexed main_v1 main_v0 ![main_c, main_c_0, main_c_1] ⟨S_, .i32⟩ main_v2
    ((fun x u i => Host.dynamicUpdateSlice x u (fun k => (i k (Shape.Idx.first h_S_)).toInt) updateFits_S96x224x224_S40x224x224) :
      (⟨S96x224x224, .f32⟩ : BufTy).Contents (Elt F) → (⟨S40x224x224, .f32⟩ : BufTy).Contents (Elt F)
        → (Fin 3 → (⟨S_, .i32⟩ : BufTy).Contents (Elt F)) → (⟨S96x224x224, .f32⟩ : BufTy).Contents (Elt F))
abbrev opR : HloOp τ sig (Elt F) := StableHlo.reshape main_v2 main_v3 (rfl : (.f32 : EltTy) = .f32) shapeCasts_S96x224x224_S4x24x224x224

abbrev v0' : DevRef τ sig := Proc.devRef .tc main_v0
abbrev v1' : DevRef τ sig := Proc.devRef .tc main_v1
abbrev v2' : DevRef τ sig := Proc.devRef .tc main_v2
abbrev v3' : DevRef τ sig := Proc.devRef .tc main_v3
abbrev c' : DevRef τ sig := Proc.devRef .tc main_c
abbrev c0' : DevRef τ sig := Proc.devRef .tc main_c_0
abbrev c1' : DevRef τ sig := Proc.devRef .tc main_c_1

/-- The arrays those operations touch. -/
abbrev S7 : Finset (DevRef τ sig) := {v0', v1', v2', v3', c', c0', c1'}

omit [FloatOps F] in
/-- Those arrays held at a valuation, one by one. -/
theorem held_S7 (d : Dev nD) (W : Valuation τ sig (Elt F)) :
    (held (SparseCore.T d) S7 W : sProp 𝕄)
      = iprop((oLoc d ↦{fullShare} W v0') ∗ ((SparseCore.T d).loc main_v1 ↦{fullShare} W v1') ∗ ((SparseCore.T d).loc main_v2 ↦{fullShare} W v2')
          ∗ ((SparseCore.T d).loc main_v3 ↦{fullShare} W v3') ∗ ((SparseCore.T d).loc main_c ↦{fullShare} W c') ∗ ((SparseCore.T d).loc main_c_0 ↦{fullShare} W c0')
          ∗ (SparseCore.T d).loc main_c_1 ↦{fullShare} W c1') := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The tensor core's result with the SparseCore's written over its first 40 planes, as the program returns it. -/
def outM (t : S96x224x224.Idx → F .f32) (o : S40x224x224.Idx → F .f32) : S4x24x224x224.Idx → F .f32 :=
  shapeCast S4x24x224x224 (Host.dynamicUpdateSlice t o (fun _ => (0#32 : BitVec 32).toInt) updateFits_S96x224x224_S40x224x224 : S96x224x224.Idx → F .f32)
    shapeCasts_S96x224x224_S4x24x224x224

/-- The five operations' effect on a valuation. -/
def VF (V : Valuation τ sig (Elt F)) : Valuation τ sig (Elt F) :=
  (opR (F := F)).result ((opU (F := F)).result ((opC1 (F := F)).result ((opC0 (F := F)).result ((opC (F := F)).result V))))

/-- The start indices, read from three arrays of zero. -/
theorem starts_zero (W : Valuation τ sig (Elt F)) (h : W c' = constantI S_ 32 0#32) (h0 : W c0' = constantI S_ 32 0#32) (h1 : W c1' = constantI S_ 32 0#32)
    (hT : ∀ k : Fin 3, ((![main_c, main_c_0, main_c_1] : Fin 3 → Ref sig .tc) k).ty = (⟨S_, .i32⟩ : BufTy)) :
    (fun k : Fin 3 => ((cast (congrArg (fun U : BufTy => U.Contents (Elt F)) (hT k))
        (W (Proc.devRef .tc ((![main_c, main_c_0, main_c_1] : Fin 3 → Ref sig .tc) k))) : (⟨S_, .i32⟩ : BufTy).Contents (Elt F)) (Shape.Idx.first h_S_) : BitVec 32).toInt)
      = fun _ => (0#32 : BitVec 32).toInt := by
  funext k
  fin_cases k
  · show BitVec.toInt (n := 32) (W c' _) = _; rw [h]; rfl
  · show BitVec.toInt (n := 32) (W c0' _) = _; rw [h0]; rfl
  · show BitVec.toInt (n := 32) (W c1' _) = _; rw [h1]; rfl

/-- What they leave in the program's result. -/
theorem VF_v3 (V : Valuation τ sig (Elt F)) : VF V v3' = outM (V v1') (V v0') := by
  unfold VF
  rw [reshape_result, binaryIndexed_result,
    nullary_result_ne _ _ _ _ (show main_v1 ≠ main_c_1 by decide), nullary_result_ne _ _ _ _ (show main_v1 ≠ main_c_0 by decide), nullary_result_ne _ _ _ _ (show main_v1 ≠ main_c by decide),
    nullary_result_ne _ _ _ _ (show main_v0 ≠ main_c_1 by decide), nullary_result_ne _ _ _ _ (show main_v0 ≠ main_c_0 by decide), nullary_result_ne _ _ _ _ (show main_v0 ≠ main_c by decide)]
  rw [starts_zero _ (hT := by decide) (by rw [nullary_result_ne _ _ _ _ (show main_c ≠ main_c_1 by decide), nullary_result_ne _ _ _ _ (show main_c ≠ main_c_0 by decide), nullary_result])
    (by rw [nullary_result_ne _ _ _ _ (show main_c_0 ≠ main_c_1 by decide), nullary_result]) (by rw [nullary_result])]
  rfl

/-- The update's arrays are among them. -/
theorem bufsU : (opU (F := F)).bufs ⊆ S7 := by
  show (insert v1' (insert v0' (insert v2' (Finset.univ.image fun k => Proc.devRef .tc ((![main_c, main_c_0, main_c_1] : Fin 3 → Ref sig .tc) k)))) : Finset (DevRef τ sig)) ⊆ S7
  decide

/-- The five operations, from the arrays held at `V` to the arrays held at their results. -/
theorem host_ops (d : Dev nD) (V : Valuation τ sig (Elt F)) (Q : PUnit → sProp 𝕄) :
    iprop(boundary (SparseCore.T d) ∗ held (SparseCore.T d) S7 V ∗ ((boundary (SparseCore.T d) ∗ held (SparseCore.T d) S7 (VF V)) -∗ Q ⟨⟩))
      ⊢ wp frame (wpE ((K (F := F)).defs (D (F := F))) 𝒱 (SparseCore.T d) none) Set.univ
          (do
            hlo rfl (opC (F := F)) (fun _ => .ret ⟨⟩)
            hlo rfl (opC0 (F := F)) (fun _ => .ret ⟨⟩)
            hlo rfl (opC1 (F := F)) (fun _ => .ret ⟨⟩)
            hlo rfl (opU (F := F)) (fun _ => .ret ⟨⟩)
            hlo rfl (opR (F := F)) (fun _ => .ret ⟨⟩)
            pure ⟨⟩) Q := by
  simp only [wp_bind, wp_pure]
  unfold VF
  iintro ⟨Hb, Hh, Hk⟩
  iapply (wp_hlo_within 𝒱 (SparseCore.T d) none Set.univ (op := opC) (S := S7) (show ({c'} : Finset (DevRef τ sig)) ⊆ S7 by decide) (V := V)) $$ [Hb Hh]
  · isplitl [Hb] <;> iassumption
  iintro ⟨Hb, Hh⟩
  rw [wp_ret]; imodintro
  iapply (wp_hlo_within 𝒱 (SparseCore.T d) none Set.univ (op := opC0) (S := S7) (show ({c0'} : Finset (DevRef τ sig)) ⊆ S7 by decide) (V := _)) $$ [Hb Hh]
  · isplitl [Hb] <;> iassumption
  iintro ⟨Hb, Hh⟩
  rw [wp_ret]; imodintro
  iapply (wp_hlo_within 𝒱 (SparseCore.T d) none Set.univ (op := opC1) (S := S7) (show ({c1'} : Finset (DevRef τ sig)) ⊆ S7 by decide) (V := _)) $$ [Hb Hh]
  · isplitl [Hb] <;> iassumption
  iintro ⟨Hb, Hh⟩
  rw [wp_ret]; imodintro
  iapply (wp_hlo_within 𝒱 (SparseCore.T d) none Set.univ (op := opU) (S := S7) (bufsU (F := F)) (V := _)) $$ [Hb Hh]
  · isplitl [Hb] <;> iassumption
  iintro ⟨Hb, Hh⟩
  rw [wp_ret]; imodintro
  iapply (wp_hlo_within 𝒱 (SparseCore.T d) none Set.univ (op := opR) (S := S7) (show ({v2', v3'} : Finset (DevRef τ sig)) ⊆ S7 by decide) (V := _)) $$ [Hb Hh]
  · isplitl [Hb] <;> iassumption
  iintro ⟨Hb, Hh⟩
  rw [wp_ret]; imodintro; imodintro
  iapply Hk
  isplitl [Hb] <;> iassumption

end Cert.Proof

end
-- ==== Proof.Main.lean ====
/-
  The whole program's run: the launch, the two calls, the host's operations, and what the final state holds.
-/
module

public import proofs.«01_k».proof.Proof.HostOps
public import Idealize.ShloMosaic.Lib.SparseCore.Quiescent

@[expose] public section

noncomputable section

namespace Cert.Proof

open Cert.KernelIdeal Cert.KernelIdeal.Gen

open Idealize.ShloMosaic
open Idealize.ShloMosaic.TcCoe Idealize.ShloMosaic.Tactic
open Idealize.ShloMosaic.StableHlo
open Idealize.ShloMosaic.SparseCore (S V T)
open Idealize.ShloMosaic.SparseCore.Cfg (HIx)
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F]

local notation "𝕄" => MT nD τ sig (HIx 1) (Elt F) ℕ UU ℕ

variable (m : (ℓ : Loc nD τ sig) → Buf (Elt F) ℓ)

/-! ## The launch element of the ghost state -/

/-- The handshakes' cells and tokens and the pipeline's. -/
def u₀ : UU :=
  ((initOf (K (F := F)).hsCells (K (F := F)).hsToks,
    initOf (Pipeline.cells (Pipeline.pin (pcfgs (F := F)) adm) (cellOf_inj adm)) (Pipeline.launchToks (Pipeline.pin (pcfgs (F := F)) adm) (cellOf_inj adm))), 1)

/-- A core's share of the pipeline's ghost state. -/
def G (d : Dev nD) : sProp 𝕄 :=
  iprop(Pipeline.cellsGhost (Pipeline.pin (pcfgs (F := F)) adm) EP 0 d ∗ Pipeline.toksInit (Pipeline.pin (pcfgs (F := F)) adm) EP 0 d)

/-- It splits into the handshakes' part and the pipeline's. -/
theorem own_u₀ (a : UH) (b : UP) : (ownU (((a, b), 1) : UU) : sProp 𝕄) ⊢ iprop(BI.own (EH a) ∗ BI.own (EP b)) := by
  iintro Hu
  ihave H := (ownU_pair (a, b) (1 : Counters)) $$ Hu
  icases H with ⟨H, -⟩
  iapply (show (BI.own (embL (a, b)) : sProp 𝕄) ⊢ iprop(BI.own (EH a) ∗ BI.own (EP b)) from own_pair_emb embL a b)
  iexact H

/-- The launch element gives the handshakes' part and every core's share of the pipeline's. -/
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (own_u₀ _ _) $$ Hu
  icases H with ⟨HH, HP⟩
  ihave HG := (Pipeline.fund_ghost (Pipeline.pin (pcfgs (F := F)) adm) EP (cellOf_inj adm)) $$ HP
  imod HG with ⟨Hc, Ht⟩
  imodintro
  isplitl [HH]; · iexact HH
  isplitl [Hc Ht]
  · unfold G
    rw [bigSep_sep']
    isplitl [Hc]
    · rw [show (bigSep Finset.univ fun d : Dev nD => (Pipeline.cellsGhost (Pipeline.pin (pcfgs (F := F)) adm) EP 0 d : sProp 𝕄)) = _ from
        bigSep_congr fun d _ => (bigSep_univ_of_subsingleton (Φ := fun p : Fin 1 => (Pipeline.cellsGhost (Pipeline.pin (pcfgs (F := F)) adm) EP p d : sProp 𝕄)) (0 : Fin 1)).symm]
      iexact Hc
    · rw [show (bigSep Finset.univ fun d : Dev nD => (Pipeline.toksInit (Pipeline.pin (pcfgs (F := F)) adm) EP 0 d : sProp 𝕄)) = _ from
        bigSep_congr fun d _ => (bigSep_univ_of_subsingleton (Φ := fun p : Fin 1 => (Pipeline.toksInit (Pipeline.pin (pcfgs (F := F)) adm) EP p d : sProp 𝕄)) (0 : Fin 1)).symm]
      iexact Ht
  rw [show (bigSep Finset.univ fun thr : Thread nD τ => bigSep Finset.univ fun q : Fin 1 => (P (F := F) m).x q thr) = iprop(emp) from
    (bigSep_congr fun _ _ => bigSep_univ_of_subsingleton (0 : Fin 1)).trans (bigSep_emp_const _)]
  iempintro

/-! ## The two calls -/

/-- What the SparseCore call is given, dealt to the cores: the input's planes it reads and its result. -/
theorem st0_eq (d : Dev nD) : (bigSep Finset.univ fun c : Fin ((K (F := F)).nCore 0) => (P m).st 0 d c)
    = iprop((xLoc d ↦[allI xSet]{fullShare} xM m d) ∗ oLoc d ↦{fullShare} oM m d) := (deal_go d (xM m d) (oM m d)).symm
/-- What it gives back. -/
theorem dn0_eq (d : Dev nD) : (bigSep Finset.univ fun c : Fin ((K (F := F)).nCore 0) => (P m).dn 0 d c)
    = iprop((xLoc d ↦[allI xSet]{fullShare} xM m d) ∗ oLoc d ↦{fullShare} oVal (xM m d)) := (deal_go d (xM m d) (oVal (xM m d))).symm

abbrev gM (d : Dev nD) : S96x224x224.Idx → F .f32 := m ((SparseCore.T d).loc main_v1)

/-- The SparseCore call, on the core that makes it. -/
theorem sc_call (κ : GSem nD τ sig → ℕ) (d : Dev nD) (Q : PUnit → sProp 𝕄) :
    iprop((K (F := F)).ctx EH (P m) κ ∗ (K (F := F)).tcSt EH d 0 ∗ ((xLoc d ↦{fullShare} xM m d) ∗ oLoc d ↦{fullShare} oM m d)
        ∗ (((K (F := F)).tcSt EH d 1 ∗ (xLoc d ↦{fullShare} xM m d) ∗ oLoc d ↦{fullShare} oVal (xM m d)) -∗ Q ⟨⟩))
      ⊢ wp frame (wpE ((K (F := F)).defs (D (F := F))) 𝒱 (SparseCore.T d) none) Set.univ ((K (F := F)).run d 0) Q := by
  rw [x_split d (xM m d)]
  iintro ⟨Hctx, Hst, ⟨⟨Hx, Hr⟩, Ho⟩, Hk⟩
  iapply ((K (F := F)).wp_run (D (F := F)) 𝒱 (EH := EH) (P := P m) κ d 0) $$ [Hctx Hst Hx Hr Ho Hk]
  isplitl [Hctx]; · iexact Hctx
  isplitl [Hst]; · iexact Hst
  isplitl [Hx Ho]
  · rw [st0_eq]
    isplitl [Hx]; · iexact Hx
    iexact Ho
  iintro ⟨Hst, Hdn⟩
  ihave Hdn' := (Entails.of_eq (dn0_eq m d)) $$ Hdn
  icases Hdn' with ⟨Hx, Ho⟩
  iapply Hk
  isplitl [Hst]; · iexact Hst
  isplitl [Hx Hr]
  · isplitl [Hx]; · iexact Hx
    iexact Hr
  iexact Ho

/-- The pipelined call as the SparseCore's program makes it is the pipeline's own, lifted. -/
theorem lift_entry :
    (Prog.lift (.customCall (SparseCore.inner (Pipeline.entry 0)) ()) :
      Prog (TpuEff nD τ sig (Elt F) (SparseCore.Sig (ΛP (F := F)) 1) .tc) PUnit)
      = SparseCore.liftProg (.op (.customCall (Pipeline.entry 0) ()) .ret) := by
  rw [SparseCore.liftProg_op]; rfl

/-- The pipelined call, on the core that runs it. -/
theorem tc_call [∀ e, Nonempty (Elt F e)] (d : Dev nD) (x : Dev nD → S4x192x224x224.Idx → F .f32) (g : Dev nD → S96x224x224.Idx → F .f32) (b : ℕ) (Q : PUnit → sProp 𝕄) :
    iprop((iprop(boundary (SparseCore.T d) ∗ regSt x b (fun c => tcOut (x c) (g c)) d) -∗ Q ⟨⟩)
        ∗ boundary (SparseCore.T d) ∗ regSt x b g d ∗ levAts (K (F := F)).L (K (F := F)).lev ∗ G (F := F) d)
      ⊢ wp frame (wpE ((K (F := F)).defs (D (F := F))) 𝒱 (SparseCore.T d) none) Set.univ (Prog.lift (.customCall (SparseCore.inner (Pipeline.entry 0)) ())) Q := by
  rw [lift_entry]
  refine BI.Entails.trans ?_ ((K (F := F)).wp_liftProg (D (F := F)) 𝒱 (SparseCore.T d) Set.univ none _ Q)
  have h := Pipeline.RegionSeg.wp (pcfgs (F := F)) (adm (F := F)) (pdats (F := F) x g b) (none : HIx 1) (cellOf_inj (F := F) adm) EP (defs₀ (F := F)) 𝒱₀ (K (F := F)).L (K (F := F)).lev
    (reg (F := F) x g b) d none (fun _ h => nomatch h) .ret Q
  rw [show (reg (F := F) x g b).pre = regSt x b g from rfl, show (reg (F := F) x g b).post = regSt x b (fun c => tcOut (x c) (g c)) from rfl] at h
  refine BIBase.Entails.trans ?_ h
  unfold G
  iintro ⟨Hk, Hb, Hp, Hl, Hg⟩
  isplitl [Hk]
  · iintro ⟨Hb, Hp⟩
    rw [wp_ret]; imodintro
    iapply Hk
    isplitl [Hb]; · iexact Hb
    iexact Hp
  isplitl [Hb]; · iexact Hb
  isplitl [Hp]; · iexact Hp
  isplitl [Hl]; · iexact Hl
  iexact Hg

/-! ## The whole program on the core that starts it -/

omit [FloatOps F] in
/-- A core's arrays, one by one. -/
theorem unscopedBufs_eq (d : Dev nD) (W : (b : Ref sig .tc) → Buf (Elt F) ((d.tc : Thread nD τ).loc b)) :
    (unscopedBufs d W : sProp 𝕄) = iprop((xLoc d ↦{fullShare} W main_arg0) ∗ ((SparseCore.T d).loc main_arg1 ↦{fullShare} W main_arg1)
      ∗ (oLoc d ↦{fullShare} W main_v0) ∗ ((SparseCore.T d).loc main_v1 ↦{fullShare} W main_v1) ∗ ((SparseCore.T d).loc main_v2 ↦{fullShare} W main_v2)
      ∗ ((SparseCore.T d).loc main_v3 ↦{fullShare} W main_v3) ∗ ((SparseCore.T d).loc main_c ↦{fullShare} W main_c)
      ∗ ((SparseCore.T d).loc main_c_0 ↦{fullShare} W main_c_0) ∗ (SparseCore.T d).loc main_c_1 ↦{fullShare} W main_c_1) := by
  unfold unscopedBufs
  rw [show (Finset.univ.filter fun b : Ref sig .tc => ¬ b.isScoped) = {main_arg0, main_arg1, main_v0, main_v1, main_v2, main_v3, main_c, main_c_0, main_c_1} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

/-- The table is the one the kernel is launched with. -/
def PreOK : Prop := ∀ d : Dev nD, m ((SparseCore.T d).loc main_arg1) = tabW

/-- The program's result on a core. -/
def resM (d : Dev nD) : S4x24x224x224.Idx → F .f32 := outM (tcOut (xM m d) (gM m d)) (oVal (xM m d))

/-- The core's arrays as the program leaves them: the input and the table as they were, the result. -/
abbrev FIN (d : Dev nD) : sProp 𝕄 :=
  iprop((xLoc d ↦{fullShare} xM m d) ∗ ((SparseCore.T d).loc main_arg1 ↦{fullShare} tabW) ∗ (SparseCore.T d).loc main_v3 ↦{fullShare} resM m d)

/-- A core's arrays after the two calls. -/
def VR (d : Dev nD) : Valuation τ sig (Elt F) :=
  Function.update (Function.update (fun b => m (d, b)) v0' (oVal (xM m d))) v1' (tcOut (xM m d) (gM m d))

/-- After the two calls the SparseCore's result holds its maxima. -/
theorem VR_v0 (d : Dev nD) : VR m d v0' = oVal (xM m d) := (Function.update_of_ne (show v0' ≠ v1' by decide) _ _).trans (Function.update_self _ _ _)
/-- After the two calls the TensorCore's result holds its own. -/
theorem VR_v1 (d : Dev nD) : VR m d v1' = tcOut (xM m d) (gM m d) := Function.update_self _ _ _
/-- Any other array is as it was at the start. -/
theorem VR_ne (d : Dev nD) {b : DevRef τ sig} (h0 : b ≠ v0') (h1 : b ≠ v1') : VR m d b = m (d, b) :=
  (Function.update_of_ne h1 _ _).trans (Function.update_of_ne h0 _ _)

/-- The arrays that the host's operations touch, as the two calls leave them, one by one. -/
theorem held_VR (d : Dev nD) :
    (held (SparseCore.T d) S7 (VR m d) : sProp 𝕄)
      = iprop((oLoc d ↦{fullShare} oVal (xM m d)) ∗ ((SparseCore.T d).loc main_v1 ↦{fullShare} tcOut (xM m d) (gM m d))
        ∗ ((SparseCore.T d).loc main_v2 ↦{fullShare} m ((SparseCore.T d).loc main_v2)) ∗ ((SparseCore.T d).loc main_v3 ↦{fullShare} m ((SparseCore.T d).loc main_v3))
        ∗ ((SparseCore.T d).loc main_c ↦{fullShare} m ((SparseCore.T d).loc main_c)) ∗ ((SparseCore.T d).loc main_c_0 ↦{fullShare} m ((SparseCore.T d).loc main_c_0))
        ∗ (SparseCore.T d).loc main_c_1 ↦{fullShare} m ((SparseCore.T d).loc main_c_1)) := by
  rw [held_S7, VR_v0, VR_v1, VR_ne m d (b := v2') (by decide) (by decide), VR_ne m d (b := v3') (by decide) (by decide), VR_ne m d (b := c') (by decide) (by decide),
    VR_ne m d (b := c0') (by decide) (by decide), VR_ne m d (b := c1') (by decide) (by decide)]

/-- After the one SparseCore call the core owes nothing more. -/
theorem tcSt_one (d : Dev nD) : ∃ (b : ℕ) (R : sProp 𝕄), ((K (F := F)).tcSt EH d 1 : sProp 𝕄)
    = iprop((∃ W, ⌜(K (F := F)).WBelow (SparseCore.T d) W b⌝ ∗ owes (SparseCore.T d) (0 : CellTallies nD τ sig (HIx 1)) W) ∗ R) := by
  unfold SparseCore.Cfg.tcSt
  rw [show (K (F := F)).Otc d 1 = 0 from Finset.sum_eq_zero fun q _ => if_neg (by omega)]
  exact ⟨_, _, rfl⟩

/-- The program: the SparseCore call, the pipelined call, the host's operations. -/
theorem hmain [∀ e, Nonempty (Elt F e)] (hpre : PreOK m) (ρ : Dev nD → PrngReg) (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  obtain ⟨b, R, hR⟩ := tcSt_one (F := F) d
  unfold main
  rw [wp_bind]
  iintro ⟨#Hctx, Hst, ⟨Hb, ⟨Hx, Ht, Ho, Hv1, Hv2, Hv3, Hc, Hc0, Hc1⟩, Hts, -⟩, HG⟩
  iapply (sc_call m κ d) $$ [Hst Hx Ho Hb Ht Hv1 Hv2 Hv3 Hc Hc0 Hc1 Hts HG]
  isplitr; · iexact Hctx
  isplitl [Hst]; · iexact Hst
  isplitl [Hx Ho]
  · isplitl [Hx]; · iexact Hx
    iexact Ho
  iintro ⟨Hst, Hx, Ho⟩
  rw [wp_bind]
  ihave Hst' := (Entails.of_eq hR) $$ Hst
  icases Hst' with ⟨⟨%W, %hW, HO⟩, Hst⟩
  iapply (tc_call d (xM m) (gM m) b) $$ [Hst Hx Ho Hb Ht Hv1 Hv2 Hv3 Hc Hc0 Hc1 Hts HG HO]
  isplitr [Hb Hx Hv1 Ht HO HG]
  · iintro ⟨Hb, Hr⟩
    unfold regSt
    icases Hr with ⟨Hx, Hv1, Ht, HO⟩
    iapply (host_ops d (VR m d)) $$ [Hst Hx Ho Hb Ht Hv1 Hv2 Hv3 Hc Hc0 Hc1 Hts HO]
    rw [held_VR]
    isplitl [Hb]; · iexact Hb
    isplitl [Ho Hv1 Hv2 Hv3 Hc Hc0 Hc1]
    · isplitl [Ho]; · iexact Ho
      isplitl [Hv1]; · iexact Hv1
      isplitl [Hv2]; · iexact Hv2
      isplitl [Hv3]; · iexact Hv3
      isplitl [Hc]; · iexact Hc
      isplitl [Hc0]; · iexact Hc0
      iexact Hc1
    iintro ⟨Hb, Hh⟩
    ihave Hh' := (Entails.of_eq (held_S7 d (VF (VR m d)))) $$ Hh
    icases Hh' with ⟨-, -, -, Hv3, -⟩
    isplitl [HO Hst]
    · rw [hR]
      isplitl [HO]
      · iexact HO
      iexact Hst
    isplitl [Hx Ht Hv3]
    · isplitl [Hx]; · iexact Hx
      isplitl [Ht]; · iexact Ht
      rw [VF_v3, VR_v0, VR_v1]
      iexact Hv3
    isplitl [Hb] <;> iassumption
  isplitl [Hb]; · iexact Hb
  isplitl [Hx Hv1 Ht HO]
  · unfold regSt
    isplitl [Hx]; · iexact Hx
    isplitl [Hv1]; · iexact Hv1
    isplitl [Ht]
    · rw [show m ((SparseCore.T d).loc main_arg1) = tabW from hpre d]; iexact Ht
    iexists W
    isplitr; · ipureintro; exact hW
    iexact HO
  isplitr
  · iapply (SparseCore.Cfg.ctx_levAts κ); iexact Hctx
  iexact HG

/-! ## The run -/

/-- What the claims read of a core's final state. -/
def fq (d : Dev nD) (s' : Phys nD τ sig (Elt F)) : Prop :=
  s'.mem.mem ((SparseCore.T d).loc main_v3) = resM m d ∧ s'.mem.mem (xLoc d) = m (xLoc d) ∧ s'.mem.mem ((SparseCore.T d).loc main_arg1) = tabW

/-- What the final state holds can be read off the arrays held at the end. -/
theorem hfin (d : Dev nD) (s' : Phys nD τ sig (Elt F)) : iprop(FIN m d ∗ SI s') ⊢ (⌜fq m d s'⌝ : sProp 𝕄) := by
  iintro ⟨⟨Hx, Ht, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%hx, HSI, -⟩
  ihave H := (persistent_entails_right (SI_pointsTo_agree (st := s') (ℓ := (SparseCore.T d).loc main_arg1) (I := Finset.univ) (q := fullShare) (f := tabW))) $$ [HSI Ht]
  · isplitl [HSI] <;> iassumption
  icases H with ⟨%ht, HSI, -⟩
  ihave H := (SI_pointsTo_agree (st := s') (ℓ := (SparseCore.T d).loc main_v3) (I := Finset.univ) (q := fullShare) (f := resM m d)) $$ [HSI Hr]
  · isplitl [HSI] <;> iassumption
  icases H with %hr
  ipureintro
  exact ⟨funext fun i => hr i (Finset.mem_univ i), funext fun i => hx i (Finset.mem_univ i), funext fun i => ht i (Finset.mem_univ i)⟩

def QC : PUnit × MemSt nD τ sig (Elt F) → Prop := fun r =>
  (∀ d : Dev nD, r.2.mem ((SparseCore.T d).loc main_v3) = resM m d ∧ r.2.mem (xLoc d) = m (xLoc d) ∧ r.2.mem ((SparseCore.T d).loc main_arg1) = tabW)
    ∧ r.2.sem = fun _ => 0

/-- The program from any memory whose table is in order: its result, the arguments unchanged, every semaphore at zero. -/
theorem run_main [∀ e, Nonempty (Elt F e)] (ρ : Dev nD → PrngReg) (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun d => G (F := F) d) (FIN m) (u₀ (F := F)) (sep_elim_left.trans (hu₀ m)) (hmain m hpre ρ) (fq m) (hfin m) (QC m) (fun _ h hz => ⟨h, hz⟩)

end Cert.Proof

end
-- ==== Proof.Same.lean ====
/-
  The kernel as printed for words and as printed for exact floats is one text: their body tables and threads agree.
-/
module

public import proofs.«01_k».proof.Defs
public import proofs.«01_k».proof.Proof.Gen.Kernel
public import proofs.«01_k».proof.Proof.Gen.KernelIdeal

@[expose] public section

set_option maxHeartbeats 4000000

noncomputable section

namespace Cert.Proof

open Idealize.ShloMosaic Idealize.SL.Sem

variable {F : FTy → Type} [FloatOps F]

/-- The kernels' own tables agree at every label. -/
theorem defs₀_eq : Cert.Kernel.defs₀ (F := F) = Cert.KernelIdeal.defs₀ (F := F) := by
  funext p l a
  have hl : l = (0 : Fin 2) ∨ l = (1 : Fin 2) := by
    rcases l with ⟨_ | _ | n, h⟩
    · exact .inl rfl
    · exact .inr rfl
    · exact absurd h (by show ¬ (n + 1 + 1 < 2); omega)
  rcases hl with rfl | rfl <;> rcases p with _ | _ | ⟨c, s⟩ <;> rfl

/-- So do the tables with the launches and the pipeline in them. -/
theorem defs_eq : Cert.Kernel.defs (F := F) = Cert.KernelIdeal.defs (F := F) := by
  have e : Cert.Kernel.defs (F := F)
      = (Cert.KernelIdeal.sc (F := F)).defs (Pipeline.defs Cert.KernelIdeal.pcfgs (Cert.Kernel.defs₀ (F := F))) := rfl
  rw [e, defs₀_eq]
  rfl

/-- And the threads. -/
theorem threads_eq : Cert.Kernel.threads (F := F) = Cert.KernelIdeal.threads (F := F) := rfl

/-- A run of the one text is a run of the other. -/
theorem run_same (σ) (Q) (h : θ_run (Cert.KernelIdeal.defs (F := F)) (Cert.KernelIdeal.threads (F := F)) σ Q) :
    θ_run (Cert.Kernel.defs (F := F)) (Cert.Kernel.threads (F := F)) σ Q := by
  rw [defs_eq, threads_eq]
  exact h

end Cert.Proof

end
-- ==== Proof.Frames.lean ====
/-
  The frames: the kernel's two from its run, where the precondition says that the table is the channels in order; and
  the reference's.
-/
module

public import proofs.«01_k».proof.Defs
public import proofs.«01_k».proof.Proof.Gen.Kernel
public import proofs.«01_k».proof.Proof.Gen.KernelIdeal
public import proofs.«01_k».proof.Proof.Gen.Pre_partition
public import proofs.«01_k».proof.Proof.Main
public import proofs.«01_k».proof.Proof.Same
public import proofs.«01_k».proof.Proof.Gen.ReferenceIdeal.Run
public import Idealize.ShloMosaic.Lib.ReduceAll
public import Idealize.ShloMosaic.Lib.StableHlo.Predicate

@[expose] public section

noncomputable section

namespace Cert.Proof

open Idealize.ShloMosaic Idealize.SL.Sem
open Cert.KernelIdeal

/-- The one index of the scalar shape. -/
instance : Subsingleton Cert.Pre_partition.S_.Idx := ⟨fun _ _ => funext fun a => a.elim0⟩

/-- An index below 192 as the one-axis shape has it. -/
def ix192 (n : ℕ) (h : n < 192) : Cert.Pre_partition.S192.Idx := fun a => ⟨n, by fin_cases a; exact h⟩

/-- The precondition, met, makes the table the channels in order. -/
theorem table_of_pre {F : FTy → Type} [FloatOps F] (x : FVec F S4x192x224x224 .f32) (t : S24x8.Idx → BitVec 32)
    (h : Cert.Pre_partition.fn (F := F) x t = fun _ => 1#1) : t = tabW := by
  funext i
  have h0 : (i 0).val < 24 := (i 0).isLt
  have h1 : (i 1).val < 8 := (i 1).isLt
  have e := congrFun h (fun a => a.elim0)
  dsimp only [Cert.Pre_partition.fn] at e
  have ei := Host.reduce_andi_all _ _ _ _ _ e i
  have e' := StableHlo.Predicate.cmpi_eq_iff.mp ei
  refine e'.trans ((shapeCast_apply _ _ i (ix192 ((i 0).val * 8 + (i 1).val) (by omega)) ?_).trans rfl)
  rw [Shape.rowMajor_val_one, Shape.rowMajor_val_two]
  rfl

/-- Both memories' tables, from the claims' precondition. -/
theorem preOK_ideal (m : (ℓ : Loc nD τ sig) → Buf (Elt Ideal) ℓ) (h : Cert.Pre_KernelIdeal m) : PreOK (F := Ideal) m :=
  fun d => table_of_pre _ _ (h d)

/-- The frame of the kernel at exact floats. -/
theorem frame_ideal : Cert.quiescent_KernelIdeal := fun m ρ hpre =>
  (θ_run Cert.KernelIdeal.defs _ _).mono
    (fun _ h => ⟨fun c => ⟨(h.1 c).2.1, (h.1 c).2.2.trans (preOK_ideal m hpre c).symm⟩, h.2⟩) (run_main (F := Ideal) m ρ (preOK_ideal m hpre))

/-- The same at words. -/
theorem preOK_bits (m : (ℓ : Loc Cert.Kernel.nD Cert.Kernel.τ Cert.Kernel.sig) → Buf (Elt Bits) ℓ) (h : Cert.Pre_Kernel m) : PreOK (F := Bits) m :=
  fun d => table_of_pre (F := Bits) _ _ (h d)

/-- The frame of the kernel at words: the programs of both floats have one text. -/
theorem frame_kernel : Cert.quiescent_Kernel := fun m ρ hpre =>
  run_same _ _ ((θ_run Cert.KernelIdeal.defs _ _).mono
    (fun _ h => ⟨fun c => ⟨(h.1 c).2.1, (h.1 c).2.2.trans (preOK_bits m hpre c).symm⟩, h.2⟩) (run_main (F := Bits) m ρ (preOK_bits m hpre)))

/-- The reference's frame: its host operations write none of the arguments and no counter. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

end Cert.Proof

end
-- ==== Proof.Take.lean ====
/-
  What the reference takes: the rows of the input at one column of the table, read at an index.
-/
module

public import proofs.«01_k».proof.Proof.Gen.ReferenceIdeal.Run
public import proofs.«01_k».proof.Proof.Table
public import Idealize.ShloMosaic.Lib.ReduceAll
public import Idealize.ShloMosaic.Lib.StableHlo.Predicate
public import Idealize.ShloMosaic.Lib.Pipeline.Value
public import Idealize.ShloMosaic.Lib.ValueIdxCore

@[expose] public section

noncomputable section

namespace Cert.Proof

open Idealize.ShloMosaic Idealize.SL.Sem
open Cert.ReferenceIdeal Cert.ReferenceIdeal.Facts₀ Cert.ReferenceIdeal.Facts

variable {F : FTy → Type} [FloatOps F]

/-- The gather's numbers, by a short name. -/
abbrev gd : GatherDims S4x192x224x224 S24x1 S4x24x224x224 := gather_S4x192x224x224_S24x1_S4x24x224x224_023_1_n_n_1_1_41224224

/-- A set's number as an index. -/
def cIx (n : Fin 24) : S24.Idx
  | 0 => n

/-- A set's number and a column as an index of the table. -/
def tIx (n : Fin 24) (j : Fin 8) : S24x8.Idx
  | 0 => n
  | 1 => j

/-- The index of the start indices that a set's number has. -/
def sIx (n : Fin 24) : S24x1.Idx
  | 0 => n
  | 1 => ⟨0, by decide⟩

/-- The gather keeps the image's coordinate. -/
theorem operandIdx_zero (j : S4x24x224x224.Idx) (v : IVec S24x1 32) : (gd.operandIdx j v (0 : Fin 4)).val = (j (0 : Fin 4)).val := by
  show 0 + 0 + (j (0 : Fin 4)).val = _
  omega

/-- The gather keeps the row's coordinate. -/
theorem operandIdx_two (j : S4x24x224x224.Idx) (v : IVec S24x1 32) : (gd.operandIdx j v (2 : Fin 4)).val = (j (2 : Fin 4)).val := by
  show 0 + 0 + (j (2 : Fin 4)).val = _
  omega

/-- The gather keeps the column's coordinate. -/
theorem operandIdx_three (j : S4x24x224x224.Idx) (v : IVec S24x1 32) : (gd.operandIdx j v (3 : Fin 4)).val = (j (3 : Fin 4)).val := by
  show 0 + 0 + (j (3 : Fin 4)).val = _
  omega

/-- The start index that an element of the result uses is its set's. -/
theorem siIdx_eq (j : S4x24x224x224.Idx) (c) : gd.siIdx j c = sIx (j (1 : Fin 4)) := by
  funext b
  have hc : c.val < 1 := c.isLt
  match b with
  | 0 => rfl
  | 1 => exact Fin.ext (by show c.val = 0; omega)

/-- The gather's channel is the start index's number, at most the last channel. -/
theorem operandIdx_one (j : S4x24x224x224.Idx) (v : IVec S24x1 32) :
    (gd.operandIdx j v (1 : Fin 4)).val = min (v (sIx (j (1 : Fin 4)))).toInt.toNat 191 := by
  show min (v (gd.siIdx j _)).toInt.toNat (192 - 1) + 0 + 0 = _
  rw [siIdx_eq]
  rfl

/-- A channel's number as a word: not negative, at most the last, and read back as it is. -/
theorem chan_word (k : Fin 192) : IntOp.cmpi .slt (BitVec.ofNat 32 k.val) 0#32 = 0#1 ∧ IntOp.cmpi .sge (BitVec.ofNat 32 k.val) 0#32 = 1#1
    ∧ IntOp.cmpi .sle (BitVec.ofNat 32 k.val) 191#32 = 1#1 ∧ (BitVec.ofNat 32 k.val).toInt.toNat = k.val := by
  revert k; decide

/-- Which start indices lie among the channels. -/
def inRange (v : IVec S24x1 32) : IVec S24 1 :=
  Host.reduce IntOp.andi (andi (cmpi .sge v (broadcastInDim S24x1 ![] bcast_S_S24x1 (constantI S_ 32 0#32))) (cmpi .sle v (broadcastInDim S24x1 ![0, 1] bcast_S1x1_S24x1_0_1 (broadcastInDim S1x1 ![1] bcast_S1_S1x1_1 (constantI S1 32 191#32))))) (constantI S_ 1 1#1) reducesTo_S24x1_S24_d1 h_S_

/-- The rows of `x` that start indices `v` name, the rows of an index out of range filled. -/
def taken (x : FVec F S4x192x224x224 .f32) (v : IVec S24x1 32) : FVec F S4x24x224x224 .f32 :=
  select (broadcastInDim S4x24x224x224 ![1] bcast_S24_S4x24x224x224_1 (inRange v)) (Host.gather gd x v) (broadcastInDim S4x24x224x224 ![] bcast_S_S4x24x224x224 (constant S_ .f32 0x7FC00000#32))

/-- Start indices that are channels' numbers take those channels. -/
theorem taken_apply (x : FVec F S4x192x224x224 .f32) (v : IVec S24x1 32) (k : Fin 24 → Fin 192)
    (hv : ∀ j : S24x1.Idx, v j = BitVec.ofNat 32 (k (j (0 : Fin 2))).val) (i : S4x24x224x224.Idx) :
    taken x v i = x (xIx (i (0 : Fin 4)).val (k (i (1 : Fin 4))).val (i (2 : Fin 4)).val (i (3 : Fin 4)).val) := by
  have h0 : (i (0 : Fin 4)).val < 4 := (i (0 : Fin 4)).isLt
  have h2 : (i (2 : Fin 4)).val < 224 := (i (2 : Fin 4)).isLt
  have h3 : (i (3 : Fin 4)).val < 224 := (i (3 : Fin 4)).isLt
  unfold taken
  rw [ValueIdx.select_apply]
  have hc : ∀ n, inRange v n = 1#1 :=
    fun n => Host.reduce_andi_one _ _ _ _ n rfl fun j => by
      obtain ⟨-, a, b, -⟩ := chan_word (k (j (0 : Fin 2)))
      show IntOp.andi (IntOp.cmpi .sge (v j) 0#32) (IntOp.cmpi .sle (v j) 191#32) = 1#1
      rw [hv j, a, b]
      rfl
  have hb : broadcastInDim S4x24x224x224 ![1] bcast_S24_S4x24x224x224_1 (inRange v) i = 1#1 := hc _
  rw [hb]
  show x (gd.operandIdx i v) = _
  congr 1
  funext a
  refine Fin.ext ?_
  match a with
  | 0 => exact (operandIdx_zero i v).trans (Nat.mod_eq_of_lt h0).symm
  | 1 =>
    refine (operandIdx_one i v).trans ?_
    rw [hv]
    have hk : (k (i (1 : Fin 4))).val < 192 := (k _).isLt
    refine (congrArg (min · 191) (chan_word (k (i (1 : Fin 4)))).2.2.2).trans ?_
    show min (k (i (1 : Fin 4))).val 191 = (k (i (1 : Fin 4))).val % 192
    omega
  | 2 => exact (operandIdx_two i v).trans (Nat.mod_eq_of_lt h2).symm
  | 3 => exact (operandIdx_three i v).trans (Nat.mod_eq_of_lt h3).symm

/-- Channel `8s + j`. -/
def chan (j : Fin 8) (s : Fin 24) : Fin 192 := ⟨s.val * 8 + j.val, by omega⟩

/-- A column of the table, a negative entry wrapped, as start indices. -/
def wrapped (c : IVec S24 32) : IVec S24x1 32 :=
  broadcastInDim S24x1 ![0] bcast_S24_S24x1_0 (select (cmpi .slt c (broadcastInDim S24 ![] bcast_S_S24 (constantI S_ 32 0#32))) (addi c (broadcastInDim S24 ![] bcast_S_S24 (constantI S_ 32 192#32))) c)

/-- Entries that are channels' numbers are left as they are. -/
theorem wrapped_apply (c : IVec S24 32) (k : Fin 24 → Fin 192) (hc : ∀ n : S24.Idx, c n = BitVec.ofNat 32 (k (n (0 : Fin 1))).val) (j : S24x1.Idx) :
    wrapped c j = BitVec.ofNat 32 (k (j (0 : Fin 2))).val := by
  unfold wrapped
  refine (broadcastInDim_apply _ _ _ j (cIx (j (0 : Fin 2))) ?_).trans ?_
  · intro a
    match a with
    | 0 => rfl
  · rw [ValueIdx.select_apply]
    have e := hc (cIx (j (0 : Fin 2)))
    have e2 : cmpi .slt c (broadcastInDim S24 ![] bcast_S_S24 (constantI S_ 32 0#32)) (cIx (j (0 : Fin 2))) = 0#1 := by
      show IntOp.cmpi .slt (c (cIx (j (0 : Fin 2)))) 0#32 = 0#1
      rw [e]
      exact (chan_word _).1
    rw [e2, e]
    rfl

/-- Column `j` of the channels in order. -/
theorem column_apply (j : Fin 8) (h : S24x8.Slices ![0, j.val] S24x1) (n : S24.Idx) :
    shapeCast S24 (extractStridedSlice S24x1 ![0, j.val] tabW h) shapeCasts_S24x1_S24 n = BitVec.ofNat 32 (chan j (n (0 : Fin 1))).val := by
  refine (shapeCast_apply _ _ n (sIx (n (0 : Fin 1))) ?_).trans ((extractStridedSlice_apply _ _ _ _ (tIx (n (0 : Fin 1)) j) ?_).trans rfl)
  · rw [Shape.rowMajor_val_one, Shape.rowMajor_val_two]
    show (n (0 : Fin 1)).val * 1 + 0 = (n (0 : Fin 1)).val
    omega
  · intro a
    match a with
    | 0 => exact (Nat.zero_add _).symm
    | 1 => rfl

/-- One take of the reference: the channel `8s + j` of every set `s`. -/
theorem take_col (x : FVec F S4x192x224x224 .f32) (j : Fin 8) (h : S24x8.Slices ![0, j.val] S24x1) (i : S4x24x224x224.Idx) :
    taken x (wrapped (shapeCast S24 (extractStridedSlice S24x1 ![0, j.val] tabW h) shapeCasts_S24x1_S24)) i
      = x (xIx (i (0 : Fin 4)).val ((i (1 : Fin 4)).val * 8 + j.val) (i (2 : Fin 4)).val (i (3 : Fin 4)).val) :=
  taken_apply x _ (chan j) (fun m => wrapped_apply _ _ (column_apply j h) m) i

end Cert.Proof

end
-- ==== Proof.Value.lean ====
/-
  The two results, each read at an index: the maximum over a set's eight channels.
-/
module

public import proofs.«01_k».proof.Proof.HostOps
public import proofs.«01_k».proof.Proof.Take
public import Idealize.ShloMosaic.Lib.WordCmp
public import Idealize.ShloMosaic.Lib.Pointwise.ShapeOpsCore
public import Idealize.ShloMosaic.PureOps.Ideal
public import Idealize.ShloMosaic.PureOps.Ideal.Laws

@[expose] public section

noncomputable section

namespace Cert.Proof

open Idealize.ShloMosaic Idealize.SL.Sem
open Cert.KernelIdeal Cert.KernelIdeal.Facts₀ Cert.KernelIdeal.Facts

/-- The result at an index: the maximum over the eight channels of its set. -/
def best {F : FTy → Type} [FloatOps F] (x : S4x192x224x224.Idx → F .f32) (i : S4x24x224x224.Idx) : F .f32 :=
  max8 fun j => x (xIx (i (0 : Fin 4)).val ((i (1 : Fin 4)).val * 8 + j) (i (2 : Fin 4)).val (i (3 : Fin 4)).val)

/-- The fold of the maximum over eight values, from the least. -/
theorem fold_eight {α : Type*} [LinearOrder α] [OrderBot α] (f : Fin 8 → α) :
    (Finset.univ : Finset (Fin 8)).fold max ⊥ f = max (max (max (max (max (max (max (f 0) (f 1)) (f 2)) (f 3)) (f 4)) (f 5)) (f 6)) (f 7) := by
  rw [show (Finset.univ : Finset (Fin 8)) = {0, 1, 2, 3, 4, 5, 6, 7} by decide]
  simp [Finset.fold_insert, max_assoc]

/-- The float word of −∞ is the least exact float. -/
theorem ofBits_least : (FloatOps.ofBits (F := Ideal) .f32 0xFF800000#32) = (⊥ : EReal) := by
  show Ideal.ofBits .f32 0xFF800000#32 = ⊥
  simp [Ideal.ofBits, Ideal.ieee]

/-- The pipelined part's maximum is the maximum over the eight channels, taken from the left. -/
theorem tcRow_eq (x : S4x192x224x224.Idx → Ideal .f32) (i : S96x224x224.Idx) :
    tcRow (F := Ideal) x i = plane (F := Ideal) x (i (0 : Fin 3)).val (i (1 : Fin 3)).val (i (2 : Fin 3)).val := by
  have h1 : (i (1 : Fin 3)).val < 224 := (i (1 : Fin 3)).isLt
  have h2 : (i (2 : Fin 3)).val < 224 := (i (2 : Fin 3)).isLt
  unfold tcRow tcMax
  refine (Ideal.multiReduction_maximumf_single _ _ _ _ _ _).trans ?_
  rw [ofBits_least]
  refine (fold_eight _).trans ?_
  have hl : ∀ k : Fin 8, blkP (F := Ideal) x (i (0 : Fin 3)).val
        (Shape.Reduces.lift (a := (1 : Fin 4)) reduces_S1x8x224x224_S1x224x224 (rowIx (i (1 : Fin 3)).val (i (2 : Fin 3)).val) k)
      = x (xIx ((i (0 : Fin 3)).val / 24) ((i (0 : Fin 3)).val % 24 * 8 + k.val) (i (1 : Fin 3)).val (i (2 : Fin 3)).val) := by
    intro k
    show x (xIx _ (_ * 8 + k.val) ((i (1 : Fin 3)).val % 224) ((i (2 : Fin 3)).val % 224)) = _
    rw [Nat.mod_eq_of_lt h1, Nat.mod_eq_of_lt h2]
  simp only [Function.comp]
  rw [hl 0, hl 1, hl 2, hl 3, hl 4, hl 5, hl 6, hl 7]
  rfl

/-- The pair of a set of an image, as an index of the rows of pairs. -/
def pairIx (i : S4x24x224x224.Idx) : S96x224x224.Idx
  | 0 => ⟨(i (0 : Fin 4)).val * 24 + (i (1 : Fin 4)).val, by
      have h0 : (i (0 : Fin 4)).val < 4 := (i (0 : Fin 4)).isLt
      have h1 : (i (1 : Fin 4)).val < 24 := (i (1 : Fin 4)).isLt
      show _ < 96; omega⟩
  | 1 => i (2 : Fin 4)
  | 2 => i (3 : Fin 4)

/-- The plane of a set of an image is the maximum over the set's channels. -/
theorem plane_pair {F : FTy → Type} [FloatOps F] (x : S4x192x224x224.Idx → F .f32) (i : S4x24x224x224.Idx) :
    plane x (pairIx i (0 : Fin 3)).val (i (2 : Fin 4)).val (i (3 : Fin 4)).val = best x i := by
  have h0 : (i (0 : Fin 4)).val < 4 := (i (0 : Fin 4)).isLt
  have h1 : (i (1 : Fin 4)).val < 24 := (i (1 : Fin 4)).isLt
  show max8 (fun j => x (xIx (((i (0 : Fin 4)).val * 24 + (i (1 : Fin 4)).val) / 24) (((i (0 : Fin 4)).val * 24 + (i (1 : Fin 4)).val) % 24 * 8 + j) _ _)) = _
  rw [show ((i (0 : Fin 4)).val * 24 + (i (1 : Fin 4)).val) / 24 = (i (0 : Fin 4)).val by omega,
    show ((i (0 : Fin 4)).val * 24 + (i (1 : Fin 4)).val) % 24 = (i (1 : Fin 4)).val by omega]
  rfl

/-- The SparseCore's planes fit at the start of the joined result. -/
theorem slices_zero : S96x224x224.Slices (fun _ => 0) S40x224x224 := updateFits_S96x224x224_S40x224x224

/-- The kernel's result at an index: either part's maximum over the set's channels. -/
theorem outM_apply (x : S4x192x224x224.Idx → Ideal .f32) (g : S96x224x224.Idx → Ideal .f32) (i : S4x24x224x224.Idx) :
    outM (F := Ideal) (tcOut x g) (oVal x) i = best (F := Ideal) x i := by
  have h2 : (i (2 : Fin 4)).val < 224 := (i (2 : Fin 4)).isLt
  have h3 : (i (3 : Fin 4)).val < 224 := (i (3 : Fin 4)).isLt
  unfold outM
  refine (shapeCast_apply _ _ i (pairIx i) ?_).trans ?_
  · rw [Shape.rowMajor_val_three, Shape.rowMajor_val_four]
    show (((i (0 : Fin 4)).val * 24 + (i (1 : Fin 4)).val) * 224 + (i (2 : Fin 4)).val) * 224 + (i (3 : Fin 4)).val = _
    rfl
  refine (congrFun (WordCmp.dynamicUpdateSlice_eq_update (tcOut x g) (oVal x) (fun _ => (0#32 : BitVec 32).toInt)
    updateFits_S96x224x224_S40x224x224 (fun _ => 0) slices_zero (fun _ => rfl)) (pairIx i)).trans ?_
  rw [updateSlice_apply]
  split
  · exact plane_pair x i
  · next hn =>
    have hp : 40 ≤ (pairIx i (0 : Fin 3)).val := by
      by_contra hlt
      refine hn fun a => ?_
      match a with
      | 0 => exact ⟨Nat.zero_le _, by show _ < 0 + 40; omega⟩
      | 1 => exact ⟨Nat.zero_le _, by show (i (2 : Fin 4)).val < 0 + 224; omega⟩
      | 2 => exact ⟨Nat.zero_le _, by show (i (3 : Fin 4)).val < 0 + 224; omega⟩
    exact (if_pos hp).trans ((tcRow_eq x _).trans (plane_pair x i))

end Cert.Proof

end
-- ==== Proof.Algebra.lean ====
/-
  The algebraic claim: both programs end with the maximum over each set's eight channels.
-/
module

public import proofs.«01_k».proof.Proof.Frames
public import proofs.«01_k».proof.Proof.Value

@[expose] public section

noncomputable section

namespace Cert.Proof

open Idealize.ShloMosaic Idealize.SL.Sem
open Cert.ReferenceIdeal Cert.ReferenceIdeal.Facts₀ Cert.ReferenceIdeal.Facts Cert.ReferenceIdeal.Value

variable {F : FTy → Type} [FloatOps F]

/-- One take of the reference, its column named. -/
theorem take_named (x : FVec F S4x192x224x224 .f32) (t : S24x8.Idx → BitVec 32) (ht : t = tabW) (c : IVec S24 32) (j : Fin 8) (h : S24x8.Slices ![0, j.val] S24x1)
    (hc : c = shapeCast S24 (extractStridedSlice S24x1 ![0, j.val] t h) shapeCasts_S24x1_S24) (i : S4x24x224x224.Idx) :
    taken x (wrapped c) i
      = x (xIx (i (0 : Fin 4)).val ((i (1 : Fin 4)).val * 8 + j.val) (i (2 : Fin 4)).val (i (3 : Fin 4)).val) := by
  subst ht
  subst hc
  exact take_col x j h i

/-- The reference's eight takes and their maximum. -/
theorem ref_best (x : FVec F S4x192x224x224 .f32) (t : S24x8.Idx → BitVec 32) (ht : t = tabW) (V : Valuation τ sig (Elt F))
    (h0 : V (Proc.devRef .tc main_arg0) = x) (h1 : V (Proc.devRef .tc main_arg1) = t) :
    maximumf (res_main_v26 V) (taken (V (Proc.devRef .tc main_arg0)) (wrapped (res_main_v28 V))) = best x := by
  subst h0
  subst h1
  funext i
  show FloatOps.maximumf (FloatOps.maximumf (FloatOps.maximumf (FloatOps.maximumf (FloatOps.maximumf (FloatOps.maximumf (FloatOps.maximumf
    (taken _ (wrapped (res_main_v1 V)) i) (taken _ (wrapped (res_main_v4 V)) i)) (taken _ (wrapped (res_main_v8 V)) i))
    (taken _ (wrapped (res_main_v12 V)) i)) (taken _ (wrapped (res_main_v16 V)) i)) (taken _ (wrapped (res_main_v20 V)) i))
    (taken _ (wrapped (res_main_v24 V)) i)) (taken _ (wrapped (res_main_v28 V)) i) = _
  rw [take_named _ _ ht (res_main_v1 V) 0 slices_S24x8_S24x1_0_0 rfl, take_named _ _ ht (res_main_v4 V) 1 slices_S24x8_S24x1_0_1 rfl,
    take_named _ _ ht (res_main_v8 V) 2 slices_S24x8_S24x1_0_2 rfl, take_named _ _ ht (res_main_v12 V) 3 slices_S24x8_S24x1_0_3 rfl,
    take_named _ _ ht (res_main_v16 V) 4 slices_S24x8_S24x1_0_4 rfl, take_named _ _ ht (res_main_v20 V) 5 slices_S24x8_S24x1_0_5 rfl,
    take_named _ _ ht (res_main_v24 V) 6 slices_S24x8_S24x1_0_6 rfl, take_named _ _ ht (res_main_v28 V) 7 slices_S24x8_S24x1_0_7 rfl]
  rfl

/-- Both programs end with the maximum over each set's channels. -/
theorem algebraic : Cert.algebraic_KernelIdeal_ReferenceIdeal := fun m g m' g' hpre hin =>
  ⟨fun c => best (F := Ideal) (xM m c),
    (θ_run Cert.KernelIdeal.defs _ _).mono
      (fun _ h c => ⟨(h.1 c).1.trans (funext fun i => outM_apply _ _ i), (h.1 c).2.1, (h.1 c).2.2.trans (preOK_ideal m hpre c).symm⟩)
      (run_main (F := Ideal) m g (preOK_ideal m hpre)),
    (θ_run Cert.ReferenceIdeal.defs _ _).mono
      (fun _ h c => ⟨(h c).1.trans (ref_best (F := Ideal) (xM m c) _ (preOK_ideal m hpre c) (StableHlo.launchContents m' c) (hin c).1 (hin c).2), (h c).2⟩)
      (Cert.ReferenceIdeal.Value.run (F := Ideal) m' g')⟩

end Cert.Proof

end
-- ==== Proof.lean ====
/-
  The claims, put together: the kernel's frames from its run, the reference's from its own, and the value from both.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_partition
public import proofs.«01_k».proof.Proof.Algebra

@[expose] public section

noncomputable section

namespace Cert.Proof

open Idealize.ShloMosaic Idealize.SL.Sem

/-- Everything that the certificate states. -/
theorem claim : Cert.Claim := ⟨Cert.Kernel.Gen.facts, Cert.KernelIdeal.Gen.facts, Cert.ReferenceIdeal.Gen.facts, Cert.Pre_partition.Gen.facts,
  frame_kernel, frame_ideal, frame_reference, fun m ρ _ => frame_reference m ρ trivial, trivial, algebraic⟩

end Cert.Proof

end
